-- ==== Defs.lean ====
def Pre_Kernel (m : (ℓ : Loc Cert.Kernel.nD Cert.Kernel.τ Cert.Kernel.sig) → Buf (Elt Bits) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7))
      ∧ r.2.sem = fun _ => 0)

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)) →
    ∃ (v0 : (c : Dev Cert.PostIdeal.nD) → Buf (Elt Ideal) ((c.tc : Thread Cert.PostIdeal.nD Cert.PostIdeal.τ).loc Cert.PostIdeal.main_v19)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v19) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v50) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)) →
    ∃ (v0 : (c : Dev Cert.InprojIdeal.nD) → Buf (Elt Ideal) ((c.tc : Thread Cert.InprojIdeal.nD Cert.InprojIdeal.τ).loc Cert.InprojIdeal.main_v32_0)) (v1 : (c : Dev Cert.InprojIdeal.nD) → Buf (Elt Ideal) ((c.tc : Thread Cert.InprojIdeal.nD Cert.InprojIdeal.τ).loc Cert.InprojIdeal.main_v32_1)) (v2 : (c : Dev Cert.InprojIdeal.nD) → Buf (Elt Ideal) ((c.tc : Thread Cert.InprojIdeal.nD Cert.InprojIdeal.τ).loc Cert.InprojIdeal.main_v32_2)) (v3 : (c : Dev Cert.InprojIdeal.nD) → Buf (Elt Ideal) ((c.tc : Thread Cert.InprojIdeal.nD Cert.InprojIdeal.τ).loc Cert.InprojIdeal.main_v32_3)) (v4 : (c : Dev Cert.InprojIdeal.nD) → Buf (Elt Ideal) ((c.tc : Thread Cert.InprojIdeal.nD Cert.InprojIdeal.τ).loc Cert.InprojIdeal.main_v32_4)) (v5 : (c : Dev Cert.InprojIdeal.nD) → Buf (Elt Ideal) ((c.tc : Thread Cert.InprojIdeal.nD Cert.InprojIdeal.τ).loc Cert.InprojIdeal.main_v32_5)) (v6 : (c : Dev Cert.InprojIdeal.nD) → Buf (Elt Ideal) ((c.tc : Thread Cert.InprojIdeal.nD Cert.InprojIdeal.τ).loc Cert.InprojIdeal.main_v32_6)) (v7 : (c : Dev Cert.InprojIdeal.nD) → Buf (Elt Ideal) ((c.tc : Thread Cert.InprojIdeal.nD Cert.InprojIdeal.τ).loc Cert.InprojIdeal.main_v32_7)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v32_0) = v0 c
          ∧ r.2.mem ((c.tc : Thread Cert.InprojIdeal.nD Cert.InprojIdeal.τ).loc Cert.InprojIdeal.main_v32_1) = v1 c
          ∧ r.2.mem ((c.tc : Thread Cert.InprojIdeal.nD Cert.InprojIdeal.τ).loc Cert.InprojIdeal.main_v32_2) = v2 c
          ∧ r.2.mem ((c.tc : Thread Cert.InprojIdeal.nD Cert.InprojIdeal.τ).loc Cert.InprojIdeal.main_v32_3) = v3 c
          ∧ r.2.mem ((c.tc : Thread Cert.InprojIdeal.nD Cert.InprojIdeal.τ).loc Cert.InprojIdeal.main_v32_4) = v4 c
          ∧ r.2.mem ((c.tc : Thread Cert.InprojIdeal.nD Cert.InprojIdeal.τ).loc Cert.InprojIdeal.main_v32_5) = v5 c
          ∧ r.2.mem ((c.tc : Thread Cert.InprojIdeal.nD Cert.InprojIdeal.τ).loc Cert.InprojIdeal.main_v32_6) = v6 c
          ∧ r.2.mem ((c.tc : Thread Cert.InprojIdeal.nD Cert.InprojIdeal.τ).loc Cert.InprojIdeal.main_v32_7) = v7 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v311) = v0 c
          ∧ r.2.mem ((c.tc : Thread Cert.InprojRefIdeal.nD Cert.InprojRefIdeal.τ).loc Cert.InprojRefIdeal.main_v289) = v1 c
          ∧ r.2.mem ((c.tc : Thread Cert.InprojRefIdeal.nD Cert.InprojRefIdeal.τ).loc Cert.InprojRefIdeal.main_v312) = v2 c
          ∧ r.2.mem ((c.tc : Thread Cert.InprojRefIdeal.nD Cert.InprojRefIdeal.τ).loc Cert.InprojRefIdeal.main_v313) = v3 c
          ∧ r.2.mem ((c.tc : Thread Cert.InprojRefIdeal.nD Cert.InprojRefIdeal.τ).loc Cert.InprojRefIdeal.main_v314) = v4 c
          ∧ r.2.mem ((c.tc : Thread Cert.InprojRefIdeal.nD Cert.InprojRefIdeal.τ).loc Cert.InprojRefIdeal.main_v315) = v5 c
          ∧ r.2.mem ((c.tc : Thread Cert.InprojRefIdeal.nD Cert.InprojRefIdeal.τ).loc Cert.InprojRefIdeal.main_v316) = v6 c
          ∧ r.2.mem ((c.tc : Thread Cert.InprojRefIdeal.nD Cert.InprojRefIdeal.τ).loc Cert.InprojRefIdeal.main_v298) = v7 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7))

def Claim : Prop :=
  ∃ (hKernel : Cert.Kernel.Facts) (hPost : Cert.Post.Facts) (hPostIdeal : Cert.PostIdeal.Facts) (hPostRefIdeal : Cert.PostRefIdeal.Facts) (hInproj : Cert.Inproj.Facts) (hInprojIdeal : Cert.InprojIdeal.Facts) (hInprojRefIdeal : Cert.InprojRefIdeal.Facts),
    quiescent_Kernel (hKernel := hKernel)
    ∧ quiescent_Post (hPost := hPost)
    ∧ quiescent_PostIdeal (hPostIdeal := hPostIdeal)
    ∧ quiescent_PostRefIdeal (hPostRefIdeal := hPostRefIdeal)
    ∧ quiescent_Inproj (hInproj := hInproj)
    ∧ quiescent_InprojIdeal (hInprojIdeal := hInprojIdeal)
    ∧ quiescent_InprojRefIdeal (hInprojRefIdeal := hInprojRefIdeal)
    ∧ preserves_Post_PostIdeal
    ∧ algebraic_PostIdeal_PostRefIdeal (hPostIdeal := hPostIdeal) (hPostRefIdeal := hPostRefIdeal)
    ∧ preserves_Inproj_InprojIdeal
    ∧ algebraic_InprojIdeal_InprojRefIdeal (hInprojIdeal := hInprojIdeal) (hInprojRefIdeal := hInprojRefIdeal)
-- ==== Kernel.lean ====
abbrev S8x512x2048 : Shape := ⟨3, ![8, 512, 2048]⟩
abbrev S8x8x2048 : Shape := ⟨3, ![8, 8, 2048]⟩
abbrev S8x2048x64 : Shape := ⟨3, ![8, 2048, 64]⟩
abbrev S8x2048x128 : Shape := ⟨3, ![8, 2048, 128]⟩
abbrev S8x8x80x256 : Shape := ⟨4, ![8, 8, 80, 256]⟩
abbrev S8x2048x512 : Shape := ⟨3, ![8, 2048, 512]⟩
abbrev S1x512x256 : Shape := ⟨3, ![1, 512, 256]⟩
abbrev S1x8x256 : Shape := ⟨3, ![1, 8, 256]⟩
abbrev S1x2048x64 : Shape := ⟨3, ![1, 2048, 64]⟩
abbrev S1x2048x128 : Shape := ⟨3, ![1, 2048, 128]⟩
abbrev S1x8x80x256 : Shape := ⟨4, ![1, 8, 80, 256]⟩
abbrev S1x256x512 : Shape := ⟨3, ![1, 256, 512]⟩
abbrev S8x256x256 : Shape := ⟨3, ![8, 256, 256]⟩
abbrev S8x80x256 : Shape := ⟨3, ![8, 80, 256]⟩
abbrev S8x128x256 : Shape := ⟨3, ![8, 128, 256]⟩
abbrev S8x8x256 : Shape := ⟨3, ![8, 8, 256]⟩
abbrev S256x256 : Shape := ⟨2, ![256, 256]⟩
abbrev S1x256x64 : Shape := ⟨3, ![1, 256, 64]⟩
abbrev S256x64 : Shape := ⟨2, ![256, 64]⟩
abbrev S1x64x256 : Shape := ⟨3, ![1, 64, 256]⟩
abbrev S64x256 : Shape := ⟨2, ![64, 256]⟩
abbrev S1x1x256 : Shape := ⟨3, ![1, 1, 256]⟩
abbrev S1x256 : Shape := ⟨2, ![1, 256]⟩
abbrev S1x256x256 : Shape := ⟨3, ![1, 256, 256]⟩
abbrev S8x256 : Shape := ⟨2, ![8, 256]⟩
abbrev S16x256 : Shape := ⟨2, ![16, 256]⟩
abbrev S1x16x256 : Shape := ⟨3, ![1, 16, 256]⟩
abbrev S2x16x256 : Shape := ⟨3, ![2, 16, 256]⟩
abbrev S16x16x256 : Shape := ⟨3, ![16, 16, 256]⟩
abbrev S1x128x256 : Shape := ⟨3, ![1, 128, 256]⟩
abbrev S128x256 : Shape := ⟨2, ![128, 256]⟩
abbrev S8x16x256 : Shape := ⟨3, ![8, 16, 256]⟩
abbrev S16x128 : Shape := ⟨2, ![16, 128]⟩
abbrev S1x128x128 : Shape := ⟨3, ![1, 128, 128]⟩
abbrev S128x128 : Shape := ⟨2, ![128, 128]⟩
abbrev S1x16x128 : Shape := ⟨3, ![1, 16, 128]⟩
abbrev S8x16x128 : Shape := ⟨3, ![8, 16, 128]⟩
abbrev S2x8x256 : Shape := ⟨3, ![2, 8, 256]⟩
abbrev S32x8x256 : Shape := ⟨3, ![32, 8, 256]⟩
abbrev S16x2x8x256 : Shape := ⟨4, ![16, 2, 8, 256]⟩
abbrev S16x8x256 : Shape := ⟨3, ![16, 8, 256]⟩
abbrev S8x2x8x256 : Shape := ⟨4, ![8, 2, 8, 256]⟩
abbrev S2x8x128 : Shape := ⟨3, ![2, 8, 128]⟩
abbrev S8x128 : Shape := ⟨2, ![8, 128]⟩
abbrev S16x8x128 : Shape := ⟨3, ![16, 8, 128]⟩
abbrev S1x8x128 : Shape := ⟨3, ![1, 8, 128]⟩
abbrev S8x2x8x128 : Shape := ⟨4, ![8, 2, 8, 128]⟩
abbrev S1 : Shape := ⟨1, ![1]⟩
abbrev S1x1x1 : Shape := ⟨3, ![1, 1, 1]⟩
abbrev S1x256x128 : Shape := ⟨3, ![1, 256, 128]⟩
abbrev S256x128 : Shape := ⟨2, ![256, 128]⟩
abbrev S1x1x80x256 : Shape := ⟨4, ![1, 1, 80, 256]⟩
abbrev S80x256 : Shape := ⟨2, ![80, 256]⟩
abbrev S1x80x256 : Shape := ⟨3, ![1, 80, 256]⟩
abbrev S10x8x256 : Shape := ⟨3, ![10, 8, 256]⟩

abbrev nBuf : Space → Nat
  | .hbm => 7
  | .vmem => 23
  | .smem => 0
  | _ => 0

abbrev bufTy : (tb : Table) → Fin (tcTables nBuf tb) → BufTy
  | .hbm, ⟨0, _⟩ => ⟨S8x512x2048, .bf16⟩
  | .hbm, ⟨1, _⟩ => ⟨S8x8x2048, .f32⟩
  | .hbm, ⟨2, _⟩ => ⟨S8x2048x64, .bf16⟩
  | .hbm, ⟨3, _⟩ => ⟨S8x512x2048, .bf16⟩
  | .hbm, ⟨4, _⟩ => ⟨S8x2048x128, .bf16⟩
  | .hbm, ⟨5, _⟩ => ⟨S8x8x80x256, .bf16⟩
  | .hbm, ⟨6, _⟩ => ⟨S8x2048x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x8x256, .f32⟩
  | .local _ .vmem, ⟨3, _⟩ => ⟨S1x8x256, .f32⟩
  | .local _ .vmem, ⟨4, _⟩ => ⟨S1x2048x64, .bf16⟩
  | .local _ .vmem, ⟨5, _⟩ => ⟨S1x2048x64, .bf16⟩
  | .local _ .vmem, ⟨6, _⟩ => ⟨S1x512x256, .bf16⟩
  | .local _ .vmem, ⟨7, _⟩ => ⟨S1x512x256, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x8x80x256, .bf16⟩
  | .local _ .vmem, ⟨11, _⟩ => ⟨S1x8x80x256, .bf16⟩
  | .local _ .vmem, ⟨12, _⟩ => ⟨S1x256x512, .bf16⟩
  | .local _ .vmem, ⟨13, _⟩ => ⟨S1x256x512, .bf16⟩
  | .local _ .vmem, ⟨14, _⟩ => ⟨S8x256x256, .f32⟩
  | .local _ .vmem, ⟨15, _⟩ => ⟨S8x256x256, .bf16⟩
  | .local _ .vmem, ⟨16, _⟩ => ⟨S8x256x256, .f32⟩
  | .local _ .vmem, ⟨17, _⟩ => ⟨S8x80x256, .f32⟩
  | .local _ .vmem, ⟨18, _⟩ => ⟨S8x128x256, .bf16⟩
  | .local _ .vmem, ⟨19, _⟩ => ⟨S8x8x256, .f32⟩
  | .local _ .vmem, ⟨20, _⟩ => ⟨S8x8x256, .f32⟩
  | .local _ .vmem, ⟨21, _⟩ => ⟨S8x256x256, .f32⟩
  | .local _ .vmem, ⟨22, _⟩ => ⟨S8x256x256, .bf16⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![8, 8], ![false, false]⟩

@[reducible] def k0_t1_loop (i : grid0.Coords) : Scf.Loop 32 :=
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let c1_i32_2 : BitVec 32 := 1#32
  ⟨c0_i32_0, v10, c1_i32_2⟩
def k0_mult1 (i : grid0.Coords) (k0_t1 : Fin (k0_t1_loop i).trips) : BitVec 32 :=
  let c0_i32_0 : BitVec 32 := 0#32
  let c1_i32_2 : BitVec 32 := 1#32
  let arg18 : BitVec 32 := Scf.iv c0_i32_0 c1_i32_2 k0_t1
  let c256_i32_283 : BitVec 32 := 256#32
  let v475 : BitVec 32 := Scalar.muli arg18 c256_i32_283
  v475
def k0_off1 (i : grid0.Coords) (k0_t1 : Fin (k0_t1_loop i).trips) : Fin 3 → Nat :=
  let c0_284 : Index := 0#32
  let c0_i32_0 : BitVec 32 := 0#32
  let c1_i32_2 : BitVec 32 := 1#32
  let arg18 : BitVec 32 := Scf.iv c0_i32_0 c1_i32_2 k0_t1
  let c256_i32_283 : BitVec 32 := 256#32
  let v475 : BitVec 32 := Scalar.muli arg18 c256_i32_283
  let v476 : BitVec 32 := v475
  let v477 : Index := Scalar.indexCast v476
  let c0_285 : Index := 0#32
  ![0, v477.toNat, 0]
def k0_off2 (i : grid0.Coords) (k0_t1 : Fin (k0_t1_loop i).trips) : Fin 3 → Nat :=
  let c0_i32_0 : BitVec 32 := 0#32
  let c1_i32_2 : BitVec 32 := 1#32
  let arg18 : BitVec 32 := Scf.iv c0_i32_0 c1_i32_2 k0_t1
  let v567 : Index := Scalar.indexCast arg18
  let c0_353 : Index := 0#32
  let c0_354 : Index := 0#32
  ![v567.toNat, 0, 0]
@[reducible] def k0_t2_loop (i : grid0.Coords) : Scf.Loop 32 :=
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let v7 : BitVec 32 := Scalar.addi c0_i32_0 v6
  let c1_i32_3 : BitVec 32 := 1#32
  ⟨v10, v7, c1_i32_3⟩
def k0_mult2 (i : grid0.Coords) (k0_t2 : Fin (k0_t2_loop i).trips) : BitVec 32 :=
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let c1_i32_3 : BitVec 32 := 1#32
  let arg18 : BitVec 32 := Scf.iv v10 c1_i32_3 k0_t2
  let c256_i32_283 : BitVec 32 := 256#32
  let v475 : BitVec 32 := Scalar.muli arg18 c256_i32_283
  v475
def k0_off3 (i : grid0.Coords) (k0_t2 : Fin (k0_t2_loop i).trips) : Fin 3 → Nat :=
  let c0_284 : Index := 0#32
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let c1_i32_3 : BitVec 32 := 1#32
  let arg18 : BitVec 32 := Scf.iv v10 c1_i32_3 k0_t2
  let c256_i32_283 : BitVec 32 := 256#32
  let v475 : BitVec 32 := Scalar.muli arg18 c256_i32_283
  let v476 : BitVec 32 := v475
  let v477 : Index := Scalar.indexCast v476
  let c0_285 : Index := 0#32
  ![0, v477.toNat, 0]
def k0_off4 (i : grid0.Coords) (k0_t2 : Fin (k0_t2_loop i).trips) : Fin 3 → Nat :=
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let c1_i32_3 : BitVec 32 := 1#32
  let arg18 : BitVec 32 := Scf.iv v10 c1_i32_3 k0_t2
  let v567 : Index := Scalar.indexCast arg18
  let c0_353 : Index := 0#32
  let c0_354 : Index := 0#32
  ![v567.toNat, 0, 0]
@[reducible] def k0_t3_loop (i : grid0.Coords) : Scf.Loop 32 :=
  let c0_i32_8 : BitVec 32 := 0#32
  let c16_i32 : BitVec 32 := 16#32
  let arg1 : BitVec 32 := BitVec.ofNat 32 (i 1).val
  let c0_i32_4 : BitVec 32 := 0#32
  let v11 : BitVec 1 := Scalar.cmpi .eq arg1 c0_i32_4
  let v_true : BitVec 1 := 1#1
  let v12 : BitVec 1 := Scalar.andi v11 v_true
  let c0_i32_5 : BitVec 32 := 0#32
  let c1_i32_6 : BitVec 32 := 1#32
  let v13 : BitVec 32 := Scalar.select v12 c0_i32_5 c1_i32_6
  let v14 : BitVec 32 := Scalar.muli c16_i32 v13
  let v16 : BitVec 32 := Scalar.subi v14 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_10 : BitVec 32 := 1#32
  ⟨c0_i32_8, v20, c1_i32_10⟩
@[reducible] def k0_t4_loop (i : grid0.Coords) : Scf.Loop 32 :=
  let c0_i32_292 : BitVec 32 := 0#32
  let arg1 : BitVec 32 := BitVec.ofNat 32 (i 1).val
  let v495 : BitVec 32 := Scalar.subi arg1 c0_i32_292
  let c1_i32_293 : BitVec 32 := 1#32
  let v497 : BitVec 32 := Scalar.divsi v495 c1_i32_293
  let v498 : BitVec 32 := Scalar.muli v497 c1_i32_293
  let v499 : BitVec 32 := Scalar.addi c0_i32_292 v498
  let c1_i32_294 : BitVec 32 := 1#32
  ⟨c0_i32_292, v499, c1_i32_294⟩
def k0_off5 (i : grid0.Coords) (k0_t4 : Fin (k0_t4_loop i).trips) : Fin 3 → Nat :=
  let c0_i32_292 : BitVec 32 := 0#32
  let c1_i32_294 : BitVec 32 := 1#32
  let arg20 : BitVec 32 := Scf.iv c0_i32_292 c1_i32_294 k0_t4
  let v630 : Index := Scalar.indexCast arg20
  let c0_336 : Index := 0#32
  let c0_337 : Index := 0#32
  ![v630.toNat, 0, 0]
@[reducible] def k0_t5_loop (i : grid0.Coords) : Scf.Loop 32 :=
  let c0_i32_292 : BitVec 32 := 0#32
  let arg1 : BitVec 32 := BitVec.ofNat 32 (i 1).val
  let v495 : BitVec 32 := Scalar.subi arg1 c0_i32_292
  let c1_i32_293 : BitVec 32 := 1#32
  let v497 : BitVec 32 := Scalar.divsi v495 c1_i32_293
  let v498 : BitVec 32 := Scalar.muli v497 c1_i32_293
  let v499 : BitVec 32 := Scalar.addi c0_i32_292 v498
  let v496 : BitVec 32 := Scalar.addi c0_i32_292 v495
  let c1_i32_295 : BitVec 32 := 1#32
  ⟨v499, v496, c1_i32_295⟩
def k0_off6 (i : grid0.Coords) (k0_t5 : Fin (k0_t5_loop i).trips) : Fin 3 → Nat :=
  let c0_i32_292 : BitVec 32 := 0#32
  let arg1 : BitVec 32 := BitVec.ofNat 32 (i 1).val
  let v495 : BitVec 32 := Scalar.subi arg1 c0_i32_292
  let c1_i32_293 : BitVec 32 := 1#32
  let v497 : BitVec 32 := Scalar.divsi v495 c1_i32_293
  let v498 : BitVec 32 := Scalar.muli v497 c1_i32_293
  let v499 : BitVec 32 := Scalar.addi c0_i32_292 v498
  let c1_i32_295 : BitVec 32 := 1#32
  let arg20 : BitVec 32 := Scf.iv v499 c1_i32_295 k0_t5
  let v630 : Index := Scalar.indexCast arg20
  let c0_336 : Index := 0#32
  let c0_337 : Index := 0#32
  ![v630.toNat, 0, 0]
def k0_off7 (i : grid0.Coords) : Fin 3 → Nat :=
  let arg1 : BitVec 32 := BitVec.ofNat 32 (i 1).val
  let v507 : Index := Scalar.indexCast arg1
  let c0_296 : Index := 0#32
  let c0_297 : Index := 0#32
  ![v507.toNat, 0, 0]
def k0_off8 (i : grid0.Coords) : Fin 3 → Nat :=
  let arg1 : BitVec 32 := BitVec.ofNat 32 (i 1).val
  let v561 : Index := Scalar.indexCast arg1
  let c128_314 : Index := 128#32
  let c128_315 : Index := 128#32
  ![v561.toNat, 128, 128]
@[reducible] def k0_t6_loop (i : grid0.Coords) : Scf.Loop 32 :=
  let c0_i32_8 : BitVec 32 := 0#32
  let c16_i32 : BitVec 32 := 16#32
  let arg1 : BitVec 32 := BitVec.ofNat 32 (i 1).val
  let c0_i32_4 : BitVec 32 := 0#32
  let v11 : BitVec 1 := Scalar.cmpi .eq arg1 c0_i32_4
  let v_true : BitVec 1 := 1#1
  let v12 : BitVec 1 := Scalar.andi v11 v_true
  let c0_i32_5 : BitVec 32 := 0#32
  let c1_i32_6 : BitVec 32 := 1#32
  let v13 : BitVec 32 := Scalar.select v12 c0_i32_5 c1_i32_6
  let v14 : BitVec 32 := Scalar.muli c16_i32 v13
  let v16 : BitVec 32 := Scalar.subi v14 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let v17 : BitVec 32 := Scalar.addi c0_i32_8 v16
  let c1_i32_11 : BitVec 32 := 1#32
  ⟨v20, v17, c1_i32_11⟩
@[reducible] def k0_t7_loop (i : grid0.Coords) : Scf.Loop 32 :=
  let c0_i32_292 : BitVec 32 := 0#32
  let arg1 : BitVec 32 := BitVec.ofNat 32 (i 1).val
  let v495 : BitVec 32 := Scalar.subi arg1 c0_i32_292
  let c1_i32_293 : BitVec 32 := 1#32
  let v497 : BitVec 32 := Scalar.divsi v495 c1_i32_293
  let v498 : BitVec 32 := Scalar.muli v497 c1_i32_293
  let v499 : BitVec 32 := Scalar.addi c0_i32_292 v498
  let c1_i32_294 : BitVec 32 := 1#32
  ⟨c0_i32_292, v499, c1_i32_294⟩
def k0_off9 (i : grid0.Coords) (k0_t7 : Fin (k0_t7_loop i).trips) : Fin 3 → Nat :=
  let c0_i32_292 : BitVec 32 := 0#32
  let c1_i32_294 : BitVec 32 := 1#32
  let arg20 : BitVec 32 := Scf.iv c0_i32_292 c1_i32_294 k0_t7
  let v630 : Index := Scalar.indexCast arg20
  let c0_336 : Index := 0#32
  let c0_337 : Index := 0#32
  ![v630.toNat, 0, 0]
@[reducible] def k0_t8_loop (i : grid0.Coords) : Scf.Loop 32 :=
  let c0_i32_292 : BitVec 32 := 0#32
  let arg1 : BitVec 32 := BitVec.ofNat 32 (i 1).val
  let v495 : BitVec 32 := Scalar.subi arg1 c0_i32_292
  let c1_i32_293 : BitVec 32 := 1#32
  let v497 : BitVec 32 := Scalar.divsi v495 c1_i32_293
  let v498 : BitVec 32 := Scalar.muli v497 c1_i32_293
  let v499 : BitVec 32 := Scalar.addi c0_i32_292 v498
  let v496 : BitVec 32 := Scalar.addi c0_i32_292 v495
  let c1_i32_295 : BitVec 32 := 1#32
  ⟨v499, v496, c1_i32_295⟩
def k0_off10 (i : grid0.Coords) (k0_t8 : Fin (k0_t8_loop i).trips) : Fin 3 → Nat :=
  let c0_i32_292 : BitVec 32 := 0#32
  let arg1 : BitVec 32 := BitVec.ofNat 32 (i 1).val
  let v495 : BitVec 32 := Scalar.subi arg1 c0_i32_292
  let c1_i32_293 : BitVec 32 := 1#32
  let v497 : BitVec 32 := Scalar.divsi v495 c1_i32_293
  let v498 : BitVec 32 := Scalar.muli v497 c1_i32_293
  let v499 : BitVec 32 := Scalar.addi c0_i32_292 v498
  let c1_i32_295 : BitVec 32 := 1#32
  let arg20 : BitVec 32 := Scf.iv v499 c1_i32_295 k0_t8
  let v630 : Index := Scalar.indexCast arg20
  let c0_336 : Index := 0#32
  let c0_337 : Index := 0#32
  ![v630.toNat, 0, 0]
def k0_off11 (i : grid0.Coords) : Fin 3 → Nat :=
  let arg1 : BitVec 32 := BitVec.ofNat 32 (i 1).val
  let v507 : Index := Scalar.indexCast arg1
  let c0_296 : Index := 0#32
  let c0_297 : Index := 0#32
  ![v507.toNat, 0, 0]
def k0_off12 (i : grid0.Coords) : Fin 3 → Nat :=
  let arg1 : BitVec 32 := BitVec.ofNat 32 (i 1).val
  let v561 : Index := Scalar.indexCast arg1
  let c128_314 : Index := 128#32
  let c128_315 : Index := 128#32
  ![v561.toNat, 128, 128]
@[reducible] def k0_t9_loop (i : grid0.Coords) : Scf.Loop 32 :=
  let c0_i32_17 : BitVec 32 := 0#32
  let c17_i32 : BitVec 32 := 17#32
  let arg1 : BitVec 32 := BitVec.ofNat 32 (i 1).val
  let c0_i32_4 : BitVec 32 := 0#32
  let v11 : BitVec 1 := Scalar.cmpi .eq arg1 c0_i32_4
  let v_true : BitVec 1 := 1#1
  let v12 : BitVec 1 := Scalar.andi v11 v_true
  let c0_i32_5 : BitVec 32 := 0#32
  let c1_i32_6 : BitVec 32 := 1#32
  let v13 : BitVec 32 := Scalar.select v12 c0_i32_5 c1_i32_6
  let v45 : BitVec 32 := Scalar.muli c17_i32 v13
  let v48 : BitVec 32 := Scalar.subi v45 c0_i32_17
  let c1_i32_18 : BitVec 32 := 1#32
  let v50 : BitVec 32 := Scalar.divsi v48 c1_i32_18
  let v51 : BitVec 32 := Scalar.muli v50 c1_i32_18
  let v52 : BitVec 32 := Scalar.addi c0_i32_17 v51
  let c1_i32_19 : BitVec 32 := 1#32
  ⟨c0_i32_17, v52, c1_i32_19⟩
@[reducible] def k0_t10_loop (i : grid0.Coords) : Scf.Loop 32 :=
  let c0_i32_288 : BitVec 32 := 0#32
  let arg1 : BitVec 32 := BitVec.ofNat 32 (i 1).val
  let v487 : BitVec 32 := Scalar.subi arg1 c0_i32_288
  let c1_i32_289 : BitVec 32 := 1#32
  let v489 : BitVec 32 := Scalar.divsi v487 c1_i32_289
  let v490 : BitVec 32 := Scalar.muli v489 c1_i32_289
  let v491 : BitVec 32 := Scalar.addi c0_i32_288 v490
  let c1_i32_290 : BitVec 32 := 1#32
  ⟨c0_i32_288, v491, c1_i32_290⟩
def k0_off13 (i : grid0.Coords) (k0_t10 : Fin (k0_t10_loop i).trips) : Fin 3 → Nat :=
  let c0_i32_288 : BitVec 32 := 0#32
  let c1_i32_290 : BitVec 32 := 1#32
  let arg21 : BitVec 32 := Scf.iv c0_i32_288 c1_i32_290 k0_t10
  let v531 : Index := Scalar.indexCast arg21
  let c0_303 : Index := 0#32
  let c0_304 : Index := 0#32
  ![v531.toNat, 0, 0]
@[reducible] def k0_t11_loop (i : grid0.Coords) : Scf.Loop 32 :=
  let c0_i32_288 : BitVec 32 := 0#32
  let arg1 : BitVec 32 := BitVec.ofNat 32 (i 1).val
  let v487 : BitVec 32 := Scalar.subi arg1 c0_i32_288
  let c1_i32_289 : BitVec 32 := 1#32
  let v489 : BitVec 32 := Scalar.divsi v487 c1_i32_289
  let v490 : BitVec 32 := Scalar.muli v489 c1_i32_289
  let v491 : BitVec 32 := Scalar.addi c0_i32_288 v490
  let v488 : BitVec 32 := Scalar.addi c0_i32_288 v487
  let c1_i32_291 : BitVec 32 := 1#32
  ⟨v491, v488, c1_i32_291⟩
def k0_off14 (i : grid0.Coords) (k0_t11 : Fin (k0_t11_loop i).trips) : Fin 3 → Nat :=
  let c0_i32_288 : BitVec 32 := 0#32
  let arg1 : BitVec 32 := BitVec.ofNat 32 (i 1).val
  let v487 : BitVec 32 := Scalar.subi arg1 c0_i32_288
  let c1_i32_289 : BitVec 32 := 1#32
  let v489 : BitVec 32 := Scalar.divsi v487 c1_i32_289
  let v490 : BitVec 32 := Scalar.muli v489 c1_i32_289
  let v491 : BitVec 32 := Scalar.addi c0_i32_288 v490
  let c1_i32_291 : BitVec 32 := 1#32
  let arg21 : BitVec 32 := Scf.iv v491 c1_i32_291 k0_t11
  let v531 : Index := Scalar.indexCast arg21
  let c0_303 : Index := 0#32
  let c0_304 : Index := 0#32
  ![v531.toNat, 0, 0]
def k0_off15 (i : grid0.Coords) : Fin 3 → Nat :=
  let arg1 : BitVec 32 := BitVec.ofNat 32 (i 1).val
  let v494 : Index := Scalar.indexCast arg1
  let c0_292 : Index := 0#32
  let c0_293 : Index := 0#32
  ![v494.toNat, 0, 0]
def k0_off16 (i : grid0.Coords) : Fin 3 → Nat :=
  let arg1 : BitVec 32 := BitVec.ofNat 32 (i 1).val
  let v506 : Index := Scalar.indexCast arg1
  let c128_295 : Index := 128#32
  let c128_296 : Index := 128#32
  ![v506.toNat, 128, 128]
@[reducible] def k0_t12_loop (i : grid0.Coords) : Scf.Loop 32 :=
  let c0_i32_17 : BitVec 32 := 0#32
  let c17_i32 : BitVec 32 := 17#32
  let arg1 : BitVec 32 := BitVec.ofNat 32 (i 1).val
  let c0_i32_4 : BitVec 32 := 0#32
  let v11 : BitVec 1 := Scalar.cmpi .eq arg1 c0_i32_4
  let v_true : BitVec 1 := 1#1
  let v12 : BitVec 1 := Scalar.andi v11 v_true
  let c0_i32_5 : BitVec 32 := 0#32
  let c1_i32_6 : BitVec 32 := 1#32
  let v13 : BitVec 32 := Scalar.select v12 c0_i32_5 c1_i32_6
  let v45 : BitVec 32 := Scalar.muli c17_i32 v13
  let v48 : BitVec 32 := Scalar.subi v45 c0_i32_17
  let c1_i32_18 : BitVec 32 := 1#32
  let v50 : BitVec 32 := Scalar.divsi v48 c1_i32_18
  let v51 : BitVec 32 := Scalar.muli v50 c1_i32_18
  let v52 : BitVec 32 := Scalar.addi c0_i32_17 v51
  let v49 : BitVec 32 := Scalar.addi c0_i32_17 v48
  let c1_i32_20 : BitVec 32 := 1#32
  ⟨v52, v49, c1_i32_20⟩
@[reducible] def k0_t13_loop (i : grid0.Coords) : Scf.Loop 32 :=
  let c0_i32_288 : BitVec 32 := 0#32
  let arg1 : BitVec 32 := BitVec.ofNat 32 (i 1).val
  let v487 : BitVec 32 := Scalar.subi arg1 c0_i32_288
  let c1_i32_289 : BitVec 32 := 1#32
  let v489 : BitVec 32 := Scalar.divsi v487 c1_i32_289
  let v490 : BitVec 32 := Scalar.muli v489 c1_i32_289
  let v491 : BitVec 32 := Scalar.addi c0_i32_288 v490
  let c1_i32_290 : BitVec 32 := 1#32
  ⟨c0_i32_288, v491, c1_i32_290⟩
def k0_off17 (i : grid0.Coords) (k0_t13 : Fin (k0_t13_loop i).trips) : Fin 3 → Nat :=
  let c0_i32_288 : BitVec 32 := 0#32
  let c1_i32_290 : BitVec 32 := 1#32
  let arg21 : BitVec 32 := Scf.iv c0_i32_288 c1_i32_290 k0_t13
  let v531 : Index := Scalar.indexCast arg21
  let c0_303 : Index := 0#32
  let c0_304 : Index := 0#32
  ![v531.toNat, 0, 0]
@[reducible] def k0_t14_loop (i : grid0.Coords) : Scf.Loop 32 :=
  let c0_i32_288 : BitVec 32 := 0#32
  let arg1 : BitVec 32 := BitVec.ofNat 32 (i 1).val
  let v487 : BitVec 32 := Scalar.subi arg1 c0_i32_288
  let c1_i32_289 : BitVec 32 := 1#32
  let v489 : BitVec 32 := Scalar.divsi v487 c1_i32_289
  let v490 : BitVec 32 := Scalar.muli v489 c1_i32_289
  let v491 : BitVec 32 := Scalar.addi c0_i32_288 v490
  let v488 : BitVec 32 := Scalar.addi c0_i32_288 v487
  let c1_i32_291 : BitVec 32 := 1#32
  ⟨v491, v488, c1_i32_291⟩
def k0_off18 (i : grid0.Coords) (k0_t14 : Fin (k0_t14_loop i).trips) : Fin 3 → Nat :=
  let c0_i32_288 : BitVec 32 := 0#32
  let arg1 : BitVec 32 := BitVec.ofNat 32 (i 1).val
  let v487 : BitVec 32 := Scalar.subi arg1 c0_i32_288
  let c1_i32_289 : BitVec 32 := 1#32
  let v489 : BitVec 32 := Scalar.divsi v487 c1_i32_289
  let v490 : BitVec 32 := Scalar.muli v489 c1_i32_289
  let v491 : BitVec 32 := Scalar.addi c0_i32_288 v490
  let c1_i32_291 : BitVec 32 := 1#32
  let arg21 : BitVec 32 := Scf.iv v491 c1_i32_291 k0_t14
  let v531 : Index := Scalar.indexCast arg21
  let c0_303 : Index := 0#32
  let c0_304 : Index := 0#32
  ![v531.toNat, 0, 0]
def k0_off19 (i : grid0.Coords) : Fin 3 → Nat :=
  let arg1 : BitVec 32 := BitVec.ofNat 32 (i 1).val
  let v494 : Index := Scalar.indexCast arg1
  let c0_292 : Index := 0#32
  let c0_293 : Index := 0#32
  ![v494.toNat, 0, 0]
def k0_off20 (i : grid0.Coords) : Fin 3 → Nat :=
  let arg1 : BitVec 32 := BitVec.ofNat 32 (i 1).val
  let v506 : Index := Scalar.indexCast arg1
  let c128_295 : Index := 128#32
  let c128_296 : Index := 128#32
  ![v506.toNat, 128, 128]
def k0_cond2 (i : grid0.Coords) : BitVec 1 :=
  let arg1 : BitVec 32 := BitVec.ofNat 32 (i 1).val
  let c0_i32_283 : BitVec 32 := 0#32
  let v475 : BitVec 32 := Scalar.maxsi arg1 c0_i32_283
  let c7_i32 : BitVec 32 := 7#32
  let v476 : BitVec 32 := Scalar.minsi v475 c7_i32
  let c0_i32_284 : BitVec 32 := 0#32
  let v477 : BitVec 1 := Scalar.cmpi .ne v476 c0_i32_284
  v477

def k0_cond3 (i : grid0.Coords) : BitVec 1 :=
  let arg1 : BitVec 32 := BitVec.ofNat 32 (i 1).val
  let c0_i32_283 : BitVec 32 := 0#32
  let v475 : BitVec 32 := Scalar.maxsi arg1 c0_i32_283
  let c7_i32 : BitVec 32 := 7#32
  let v476 : BitVec 32 := Scalar.minsi v475 c7_i32
  let c1_i32_285 : BitVec 32 := 1#32
  let v478 : BitVec 32 := Scalar.subi v476 c1_i32_285
  let c0_i32_286 : BitVec 32 := 0#32
  let v479 : BitVec 1 := Scalar.cmpi .ne v478 c0_i32_286
  v479

def k0_cond4 (i : grid0.Coords) : BitVec 1 :=
  let arg1 : BitVec 32 := BitVec.ofNat 32 (i 1).val
  let c0_i32_283 : BitVec 32 := 0#32
  let v475 : BitVec 32 := Scalar.maxsi arg1 c0_i32_283
  let c7_i32 : BitVec 32 := 7#32
  let v476 : BitVec 32 := Scalar.minsi v475 c7_i32
  let c1_i32_285 : BitVec 32 := 1#32
  let v478 : BitVec 32 := Scalar.subi v476 c1_i32_285
  let c1_i32_287 : BitVec 32 := 1#32
  let v480 : BitVec 32 := Scalar.subi v478 c1_i32_287
  let c0_i32_288 : BitVec 32 := 0#32
  let v481 : BitVec 1 := Scalar.cmpi .ne v480 c0_i32_288
  v481

def k0_cond5 (i : grid0.Coords) : BitVec 1 :=
  let arg1 : BitVec 32 := BitVec.ofNat 32 (i 1).val
  let c0_i32_283 : BitVec 32 := 0#32
  let v475 : BitVec 32 := Scalar.maxsi arg1 c0_i32_283
  let c7_i32 : BitVec 32 := 7#32
  let v476 : BitVec 32 := Scalar.minsi v475 c7_i32
  let c1_i32_285 : BitVec 32 := 1#32
  let v478 : BitVec 32 := Scalar.subi v476 c1_i32_285
  let c1_i32_287 : BitVec 32 := 1#32
  let v480 : BitVec 32 := Scalar.subi v478 c1_i32_287
  let c1_i32_289 : BitVec 32 := 1#32
  let v482 : BitVec 32 := Scalar.subi v480 c1_i32_289
  let c0_i32_290 : BitVec 32 := 0#32
  let v483 : BitVec 1 := Scalar.cmpi .ne v482 c0_i32_290
  v483

def k0_cond6 (i : grid0.Coords) : BitVec 1 :=
  let arg1 : BitVec 32 := BitVec.ofNat 32 (i 1).val
  let c0_i32_283 : BitVec 32 := 0#32
  let v475 : BitVec 32 := Scalar.maxsi arg1 c0_i32_283
  let c7_i32 : BitVec 32 := 7#32
  let v476 : BitVec 32 := Scalar.minsi v475 c7_i32
  let c1_i32_285 : BitVec 32 := 1#32
  let v478 : BitVec 32 := Scalar.subi v476 c1_i32_285
  let c1_i32_287 : BitVec 32 := 1#32
  let v480 : BitVec 32 := Scalar.subi v478 c1_i32_287
  let c1_i32_289 : BitVec 32 := 1#32
  let v482 : BitVec 32 := Scalar.subi v480 c1_i32_289
  let c1_i32_291 : BitVec 32 := 1#32
  let v484 : BitVec 32 := Scalar.subi v482 c1_i32_291
  let c0_i32_292 : BitVec 32 := 0#32
  let v485 : BitVec 1 := Scalar.cmpi .ne v484 c0_i32_292
  v485

def k0_cond7 (i : grid0.Coords) : BitVec 1 :=
  let arg1 : BitVec 32 := BitVec.ofNat 32 (i 1).val
  let c0_i32_283 : BitVec 32 := 0#32
  let v475 : BitVec 32 := Scalar.maxsi arg1 c0_i32_283
  let c7_i32 : BitVec 32 := 7#32
  let v476 : BitVec 32 := Scalar.minsi v475 c7_i32
  let c1_i32_285 : BitVec 32 := 1#32
  let v478 : BitVec 32 := Scalar.subi v476 c1_i32_285
  let c1_i32_287 : BitVec 32 := 1#32
  let v480 : BitVec 32 := Scalar.subi v478 c1_i32_287
  let c1_i32_289 : BitVec 32 := 1#32
  let v482 : BitVec 32 := Scalar.subi v480 c1_i32_289
  let c1_i32_291 : BitVec 32 := 1#32
  let v484 : BitVec 32 := Scalar.subi v482 c1_i32_291
  let c1_i32_293 : BitVec 32 := 1#32
  let v486 : BitVec 32 := Scalar.subi v484 c1_i32_293
  let c0_i32_294 : BitVec 32 := 0#32
  let v487 : BitVec 1 := Scalar.cmpi .ne v486 c0_i32_294
  v487

def k0_cond8 (i : grid0.Coords) : BitVec 1 :=
  let arg1 : BitVec 32 := BitVec.ofNat 32 (i 1).val
  let c0_i32_283 : BitVec 32 := 0#32
  let v475 : BitVec 32 := Scalar.maxsi arg1 c0_i32_283
  let c7_i32 : BitVec 32 := 7#32
  let v476 : BitVec 32 := Scalar.minsi v475 c7_i32
  let c1_i32_285 : BitVec 32 := 1#32
  let v478 : BitVec 32 := Scalar.subi v476 c1_i32_285
  let c1_i32_287 : BitVec 32 := 1#32
  let v480 : BitVec 32 := Scalar.subi v478 c1_i32_287
  let c1_i32_289 : BitVec 32 := 1#32
  let v482 : BitVec 32 := Scalar.subi v480 c1_i32_289
  let c1_i32_291 : BitVec 32 := 1#32
  let v484 : BitVec 32 := Scalar.subi v482 c1_i32_291
  let c1_i32_293 : BitVec 32 := 1#32
  let v486 : BitVec 32 := Scalar.subi v484 c1_i32_293
  let c1_i32_295 : BitVec 32 := 1#32
  let v488 : BitVec 32 := Scalar.subi v486 c1_i32_295
  let c0_i32_296 : BitVec 32 := 0#32
  let v489 : BitVec 1 := Scalar.cmpi .ne v488 c0_i32_296
  v489

@[reducible] def k0_t15_loop (i : grid0.Coords) : Scf.Loop 32 :=
  let c0_i32_298 : BitVec 32 := 0#32
  let arg1 : BitVec 32 := BitVec.ofNat 32 (i 1).val
  let v491 : BitVec 32 := Scalar.subi arg1 c0_i32_298
  let c1_i32_299 : BitVec 32 := 1#32
  let v493 : BitVec 32 := Scalar.divsi v491 c1_i32_299
  let v494 : BitVec 32 := Scalar.muli v493 c1_i32_299
  let v495 : BitVec 32 := Scalar.addi c0_i32_298 v494
  let c1_i32_300 : BitVec 32 := 1#32
  ⟨c0_i32_298, v495, c1_i32_300⟩
def k0_off21 (i : grid0.Coords) (k0_t15 : Fin (k0_t15_loop i).trips) : Fin 3 → Nat :=
  let c0_i32_298 : BitVec 32 := 0#32
  let c1_i32_300 : BitVec 32 := 1#32
  let arg18 : BitVec 32 := Scf.iv c0_i32_298 c1_i32_300 k0_t15
  let v806 : Index := Scalar.indexCast arg18
  let c0_419 : Index := 0#32
  let c0_420 : Index := 0#32
  ![v806.toNat, 0, 0]
@[reducible] def k0_t16_loop (i : grid0.Coords) : Scf.Loop 32 :=
  let c0_i32_298 : BitVec 32 := 0#32
  let arg1 : BitVec 32 := BitVec.ofNat 32 (i 1).val
  let v491 : BitVec 32 := Scalar.subi arg1 c0_i32_298
  let c1_i32_299 : BitVec 32 := 1#32
  let v493 : BitVec 32 := Scalar.divsi v491 c1_i32_299
  let v494 : BitVec 32 := Scalar.muli v493 c1_i32_299
  let v495 : BitVec 32 := Scalar.addi c0_i32_298 v494
  let v492 : BitVec 32 := Scalar.addi c0_i32_298 v491
  let c1_i32_301 : BitVec 32 := 1#32
  ⟨v495, v492, c1_i32_301⟩
def k0_off22 (i : grid0.Coords) (k0_t16 : Fin (k0_t16_loop i).trips) : Fin 3 → Nat :=
  let c0_i32_298 : BitVec 32 := 0#32
  let arg1 : BitVec 32 := BitVec.ofNat 32 (i 1).val
  let v491 : BitVec 32 := Scalar.subi arg1 c0_i32_298
  let c1_i32_299 : BitVec 32 := 1#32
  let v493 : BitVec 32 := Scalar.divsi v491 c1_i32_299
  let v494 : BitVec 32 := Scalar.muli v493 c1_i32_299
  let v495 : BitVec 32 := Scalar.addi c0_i32_298 v494
  let c1_i32_301 : BitVec 32 := 1#32
  let arg18 : BitVec 32 := Scf.iv v495 c1_i32_301 k0_t16
  let v806 : Index := Scalar.indexCast arg18
  let c0_419 : Index := 0#32
  let c0_420 : Index := 0#32
  ![v806.toNat, 0, 0]
def k0_off23 (i : grid0.Coords) : Fin 3 → Nat :=
  let arg1 : BitVec 32 := BitVec.ofNat 32 (i 1).val
  let v498 : Index := Scalar.indexCast arg1
  let c0_302 : Index := 0#32
  let c0_303 : Index := 0#32
  ![v498.toNat, 0, 0]
def k0_off24 (i : grid0.Coords) : Fin 3 → Nat :=
  let arg1 : BitVec 32 := BitVec.ofNat 32 (i 1).val
  let v510 : Index := Scalar.indexCast arg1
  let c128_305 : Index := 128#32
  let c128_306 : Index := 128#32
  ![v510.toNat, 128, 128]
@[reducible] def k0_t17_loop (i : grid0.Coords) : Scf.Loop 32 :=
  let c0_i32_298 : BitVec 32 := 0#32
  let arg1 : BitVec 32 := BitVec.ofNat 32 (i 1).val
  let v491 : BitVec 32 := Scalar.subi arg1 c0_i32_298
  let c1_i32_299 : BitVec 32 := 1#32
  let v493 : BitVec 32 := Scalar.divsi v491 c1_i32_299
  let v494 : BitVec 32 := Scalar.muli v493 c1_i32_299
  let v495 : BitVec 32 := Scalar.addi c0_i32_298 v494
  let c1_i32_300 : BitVec 32 := 1#32
  ⟨c0_i32_298, v495, c1_i32_300⟩
def k0_off25 (i : grid0.Coords) (k0_t17 : Fin (k0_t17_loop i).trips) : Fin 3 → Nat :=
  let c0_i32_298 : BitVec 32 := 0#32
  let c1_i32_300 : BitVec 32 := 1#32
  let arg18 : BitVec 32 := Scf.iv c0_i32_298 c1_i32_300 k0_t17
  let v773 : Index := Scalar.indexCast arg18
  let c0_406 : Index := 0#32
  let c0_407 : Index := 0#32
  ![v773.toNat, 0, 0]
@[reducible] def k0_t18_loop (i : grid0.Coords) : Scf.Loop 32 :=
  let c0_i32_298 : BitVec 32 := 0#32
  let arg1 : BitVec 32 := BitVec.ofNat 32 (i 1).val
  let v491 : BitVec 32 := Scalar.subi arg1 c0_i32_298
  let c1_i32_299 : BitVec 32 := 1#32
  let v493 : BitVec 32 := Scalar.divsi v491 c1_i32_299
  let v494 : BitVec 32 := Scalar.muli v493 c1_i32_299
  let v495 : BitVec 32 := Scalar.addi c0_i32_298 v494
  let v492 : BitVec 32 := Scalar.addi c0_i32_298 v491
  let c1_i32_301 : BitVec 32 := 1#32
  ⟨v495, v492, c1_i32_301⟩
def k0_off26 (i : grid0.Coords) (k0_t18 : Fin (k0_t18_loop i).trips) : Fin 3 → Nat :=
  let c0_i32_298 : BitVec 32 := 0#32
  let arg1 : BitVec 32 := BitVec.ofNat 32 (i 1).val
  let v491 : BitVec 32 := Scalar.subi arg1 c0_i32_298
  let c1_i32_299 : BitVec 32 := 1#32
  let v493 : BitVec 32 := Scalar.divsi v491 c1_i32_299
  let v494 : BitVec 32 := Scalar.muli v493 c1_i32_299
  let v495 : BitVec 32 := Scalar.addi c0_i32_298 v494
  let c1_i32_301 : BitVec 32 := 1#32
  let arg18 : BitVec 32 := Scf.iv v495 c1_i32_301 k0_t18
  let v773 : Index := Scalar.indexCast arg18
  let c0_406 : Index := 0#32
  let c0_407 : Index := 0#32
  ![v773.toNat, 0, 0]
def k0_off27 (i : grid0.Coords) : Fin 3 → Nat :=
  let arg1 : BitVec 32 := BitVec.ofNat 32 (i 1).val
  let v498 : Index := Scalar.indexCast arg1
  let c0_302 : Index := 0#32
  let c0_303 : Index := 0#32
  ![v498.toNat, 0, 0]
def k0_off28 (i : grid0.Coords) : Fin 3 → Nat :=
  let arg1 : BitVec 32 := BitVec.ofNat 32 (i 1).val
  let v510 : Index := Scalar.indexCast arg1
  let c128_305 : Index := 128#32
  let c128_306 : Index := 128#32
  ![v510.toNat, 128, 128]
@[reducible] def k0_t19_loop (i : grid0.Coords) : Scf.Loop 32 :=
  let c0_i32_296 : BitVec 32 := 0#32
  let arg1 : BitVec 32 := BitVec.ofNat 32 (i 1).val
  let v489 : BitVec 32 := Scalar.subi arg1 c0_i32_296
  let c1_i32_297 : BitVec 32 := 1#32
  let v491 : BitVec 32 := Scalar.divsi v489 c1_i32_297
  let v492 : BitVec 32 := Scalar.muli v491 c1_i32_297
  let v493 : BitVec 32 := Scalar.addi c0_i32_296 v492
  let c1_i32_298 : BitVec 32 := 1#32
  ⟨c0_i32_296, v493, c1_i32_298⟩
def k0_off29 (i : grid0.Coords) (k0_t19 : Fin (k0_t19_loop i).trips) : Fin 3 → Nat :=
  let c0_i32_296 : BitVec 32 := 0#32
  let c1_i32_298 : BitVec 32 := 1#32
  let arg18 : BitVec 32 := Scf.iv c0_i32_296 c1_i32_298 k0_t19
  let v738 : Index := Scalar.indexCast arg18
  let c0_391 : Index := 0#32
  let c0_392 : Index := 0#32
  ![v738.toNat, 0, 0]
@[reducible] def k0_t20_loop (i : grid0.Coords) : Scf.Loop 32 :=
  let c0_i32_296 : BitVec 32 := 0#32
  let arg1 : BitVec 32 := BitVec.ofNat 32 (i 1).val
  let v489 : BitVec 32 := Scalar.subi arg1 c0_i32_296
  let c1_i32_297 : BitVec 32 := 1#32
  let v491 : BitVec 32 := Scalar.divsi v489 c1_i32_297
  let v492 : BitVec 32 := Scalar.muli v491 c1_i32_297
  let v493 : BitVec 32 := Scalar.addi c0_i32_296 v492
  let v490 : BitVec 32 := Scalar.addi c0_i32_296 v489
  let c1_i32_299 : BitVec 32 := 1#32
  ⟨v493, v490, c1_i32_299⟩
def k0_off30 (i : grid0.Coords) (k0_t20 : Fin (k0_t20_loop i).trips) : Fin 3 → Nat :=
  let c0_i32_296 : BitVec 32 := 0#32
  let arg1 : BitVec 32 := BitVec.ofNat 32 (i 1).val
  let v489 : BitVec 32 := Scalar.subi arg1 c0_i32_296
  let c1_i32_297 : BitVec 32 := 1#32
  let v491 : BitVec 32 := Scalar.divsi v489 c1_i32_297
  let v492 : BitVec 32 := Scalar.muli v491 c1_i32_297
  let v493 : BitVec 32 := Scalar.addi c0_i32_296 v492
  let c1_i32_299 : BitVec 32 := 1#32
  let arg18 : BitVec 32 := Scf.iv v493 c1_i32_299 k0_t20
  let v738 : Index := Scalar.indexCast arg18
  let c0_391 : Index := 0#32
  let c0_392 : Index := 0#32
  ![v738.toNat, 0, 0]
def k0_off31 (i : grid0.Coords) : Fin 3 → Nat :=
  let arg1 : BitVec 32 := BitVec.ofNat 32 (i 1).val
  let v496 : Index := Scalar.indexCast arg1
  let c0_300 : Index := 0#32
  let c0_301 : Index := 0#32
  ![v496.toNat, 0, 0]
def k0_off32 (i : grid0.Coords) : Fin 3 → Nat :=
  let arg1 : BitVec 32 := BitVec.ofNat 32 (i 1).val
  let v508 : Index := Scalar.indexCast arg1
  let c128_303 : Index := 128#32
  let c128_304 : Index := 128#32
  ![v508.toNat, 128, 128]
@[reducible] def k0_t21_loop (i : grid0.Coords) : Scf.Loop 32 :=
  let c0_i32_294 : BitVec 32 := 0#32
  let arg1 : BitVec 32 := BitVec.ofNat 32 (i 1).val
  let v487 : BitVec 32 := Scalar.subi arg1 c0_i32_294
  let c1_i32_295 : BitVec 32 := 1#32
  let v489 : BitVec 32 := Scalar.divsi v487 c1_i32_295
  let v490 : BitVec 32 := Scalar.muli v489 c1_i32_295
  let v491 : BitVec 32 := Scalar.addi c0_i32_294 v490
  let c1_i32_296 : BitVec 32 := 1#32
  ⟨c0_i32_294, v491, c1_i32_296⟩
def k0_off33 (i : grid0.Coords) (k0_t21 : Fin (k0_t21_loop i).trips) : Fin 3 → Nat :=
  let c0_i32_294 : BitVec 32 := 0#32
  let c1_i32_296 : BitVec 32 := 1#32
  let arg18 : BitVec 32 := Scf.iv c0_i32_294 c1_i32_296 k0_t21
  let v703 : Index := Scalar.indexCast arg18
  let c0_376 : Index := 0#32
  let c0_377 : Index := 0#32
  ![v703.toNat, 0, 0]
@[reducible] def k0_t22_loop (i : grid0.Coords) : Scf.Loop 32 :=
  let c0_i32_294 : BitVec 32 := 0#32
  let arg1 : BitVec 32 := BitVec.ofNat 32 (i 1).val
  let v487 : BitVec 32 := Scalar.subi arg1 c0_i32_294
  let c1_i32_295 : BitVec 32 := 1#32
  let v489 : BitVec 32 := Scalar.divsi v487 c1_i32_295
  let v490 : BitVec 32 := Scalar.muli v489 c1_i32_295
  let v491 : BitVec 32 := Scalar.addi c0_i32_294 v490
  let v488 : BitVec 32 := Scalar.addi c0_i32_294 v487
  let c1_i32_297 : BitVec 32 := 1#32
  ⟨v491, v488, c1_i32_297⟩
def k0_off34 (i : grid0.Coords) (k0_t22 : Fin (k0_t22_loop i).trips) : Fin 3 → Nat :=
  let c0_i32_294 : BitVec 32 := 0#32
  let arg1 : BitVec 32 := BitVec.ofNat 32 (i 1).val
  let v487 : BitVec 32 := Scalar.subi arg1 c0_i32_294
  let c1_i32_295 : BitVec 32 := 1#32
  let v489 : BitVec 32 := Scalar.divsi v487 c1_i32_295
  let v490 : BitVec 32 := Scalar.muli v489 c1_i32_295
  let v491 : BitVec 32 := Scalar.addi c0_i32_294 v490
  let c1_i32_297 : BitVec 32 := 1#32
  let arg18 : BitVec 32 := Scf.iv v491 c1_i32_297 k0_t22
  let v703 : Index := Scalar.indexCast arg18
  let c0_376 : Index := 0#32
  let c0_377 : Index := 0#32
  ![v703.toNat, 0, 0]
def k0_off35 (i : grid0.Coords) : Fin 3 → Nat :=
  let arg1 : BitVec 32 := BitVec.ofNat 32 (i 1).val
  let v494 : Index := Scalar.indexCast arg1
  let c0_298 : Index := 0#32
  let c0_299 : Index := 0#32
  ![v494.toNat, 0, 0]
def k0_off36 (i : grid0.Coords) : Fin 3 → Nat :=
  let arg1 : BitVec 32 := BitVec.ofNat 32 (i 1).val
  let v506 : Index := Scalar.indexCast arg1
  let c128_301 : Index := 128#32
  let c128_302 : Index := 128#32
  ![v506.toNat, 128, 128]
@[reducible] def k0_t23_loop (i : grid0.Coords) : Scf.Loop 32 :=
  let c0_i32_292 : BitVec 32 := 0#32
  let arg1 : BitVec 32 := BitVec.ofNat 32 (i 1).val
  let v485 : BitVec 32 := Scalar.subi arg1 c0_i32_292
  let c1_i32_293 : BitVec 32 := 1#32
  let v487 : BitVec 32 := Scalar.divsi v485 c1_i32_293
  let v488 : BitVec 32 := Scalar.muli v487 c1_i32_293
  let v489 : BitVec 32 := Scalar.addi c0_i32_292 v488
  let c1_i32_294 : BitVec 32 := 1#32
  ⟨c0_i32_292, v489, c1_i32_294⟩
def k0_off37 (i : grid0.Coords) (k0_t23 : Fin (k0_t23_loop i).trips) : Fin 3 → Nat :=
  let c0_i32_292 : BitVec 32 := 0#32
  let c1_i32_294 : BitVec 32 := 1#32
  let arg18 : BitVec 32 := Scf.iv c0_i32_292 c1_i32_294 k0_t23
  let v668 : Index := Scalar.indexCast arg18
  let c0_361 : Index := 0#32
  let c0_362 : Index := 0#32
  ![v668.toNat, 0, 0]
@[reducible] def k0_t24_loop (i : grid0.Coords) : Scf.Loop 32 :=
  let c0_i32_292 : BitVec 32 := 0#32
  let arg1 : BitVec 32 := BitVec.ofNat 32 (i 1).val
  let v485 : BitVec 32 := Scalar.subi arg1 c0_i32_292
  let c1_i32_293 : BitVec 32 := 1#32
  let v487 : BitVec 32 := Scalar.divsi v485 c1_i32_293
  let v488 : BitVec 32 := Scalar.muli v487 c1_i32_293
  let v489 : BitVec 32 := Scalar.addi c0_i32_292 v488
  let v486 : BitVec 32 := Scalar.addi c0_i32_292 v485
  let c1_i32_295 : BitVec 32 := 1#32
  ⟨v489, v486, c1_i32_295⟩
def k0_off38 (i : grid0.Coords) (k0_t24 : Fin (k0_t24_loop i).trips) : Fin 3 → Nat :=
  let c0_i32_292 : BitVec 32 := 0#32
  let arg1 : BitVec 32 := BitVec.ofNat 32 (i 1).val
  let v485 : BitVec 32 := Scalar.subi arg1 c0_i32_292
  let c1_i32_293 : BitVec 32 := 1#32
  let v487 : BitVec 32 := Scalar.divsi v485 c1_i32_293
  let v488 : BitVec 32 := Scalar.muli v487 c1_i32_293
  let v489 : BitVec 32 := Scalar.addi c0_i32_292 v488
  let c1_i32_295 : BitVec 32 := 1#32
  let arg18 : BitVec 32 := Scf.iv v489 c1_i32_295 k0_t24
  let v668 : Index := Scalar.indexCast arg18
  let c0_361 : Index := 0#32
  let c0_362 : Index := 0#32
  ![v668.toNat, 0, 0]
def k0_off39 (i : grid0.Coords) : Fin 3 → Nat :=
  let arg1 : BitVec 32 := BitVec.ofNat 32 (i 1).val
  let v492 : Index := Scalar.indexCast arg1
  let c0_296 : Index := 0#32
  let c0_297 : Index := 0#32
  ![v492.toNat, 0, 0]
def k0_off40 (i : grid0.Coords) : Fin 3 → Nat :=
  let arg1 : BitVec 32 := BitVec.ofNat 32 (i 1).val
  let v504 : Index := Scalar.indexCast arg1
  let c128_299 : Index := 128#32
  let c128_300 : Index := 128#32
  ![v504.toNat, 128, 128]
@[reducible] def k0_t25_loop (i : grid0.Coords) : Scf.Loop 32 :=
  let c0_i32_290 : BitVec 32 := 0#32
  let arg1 : BitVec 32 := BitVec.ofNat 32 (i 1).val
  let v483 : BitVec 32 := Scalar.subi arg1 c0_i32_290
  let c1_i32_291 : BitVec 32 := 1#32
  let v485 : BitVec 32 := Scalar.divsi v483 c1_i32_291
  let v486 : BitVec 32 := Scalar.muli v485 c1_i32_291
  let v487 : BitVec 32 := Scalar.addi c0_i32_290 v486
  let c1_i32_292 : BitVec 32 := 1#32
  ⟨c0_i32_290, v487, c1_i32_292⟩
def k0_off41 (i : grid0.Coords) (k0_t25 : Fin (k0_t25_loop i).trips) : Fin 3 → Nat :=
  let c0_i32_290 : BitVec 32 := 0#32
  let c1_i32_292 : BitVec 32 := 1#32
  let arg18 : BitVec 32 := Scf.iv c0_i32_290 c1_i32_292 k0_t25
  let v633 : Index := Scalar.indexCast arg18
  let c0_346 : Index := 0#32
  let c0_347 : Index := 0#32
  ![v633.toNat, 0, 0]
@[reducible] def k0_t26_loop (i : grid0.Coords) : Scf.Loop 32 :=
  let c0_i32_290 : BitVec 32 := 0#32
  let arg1 : BitVec 32 := BitVec.ofNat 32 (i 1).val
  let v483 : BitVec 32 := Scalar.subi arg1 c0_i32_290
  let c1_i32_291 : BitVec 32 := 1#32
  let v485 : BitVec 32 := Scalar.divsi v483 c1_i32_291
  let v486 : BitVec 32 := Scalar.muli v485 c1_i32_291
  let v487 : BitVec 32 := Scalar.addi c0_i32_290 v486
  let v484 : BitVec 32 := Scalar.addi c0_i32_290 v483
  let c1_i32_293 : BitVec 32 := 1#32
  ⟨v487, v484, c1_i32_293⟩
def k0_off42 (i : grid0.Coords) (k0_t26 : Fin (k0_t26_loop i).trips) : Fin 3 → Nat :=
  let c0_i32_290 : BitVec 32 := 0#32
  let arg1 : BitVec 32 := BitVec.ofNat 32 (i 1).val
  let v483 : BitVec 32 := Scalar.subi arg1 c0_i32_290
  let c1_i32_291 : BitVec 32 := 1#32
  let v485 : BitVec 32 := Scalar.divsi v483 c1_i32_291
  let v486 : BitVec 32 := Scalar.muli v485 c1_i32_291
  let v487 : BitVec 32 := Scalar.addi c0_i32_290 v486
  let c1_i32_293 : BitVec 32 := 1#32
  let arg18 : BitVec 32 := Scf.iv v487 c1_i32_293 k0_t26
  let v633 : Index := Scalar.indexCast arg18
  let c0_346 : Index := 0#32
  let c0_347 : Index := 0#32
  ![v633.toNat, 0, 0]
def k0_off43 (i : grid0.Coords) : Fin 3 → Nat :=
  let arg1 : BitVec 32 := BitVec.ofNat 32 (i 1).val
  let v490 : Index := Scalar.indexCast arg1
  let c0_294 : Index := 0#32
  let c0_295 : Index := 0#32
  ![v490.toNat, 0, 0]
def k0_off44 (i : grid0.Coords) : Fin 3 → Nat :=
  let arg1 : BitVec 32 := BitVec.ofNat 32 (i 1).val
  let v502 : Index := Scalar.indexCast arg1
  let c128_297 : Index := 128#32
  let c128_298 : Index := 128#32
  ![v502.toNat, 128, 128]
@[reducible] def k0_t27_loop (i : grid0.Coords) : Scf.Loop 32 :=
  let c0_i32_288 : BitVec 32 := 0#32
  let arg1 : BitVec 32 := BitVec.ofNat 32 (i 1).val
  let v481 : BitVec 32 := Scalar.subi arg1 c0_i32_288
  let c1_i32_289 : BitVec 32 := 1#32
  let v483 : BitVec 32 := Scalar.divsi v481 c1_i32_289
  let v484 : BitVec 32 := Scalar.muli v483 c1_i32_289
  let v485 : BitVec 32 := Scalar.addi c0_i32_288 v484
  let c1_i32_290 : BitVec 32 := 1#32
  ⟨c0_i32_288, v485, c1_i32_290⟩
def k0_off45 (i : grid0.Coords) (k0_t27 : Fin (k0_t27_loop i).trips) : Fin 3 → Nat :=
  let c0_i32_288 : BitVec 32 := 0#32
  let c1_i32_290 : BitVec 32 := 1#32
  let arg18 : BitVec 32 := Scf.iv c0_i32_288 c1_i32_290 k0_t27
  let v598 : Index := Scalar.indexCast arg18
  let c0_331 : Index := 0#32
  let c0_332 : Index := 0#32
  ![v598.toNat, 0, 0]
@[reducible] def k0_t28_loop (i : grid0.Coords) : Scf.Loop 32 :=
  let c0_i32_288 : BitVec 32 := 0#32
  let arg1 : BitVec 32 := BitVec.ofNat 32 (i 1).val
  let v481 : BitVec 32 := Scalar.subi arg1 c0_i32_288
  let c1_i32_289 : BitVec 32 := 1#32
  let v483 : BitVec 32 := Scalar.divsi v481 c1_i32_289
  let v484 : BitVec 32 := Scalar.muli v483 c1_i32_289
  let v485 : BitVec 32 := Scalar.addi c0_i32_288 v484
  let v482 : BitVec 32 := Scalar.addi c0_i32_288 v481
  let c1_i32_291 : BitVec 32 := 1#32
  ⟨v485, v482, c1_i32_291⟩
def k0_off46 (i : grid0.Coords) (k0_t28 : Fin (k0_t28_loop i).trips) : Fin 3 → Nat :=
  let c0_i32_288 : BitVec 32 := 0#32
  let arg1 : BitVec 32 := BitVec.ofNat 32 (i 1).val
  let v481 : BitVec 32 := Scalar.subi arg1 c0_i32_288
  let c1_i32_289 : BitVec 32 := 1#32
  let v483 : BitVec 32 := Scalar.divsi v481 c1_i32_289
  let v484 : BitVec 32 := Scalar.muli v483 c1_i32_289
  let v485 : BitVec 32 := Scalar.addi c0_i32_288 v484
  let c1_i32_291 : BitVec 32 := 1#32
  let arg18 : BitVec 32 := Scf.iv v485 c1_i32_291 k0_t28
  let v598 : Index := Scalar.indexCast arg18
  let c0_331 : Index := 0#32
  let c0_332 : Index := 0#32
  ![v598.toNat, 0, 0]
def k0_off47 (i : grid0.Coords) : Fin 3 → Nat :=
  let arg1 : BitVec 32 := BitVec.ofNat 32 (i 1).val
  let v488 : Index := Scalar.indexCast arg1
  let c0_292 : Index := 0#32
  let c0_293 : Index := 0#32
  ![v488.toNat, 0, 0]
def k0_off48 (i : grid0.Coords) : Fin 3 → Nat :=
  let arg1 : BitVec 32 := BitVec.ofNat 32 (i 1).val
  let v500 : Index := Scalar.indexCast arg1
  let c128_295 : Index := 128#32
  let c128_296 : Index := 128#32
  ![v500.toNat, 128, 128]
@[reducible] def k0_t29_loop (i : grid0.Coords) : Scf.Loop 32 :=
  let c0_i32_286 : BitVec 32 := 0#32
  let arg1 : BitVec 32 := BitVec.ofNat 32 (i 1).val
  let v479 : BitVec 32 := Scalar.subi arg1 c0_i32_286
  let c1_i32_287 : BitVec 32 := 1#32
  let v481 : BitVec 32 := Scalar.divsi v479 c1_i32_287
  let v482 : BitVec 32 := Scalar.muli v481 c1_i32_287
  let v483 : BitVec 32 := Scalar.addi c0_i32_286 v482
  let c1_i32_288 : BitVec 32 := 1#32
  ⟨c0_i32_286, v483, c1_i32_288⟩
def k0_off49 (i : grid0.Coords) (k0_t29 : Fin (k0_t29_loop i).trips) : Fin 3 → Nat :=
  let c0_i32_286 : BitVec 32 := 0#32
  let c1_i32_288 : BitVec 32 := 1#32
  let arg18 : BitVec 32 := Scf.iv c0_i32_286 c1_i32_288 k0_t29
  let v563 : Index := Scalar.indexCast arg18
  let c0_316 : Index := 0#32
  let c0_317 : Index := 0#32
  ![v563.toNat, 0, 0]
@[reducible] def k0_t30_loop (i : grid0.Coords) : Scf.Loop 32 :=
  let c0_i32_286 : BitVec 32 := 0#32
  let arg1 : BitVec 32 := BitVec.ofNat 32 (i 1).val
  let v479 : BitVec 32 := Scalar.subi arg1 c0_i32_286
  let c1_i32_287 : BitVec 32 := 1#32
  let v481 : BitVec 32 := Scalar.divsi v479 c1_i32_287
  let v482 : BitVec 32 := Scalar.muli v481 c1_i32_287
  let v483 : BitVec 32 := Scalar.addi c0_i32_286 v482
  let v480 : BitVec 32 := Scalar.addi c0_i32_286 v479
  let c1_i32_289 : BitVec 32 := 1#32
  ⟨v483, v480, c1_i32_289⟩
def k0_off50 (i : grid0.Coords) (k0_t30 : Fin (k0_t30_loop i).trips) : Fin 3 → Nat :=
  let c0_i32_286 : BitVec 32 := 0#32
  let arg1 : BitVec 32 := BitVec.ofNat 32 (i 1).val
  let v479 : BitVec 32 := Scalar.subi arg1 c0_i32_286
  let c1_i32_287 : BitVec 32 := 1#32
  let v481 : BitVec 32 := Scalar.divsi v479 c1_i32_287
  let v482 : BitVec 32 := Scalar.muli v481 c1_i32_287
  let v483 : BitVec 32 := Scalar.addi c0_i32_286 v482
  let c1_i32_289 : BitVec 32 := 1#32
  let arg18 : BitVec 32 := Scf.iv v483 c1_i32_289 k0_t30
  let v563 : Index := Scalar.indexCast arg18
  let c0_316 : Index := 0#32
  let c0_317 : Index := 0#32
  ![v563.toNat, 0, 0]
def k0_off51 (i : grid0.Coords) : Fin 3 → Nat :=
  let arg1 : BitVec 32 := BitVec.ofNat 32 (i 1).val
  let v486 : Index := Scalar.indexCast arg1
  let c0_290 : Index := 0#32
  let c0_291 : Index := 0#32
  ![v486.toNat, 0, 0]
def k0_off52 (i : grid0.Coords) : Fin 3 → Nat :=
  let arg1 : BitVec 32 := BitVec.ofNat 32 (i 1).val
  let v498 : Index := Scalar.indexCast arg1
  let c128_293 : Index := 128#32
  let c128_294 : Index := 128#32
  ![v498.toNat, 128, 128]
@[reducible] def k0_t31_loop (i : grid0.Coords) : Scf.Loop 32 :=
  let c0_i32_285 : BitVec 32 := 0#32
  let arg1 : BitVec 32 := BitVec.ofNat 32 (i 1).val
  let c1_i32 : BitVec 32 := 1#32
  let v0 : BitVec 32 := Scalar.addi arg1 c1_i32
  let v478 : BitVec 32 := Scalar.subi v0 c0_i32_285
  let c1_i32_286 : BitVec 32 := 1#32
  let v480 : BitVec 32 := Scalar.divsi v478 c1_i32_286
  let v481 : BitVec 32 := Scalar.muli v480 c1_i32_286
  let v482 : BitVec 32 := Scalar.addi c0_i32_285 v481
  let c1_i32_287 : BitVec 32 := 1#32
  ⟨c0_i32_285, v482, c1_i32_287⟩
def k0_off53 (i : grid0.Coords) (k0_t31 : Fin (k0_t31_loop i).trips) : Fin 3 → Nat :=
  let c0_i32_285 : BitVec 32 := 0#32
  let c1_i32_287 : BitVec 32 := 1#32
  let arg18 : BitVec 32 := Scf.iv c0_i32_285 c1_i32_287 k0_t31
  let v483 : Index := Scalar.indexCast arg18
  let c0_289 : Index := 0#32
  let c0_290 : Index := 0#32
  ![v483.toNat, 0, 0]
@[reducible] def k0_t32_loop (i : grid0.Coords) : Scf.Loop 32 :=
  let c0_i32_285 : BitVec 32 := 0#32
  let arg1 : BitVec 32 := BitVec.ofNat 32 (i 1).val
  let c1_i32 : BitVec 32 := 1#32
  let v0 : BitVec 32 := Scalar.addi arg1 c1_i32
  let v478 : BitVec 32 := Scalar.subi v0 c0_i32_285
  let c1_i32_286 : BitVec 32 := 1#32
  let v480 : BitVec 32 := Scalar.divsi v478 c1_i32_286
  let v481 : BitVec 32 := Scalar.muli v480 c1_i32_286
  let v482 : BitVec 32 := Scalar.addi c0_i32_285 v481
  let v479 : BitVec 32 := Scalar.addi c0_i32_285 v478
  let c1_i32_288 : BitVec 32 := 1#32
  ⟨v482, v479, c1_i32_288⟩
def k0_off54 (i : grid0.Coords) (k0_t32 : Fin (k0_t32_loop i).trips) : Fin 3 → Nat :=
  let c0_i32_285 : BitVec 32 := 0#32
  let arg1 : BitVec 32 := BitVec.ofNat 32 (i 1).val
  let c1_i32 : BitVec 32 := 1#32
  let v0 : BitVec 32 := Scalar.addi arg1 c1_i32
  let v478 : BitVec 32 := Scalar.subi v0 c0_i32_285
  let c1_i32_286 : BitVec 32 := 1#32
  let v480 : BitVec 32 := Scalar.divsi v478 c1_i32_286
  let v481 : BitVec 32 := Scalar.muli v480 c1_i32_286
  let v482 : BitVec 32 := Scalar.addi c0_i32_285 v481
  let c1_i32_288 : BitVec 32 := 1#32
  let arg18 : BitVec 32 := Scf.iv v482 c1_i32_288 k0_t32
  let v483 : Index := Scalar.indexCast arg18
  let c0_289 : Index := 0#32
  let c0_290 : Index := 0#32
  ![v483.toNat, 0, 0]
@[reducible] def k0_t33_loop (i : grid0.Coords) : Scf.Loop 32 :=
  let c0_i32_195 : BitVec 32 := 0#32
  let arg1 : BitVec 32 := BitVec.ofNat 32 (i 1).val
  let c1_i32 : BitVec 32 := 1#32
  let v0 : BitVec 32 := Scalar.addi arg1 c1_i32
  let v360 : BitVec 32 := Scalar.subi v0 c0_i32_195
  let c1_i32_196 : BitVec 32 := 1#32
  let v362 : BitVec 32 := Scalar.divsi v360 c1_i32_196
  let v363 : BitVec 32 := Scalar.muli v362 c1_i32_196
  let v364 : BitVec 32 := Scalar.addi c0_i32_195 v363
  let c1_i32_197 : BitVec 32 := 1#32
  ⟨c0_i32_195, v364, c1_i32_197⟩
def k0_mult3 (i : grid0.Coords) (k0_t33 : Fin (k0_t33_loop i).trips) : BitVec 32 :=
  let c0_i32_195 : BitVec 32 := 0#32
  let c1_i32_197 : BitVec 32 := 1#32
  let arg18 : BitVec 32 := Scf.iv c0_i32_195 c1_i32_197 k0_t33
  let c256_i32_283 : BitVec 32 := 256#32
  let v475 : BitVec 32 := Scalar.muli arg18 c256_i32_283
  v475
def k0_off55 (i : grid0.Coords) (k0_t33 : Fin (k0_t33_loop i).trips) : Fin 3 → Nat :=
  let c0_284 : Index := 0#32
  let c0_i32_195 : BitVec 32 := 0#32
  let c1_i32_197 : BitVec 32 := 1#32
  let arg18 : BitVec 32 := Scf.iv c0_i32_195 c1_i32_197 k0_t33
  let c256_i32_283 : BitVec 32 := 256#32
  let v475 : BitVec 32 := Scalar.muli arg18 c256_i32_283
  let v476 : BitVec 32 := v475
  let v477 : Index := Scalar.indexCast v476
  let c0_285 : Index := 0#32
  ![0, v477.toNat, 0]
def k0_off56 (i : grid0.Coords) (k0_t33 : Fin (k0_t33_loop i).trips) : Fin 3 → Nat :=
  let c0_i32_195 : BitVec 32 := 0#32
  let c1_i32_197 : BitVec 32 := 1#32
  let arg18 : BitVec 32 := Scf.iv c0_i32_195 c1_i32_197 k0_t33
  let v480 : Index := Scalar.indexCast arg18
  let c0_286 : Index := 0#32
  let c0_287 : Index := 0#32
  ![v480.toNat, 0, 0]
def k0_off57 (i : grid0.Coords) (k0_t33 : Fin (k0_t33_loop i).trips) : Fin 4 → Nat :=
  let c0_288 : Index := 0#32
  let c0_i32_195 : BitVec 32 := 0#32
  let c1_i32_197 : BitVec 32 := 1#32
  let arg18 : BitVec 32 := Scf.iv c0_i32_195 c1_i32_197 k0_t33
  let v483 : Index := Scalar.indexCast arg18
  let c0_289 : Index := 0#32
  let c0_290 : Index := 0#32
  ![0, v483.toNat, 0, 0]
@[reducible] def k0_t34_loop (i : grid0.Coords) : Scf.Loop 32 :=
  let c0_i32_195 : BitVec 32 := 0#32
  let arg1 : BitVec 32 := BitVec.ofNat 32 (i 1).val
  let c1_i32 : BitVec 32 := 1#32
  let v0 : BitVec 32 := Scalar.addi arg1 c1_i32
  let v360 : BitVec 32 := Scalar.subi v0 c0_i32_195
  let c1_i32_196 : BitVec 32 := 1#32
  let v362 : BitVec 32 := Scalar.divsi v360 c1_i32_196
  let v363 : BitVec 32 := Scalar.muli v362 c1_i32_196
  let v364 : BitVec 32 := Scalar.addi c0_i32_195 v363
  let v361 : BitVec 32 := Scalar.addi c0_i32_195 v360
  let c1_i32_198 : BitVec 32 := 1#32
  ⟨v364, v361, c1_i32_198⟩
def k0_mult4 (i : grid0.Coords) (k0_t34 : Fin (k0_t34_loop i).trips) : BitVec 32 :=
  let c0_i32_195 : BitVec 32 := 0#32
  let arg1 : BitVec 32 := BitVec.ofNat 32 (i 1).val
  let c1_i32 : BitVec 32 := 1#32
  let v0 : BitVec 32 := Scalar.addi arg1 c1_i32
  let v360 : BitVec 32 := Scalar.subi v0 c0_i32_195
  let c1_i32_196 : BitVec 32 := 1#32
  let v362 : BitVec 32 := Scalar.divsi v360 c1_i32_196
  let v363 : BitVec 32 := Scalar.muli v362 c1_i32_196
  let v364 : BitVec 32 := Scalar.addi c0_i32_195 v363
  let c1_i32_198 : BitVec 32 := 1#32
  let arg18 : BitVec 32 := Scf.iv v364 c1_i32_198 k0_t34
  let c256_i32_283 : BitVec 32 := 256#32
  let v475 : BitVec 32 := Scalar.muli arg18 c256_i32_283
  v475
def k0_off58 (i : grid0.Coords) (k0_t34 : Fin (k0_t34_loop i).trips) : Fin 3 → Nat :=
  let c0_284 : Index := 0#32
  let c0_i32_195 : BitVec 32 := 0#32
  let arg1 : BitVec 32 := BitVec.ofNat 32 (i 1).val
  let c1_i32 : BitVec 32 := 1#32
  let v0 : BitVec 32 := Scalar.addi arg1 c1_i32
  let v360 : BitVec 32 := Scalar.subi v0 c0_i32_195
  let c1_i32_196 : BitVec 32 := 1#32
  let v362 : BitVec 32 := Scalar.divsi v360 c1_i32_196
  let v363 : BitVec 32 := Scalar.muli v362 c1_i32_196
  let v364 : BitVec 32 := Scalar.addi c0_i32_195 v363
  let c1_i32_198 : BitVec 32 := 1#32
  let arg18 : BitVec 32 := Scf.iv v364 c1_i32_198 k0_t34
  let c256_i32_283 : BitVec 32 := 256#32
  let v475 : BitVec 32 := Scalar.muli arg18 c256_i32_283
  let v476 : BitVec 32 := v475
  let v477 : Index := Scalar.indexCast v476
  let c0_285 : Index := 0#32
  ![0, v477.toNat, 0]
def k0_off59 (i : grid0.Coords) (k0_t34 : Fin (k0_t34_loop i).trips) : Fin 3 → Nat :=
  let c0_i32_195 : BitVec 32 := 0#32
  let arg1 : BitVec 32 := BitVec.ofNat 32 (i 1).val
  let c1_i32 : BitVec 32 := 1#32
  let v0 : BitVec 32 := Scalar.addi arg1 c1_i32
  let v360 : BitVec 32 := Scalar.subi v0 c0_i32_195
  let c1_i32_196 : BitVec 32 := 1#32
  let v362 : BitVec 32 := Scalar.divsi v360 c1_i32_196
  let v363 : BitVec 32 := Scalar.muli v362 c1_i32_196
  let v364 : BitVec 32 := Scalar.addi c0_i32_195 v363
  let c1_i32_198 : BitVec 32 := 1#32
  let arg18 : BitVec 32 := Scf.iv v364 c1_i32_198 k0_t34
  let v480 : Index := Scalar.indexCast arg18
  let c0_286 : Index := 0#32
  let c0_287 : Index := 0#32
  ![v480.toNat, 0, 0]
def k0_off60 (i : grid0.Coords) (k0_t34 : Fin (k0_t34_loop i).trips) : Fin 4 → Nat :=
  let c0_288 : Index := 0#32
  let c0_i32_195 : BitVec 32 := 0#32
  let arg1 : BitVec 32 := BitVec.ofNat 32 (i 1).val
  let c1_i32 : BitVec 32 := 1#32
  let v0 : BitVec 32 := Scalar.addi arg1 c1_i32
  let v360 : BitVec 32 := Scalar.subi v0 c0_i32_195
  let c1_i32_196 : BitVec 32 := 1#32
  let v362 : BitVec 32 := Scalar.divsi v360 c1_i32_196
  let v363 : BitVec 32 := Scalar.muli v362 c1_i32_196
  let v364 : BitVec 32 := Scalar.addi c0_i32_195 v363
  let c1_i32_198 : BitVec 32 := 1#32
  let arg18 : BitVec 32 := Scf.iv v364 c1_i32_198 k0_t34
  let v483 : Index := Scalar.indexCast arg18
  let c0_289 : Index := 0#32
  let c0_290 : Index := 0#32
  ![0, v483.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x80x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Post.lean ====
abbrev S8x2048x1024 : Shape := ⟨3, ![8, 2048, 1024]⟩
abbrev S8x2048x512 : Shape := ⟨3, ![8, 2048, 512]⟩
abbrev S8x2048x2048 : Shape := ⟨3, ![8, 2048, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S16384x1024 : Shape := ⟨2, ![16384, 1024]⟩
abbrev S16384x512 : Shape := ⟨2, ![16384, 512]⟩
abbrev S16384x2048 : Shape := ⟨2, ![16384, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S512x512 : Shape := ⟨2, ![512, 512]⟩
abbrev S512x2048 : Shape := ⟨2, ![512, 2048]⟩
abbrev S3 : Shape := ⟨1, ![3]⟩
abbrev S1 : Shape := ⟨1, ![1]⟩
abbrev S_ : Shape := ⟨0, ![]⟩
abbrev S512x256 : Shape := ⟨2, ![512, 256]⟩
abbrev S512 : Shape := ⟨1, ![512]⟩
abbrev S512x1 : Shape := ⟨2, ![512, 1]⟩
abbrev S1024x256 : Shape := ⟨2, ![1024, 256]⟩
abbrev S512x2816 : Shape := ⟨2, ![512, 2816]⟩

abbrev nBuf : Space → Nat
  | .hbm => 32
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S1024, .f32⟩
  | .hbm, ⟨12, _⟩ => ⟨S16384x1024, .f32⟩
  | .hbm, ⟨13, _⟩ => ⟨S16384x512, .bf16⟩
  | .hbm, ⟨14, _⟩ => ⟨S16384x512, .bf16⟩
  | .hbm, ⟨15, _⟩ => ⟨S16384x2048, .f32⟩
  | .hbm, ⟨16, _⟩ => ⟨S512x1024, .f32⟩
  | .hbm, ⟨17, _⟩ => ⟨S512x1024, .bf16⟩
  | .hbm, ⟨18, _⟩ => ⟨S512x1024, .f32⟩
  | .hbm, ⟨19, _⟩ => ⟨S512x1024, .bf16⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S1024x2816, .f32⟩
  | .hbm, ⟨25, _⟩ => ⟨S1024x2816, .bf16⟩
  | .hbm, ⟨26, _⟩ => ⟨S1024x2816, .f32⟩
  | .hbm, ⟨27, _⟩ => ⟨S1024x2816, .bf16⟩
  | .hbm, ⟨28, _⟩ => ⟨S2816x1024, .f32⟩
  | .hbm, ⟨29, _⟩ => ⟨S2816x1024, .bf16⟩
  | .hbm, ⟨30, _⟩ => ⟨S1x1024, .f32⟩
  | .hbm, ⟨31, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PostRefIdeal.lean ====
abbrev S8x2048x1024 : Shape := ⟨3, ![8, 2048, 1024]⟩
abbrev S8x2048x512 : Shape := ⟨3, ![8, 2048, 512]⟩
abbrev S8x2048x2048 : Shape := ⟨3, ![8, 2048, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2816 : Shape := ⟨2, ![1024, 2816]⟩
abbrev S8x2048x2816 : Shape := ⟨3, ![8, 2048, 2816]⟩
abbrev S2816x1024 : Shape := ⟨2, ![2816, 1024]⟩
abbrev S16384x1024 : Shape := ⟨2, ![16384, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S1024, .f32⟩
  | .hbm, ⟨12, _⟩ => ⟨S8x2048x512, .f32⟩
  | .hbm, ⟨13, _⟩ => ⟨S512x1024, .f32⟩
  | .hbm, ⟨14, _⟩ => ⟨S8x2048x1024, .f32⟩
  | .hbm, ⟨15, _⟩ => ⟨S8x2048x512, .f32⟩
  | .hbm, ⟨16, _⟩ => ⟨S512x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S1024x1024, .f32⟩
  | .hbm, ⟨24, _⟩ => ⟨S8x2048x1024, .f32⟩
  | .hbm, ⟨25, _⟩ => ⟨S8x2048x1024, .f32⟩
  | .hbm, ⟨26, _⟩ => ⟨S1024, .f32⟩
  | .hbm, ⟨27, _⟩ => ⟨S8x2048x1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S1024x2816, .f32⟩
  | .hbm, ⟨44, _⟩ => ⟨S8x2048x2816, .f32⟩
  | .hbm, ⟨45, _⟩ => ⟨S8x2048x2816, .f32⟩
  | .hbm, ⟨46, _⟩ => ⟨S8x2048x2816, .f32⟩
  | .hbm, ⟨47, _⟩ => ⟨S_, .f32⟩
  | .hbm, ⟨48, _⟩ => ⟨S8x2048x2816, .f32⟩
  | .hbm, ⟨49, _⟩ => ⟨S8x2048x2816, .f32⟩
  | .hbm, ⟨50, _⟩ => ⟨S_, .f32⟩
  | .hbm, ⟨51, _⟩ => ⟨S8x2048x2816, .f32⟩
  | .hbm, ⟨52, _⟩ => ⟨S8x2048x2816, .f32⟩
  | .hbm, ⟨53, _⟩ => ⟨S8x2048x2816, .f32⟩
  | .hbm, ⟨54, _⟩ => ⟨S1024x2816, .f32⟩
  | .hbm, ⟨55, _⟩ => ⟨S8x2048x2816, .f32⟩
  | .hbm, ⟨56, _⟩ => ⟨S8x2048x2816, .f32⟩
  | .hbm, ⟨57, _⟩ => ⟨S2816x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S_, .f32⟩
  | .hbm, ⟨62, _⟩ => ⟨S8x2048, .f32⟩
  | .hbm, ⟨63, _⟩ => ⟨S8x2048x1, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S_, .f32⟩
  | .hbm, ⟨68, _⟩ => ⟨S8x2048x1, .f32⟩
  | .hbm, ⟨69, _⟩ => ⟨S8x2048x1, .f32⟩
  | .hbm, ⟨70, _⟩ => ⟨S8x2048x1, .f32⟩
  | .hbm, ⟨71, _⟩ => ⟨S8x2048x1024, .f32⟩
  | .hbm, ⟨72, _⟩ => ⟨S8x2048x1024, .f32⟩
  | .hbm, ⟨73, _⟩ => ⟨S1x1x1024, .f32⟩
  | .hbm, ⟨74, _⟩ => ⟨S8x2048x1024, .f32⟩
  | .hbm, ⟨75, _⟩ => ⟨S8x2048x1024, .f32⟩
  | .hbm, ⟨76, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]
-- ==== Inproj.lean ====
abbrev S8x2048x1024 : Shape := ⟨3, ![8, 2048, 1024]⟩
abbrev S1x1024 : Shape := ⟨2, ![1, 1024]⟩
abbrev S1x1024x4296 : Shape := ⟨3, ![1, 1024, 4296]⟩
abbrev S1x2048 : Shape := ⟨2, ![1, 2048]⟩
abbrev S1x31x512 : Shape := ⟨3, ![1, 31, 512]⟩
abbrev S1x512 : Shape := ⟨2, ![1, 512]⟩
abbrev S1024x4296 : Shape := ⟨2, ![1024, 4296]⟩
abbrev S1024x1024 : Shape := ⟨2, ![1024, 1024]⟩
abbrev S1024x2048 : Shape := ⟨2, ![1024, 2048]⟩
abbrev S1024x64 : Shape := ⟨2, ![1024, 64]⟩
abbrev S1024x128 : Shape := ⟨2, ![1024, 128]⟩
abbrev S1024x512 : Shape := ⟨2, ![1024, 512]⟩
abbrev S_ : Shape := ⟨0, ![]⟩
abbrev S1024x8 : Shape := ⟨2, ![1024, 8]⟩
abbrev S1024x56 : Shape := ⟨2, ![1024, 56]⟩
abbrev S1024x1152 : Shape := ⟨2, ![1024, 1152]⟩
abbrev S1152x1024 : Shape := ⟨2, ![1152, 1024]⟩
abbrev S1024 : Shape := ⟨1, ![1024]⟩
abbrev S2048 : Shape := ⟨1, ![2048]⟩
abbrev S31x512 : Shape := ⟨2, ![31, 512]⟩
abbrev S512 : Shape := ⟨1, ![512]⟩
abbrev S8x2048x512 : Shape := ⟨3, ![8, 2048, 512]⟩
abbrev S8x2048x2048 : Shape := ⟨3, ![8, 2048, 2048]⟩
abbrev S8x2048x128 : Shape := ⟨3, ![8, 2048, 128]⟩
abbrev S8x2048x64 : Shape := ⟨3, ![8, 2048, 64]⟩
abbrev S8x512x2048 : Shape := ⟨3, ![8, 512, 2048]⟩
abbrev S8x8x80x256 : Shape := ⟨4, ![8, 8, 80, 256]⟩
abbrev S8x8x2048 : Shape := ⟨3, ![8, 8, 2048]⟩
abbrev S1x512x1024 : Shape := ⟨3, ![1, 512, 1024]⟩
abbrev S1x512x512 : Shape := ⟨3, ![1, 512, 512]⟩
abbrev S1x512x2048 : Shape := ⟨3, ![1, 512, 2048]⟩
abbrev S1x512x128 : Shape := ⟨3, ![1, 512, 128]⟩
abbrev S1x512x64 : Shape := ⟨3, ![1, 512, 64]⟩
abbrev S1x2x80x256 : Shape := ⟨4, ![1, 2, 80, 256]⟩
abbrev S1x8x512 : Shape := ⟨3, ![1, 8, 512]⟩
abbrev S4x544x128 : Shape := ⟨3, ![4, 544, 128]⟩
abbrev S512x1024 : Shape := ⟨2, ![512, 1024]⟩
abbrev S512x1 : Shape := ⟨2, ![512, 1]⟩
abbrev S4x32x128 : Shape := ⟨3, ![4, 32, 128]⟩
abbrev S1024x256 : Shape := ⟨2, ![1024, 256]⟩
abbrev S512x256 : Shape := ⟨2, ![512, 256]⟩
abbrev S512x128 : Shape := ⟨2, ![512, 128]⟩
abbrev S256x128 : Shape := ⟨2, ![256, 128]⟩
abbrev S1x128 : Shape := ⟨2, ![1, 128]⟩
abbrev S1x256x128 : Shape := ⟨3, ![1, 256, 128]⟩
abbrev S256x512 : Shape := ⟨2, ![256, 512]⟩
abbrev S256 : Shape := ⟨1, ![256]⟩
abbrev S256x1 : Shape := ⟨2, ![256, 1]⟩
abbrev S1x256x512 : Shape := ⟨3, ![1, 256, 512]⟩
abbrev S512x2048 : Shape := ⟨2, ![512, 2048]⟩
abbrev S512x64 : Shape := ⟨2, ![512, 64]⟩
abbrev S16x256 : Shape := ⟨2, ![16, 256]⟩
abbrev S256x1024 : Shape := ⟨2, ![256, 1024]⟩
abbrev S1152x256 : Shape := ⟨2, ![1152, 256]⟩
abbrev S1x512x256 : Shape := ⟨3, ![1, 512, 256]⟩
abbrev S64x256 : Shape := ⟨2, ![64, 256]⟩
abbrev S1x1x64x256 : Shape := ⟨4, ![1, 1, 64, 256]⟩
abbrev S1x1x16x256 : Shape := ⟨4, ![1, 1, 16, 256]⟩
abbrev S8x256 : Shape := ⟨2, ![8, 256]⟩
abbrev S1x8x256 : Shape := ⟨3, ![1, 8, 256]⟩

abbrev nBuf : Space → Nat
  | .hbm => 51
  | .vmem => 29
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x4296, .f32⟩
  | .hbm, ⟨3, _⟩ => ⟨S1x2048, .f32⟩
  | .hbm, ⟨4, _⟩ => ⟨S1x31x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1024x4296, .f32⟩
  | .hbm, ⟨9, _⟩ => ⟨S1024x1024, .f32⟩
  | .hbm, ⟨10, _⟩ => ⟨S1024x1024, .bf16⟩
  | .hbm, ⟨11, _⟩ => ⟨S1024x2048, .f32⟩
  | .hbm, ⟨12, _⟩ => ⟨S1024x2048, .bf16⟩
  | .hbm, ⟨13, _⟩ => ⟨S1024x64, .f32⟩
  | .hbm, ⟨14, _⟩ => ⟨S1024x64, .f32⟩
  | .hbm, ⟨15, _⟩ => ⟨S1024x128, .f32⟩
  | .hbm, ⟨16, _⟩ => ⟨S1024x128, .bf16⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x64, .f32⟩
  | .hbm, ⟨26, _⟩ => ⟨S1024x8, .f32⟩
  | .hbm, ⟨27, _⟩ => ⟨S_, .f32⟩
  | .hbm, ⟨28, _⟩ => ⟨S1024x56, .f32⟩
  | .hbm, ⟨29, _⟩ => ⟨S1024x1152, .f32⟩
  | .hbm, ⟨30, _⟩ => ⟨S1152x1024, .f32⟩
  | .hbm, ⟨31, _⟩ => ⟨S1152x1024, .bf16⟩
  | .hbm, ⟨32, _⟩ => ⟨S1024, .f32⟩
  | .hbm, ⟨33, _⟩ => ⟨S1x1024, .f32⟩
  | .hbm, ⟨34, _⟩ => ⟨S2048, .f32⟩
  | .hbm, ⟨35, _⟩ => ⟨S1x2048, .f32⟩
  | .hbm, ⟨36, _⟩ => ⟨S31x512, .f32⟩
  | .hbm, ⟨37, _⟩ => ⟨S512, .f32⟩
  | .hbm, ⟨38, _⟩ => ⟨S1x512, .f32⟩
  | .hbm, ⟨39, _⟩ => ⟨S512, .f32⟩
  | .hbm, ⟨40, _⟩ => ⟨S1x512, .f32⟩
  | .hbm, ⟨41, _⟩ => ⟨S512, .f32⟩
  | .hbm, ⟨42, _⟩ => ⟨S1x512, .f32⟩
  | .hbm, ⟨43, _⟩ => ⟨S8x2048x512, .bf16⟩
  | .hbm, ⟨44, _⟩ => ⟨S8x2048x2048, .f32⟩
  | .hbm, ⟨45, _⟩ => ⟨S8x2048x128, .bf16⟩
  | .hbm, ⟨46, _⟩ => ⟨S8x2048x64, .bf16⟩
  | .hbm, ⟨47, _⟩ => ⟨S8x512x2048, .bf16⟩
  | .hbm, ⟨48, _⟩ => ⟨S8x512x2048, .bf16⟩
  | .hbm, ⟨49, _⟩ => ⟨S8x8x80x256, .bf16⟩
  | .hbm, ⟨50, _⟩ => ⟨S8x8x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x2048, .bf16⟩
  | .local _ .vmem, ⟨5, _⟩ => ⟨S1x2048, .f32⟩
  | .local _ .vmem, ⟨6, _⟩ => ⟨S1024x128, .bf16⟩
  | .local _ .vmem, ⟨7, _⟩ => ⟨S1152x1024, .bf16⟩
  | .local _ .vmem, ⟨8, _⟩ => ⟨S31x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512x512, .bf16⟩
  | .local _ .vmem, ⟨13, _⟩ => ⟨S1x512x512, .bf16⟩
  | .local _ .vmem, ⟨14, _⟩ => ⟨S1x512x2048, .f32⟩
  | .local _ .vmem, ⟨15, _⟩ => ⟨S1x512x2048, .f32⟩
  | .local _ .vmem, ⟨16, _⟩ => ⟨S1x512x128, .bf16⟩
  | .local _ .vmem, ⟨17, _⟩ => ⟨S1x512x128, .bf16⟩
  | .local _ .vmem, ⟨18, _⟩ => ⟨S1x512x64, .bf16⟩
  | .local _ .vmem, ⟨19, _⟩ => ⟨S1x512x64, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x2x80x256, .bf16⟩
  | .local _ .vmem, ⟨25, _⟩ => ⟨S1x2x80x256, .bf16⟩
  | .local _ .vmem, ⟨26, _⟩ => ⟨S1x8x512, .f32⟩
  | .local _ .vmem, ⟨27, _⟩ => ⟨S1x8x512, .f32⟩
  | .local _ .vmem, ⟨28, _⟩ => ⟨S4x544x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32_0 : Ref sig .tc := ⟨.hbm, 43, rfl⟩
abbrev main_v32_1 : Ref sig .tc := ⟨.hbm, 44, rfl⟩
abbrev main_v32_2 : Ref sig .tc := ⟨.hbm, 45, rfl⟩
abbrev main_v32_3 : Ref sig .tc := ⟨.hbm, 46, rfl⟩
abbrev main_v32_4 : Ref sig .tc := ⟨.hbm, 47, rfl⟩
abbrev main_v32_5 : Ref sig .tc := ⟨.hbm, 48, rfl⟩
abbrev main_v32_6 : Ref sig .tc := ⟨.hbm, 49, rfl⟩
abbrev main_v32_7 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1152x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S31x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x80x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== InprojRefIdeal.lean ====
abbrev S8x2048x1024 : Shape := ⟨3, ![8, 2048, 1024]⟩
abbrev S1x1024 : Shape := ⟨2, ![1, 1024]⟩
abbrev S1x1024x4296 : Shape := ⟨3, ![1, 1024, 4296]⟩
abbrev S1x2048 : Shape := ⟨2, ![1, 2048]⟩
abbrev S1x31x512 : Shape := ⟨3, ![1, 31, 512]⟩
abbrev S1x512 : Shape := ⟨2, ![1, 512]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x4296 : Shape := ⟨2, ![1024, 4296]⟩
abbrev S8x2048x4296 : Shape := ⟨3, ![8, 2048, 4296]⟩
abbrev S8x2048x512 : Shape := ⟨3, ![8, 2048, 512]⟩
abbrev S8x2078x512 : Shape := ⟨3, ![8, 2078, 512]⟩
abbrev S512 : Shape := ⟨1, ![512]⟩
abbrev S1x1x512 : Shape := ⟨3, ![1, 1, 512]⟩
abbrev S8x2048x64 : Shape := ⟨3, ![8, 2048, 64]⟩
abbrev S8x2048x8 : Shape := ⟨3, ![8, 2048, 8]⟩
abbrev S8x2048x2048 : Shape := ⟨3, ![8, 2048, 2048]⟩
abbrev S2048 : Shape := ⟨1, ![2048]⟩
abbrev S1x1x2048 : Shape := ⟨3, ![1, 1, 2048]⟩
abbrev S8x512x2048 : Shape := ⟨3, ![8, 512, 2048]⟩
abbrev S8x8x2048 : Shape := ⟨3, ![8, 8, 2048]⟩
abbrev S8x2048x3 : Shape := ⟨3, ![8, 2048, 3]⟩
abbrev S8x2048x58 : Shape := ⟨3, ![8, 2048, 58]⟩
abbrev S8x2048x128 : Shape := ⟨3, ![8, 2048, 128]⟩
abbrev S8x2048x80 : Shape := ⟨3, ![8, 2048, 80]⟩
abbrev S8x8x256x80 : Shape := ⟨4, ![8, 8, 256, 80]⟩
abbrev S8x8x80x256 : Shape := ⟨4, ![8, 8, 80, 256]⟩

abbrev nBuf : Space → Nat
  | .hbm => 392
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x4296, .f32⟩
  | 3 => ⟨S1x2048, .f32⟩
  | 4 => ⟨S1x31x512, .f32⟩
  | 5 => ⟨S1x512, .f32⟩
  | 6 => ⟨S1x512, .f32⟩
  | 7 => ⟨S1x512, .f32⟩
  | 8 => ⟨S1024, .f32⟩
  | 9 => ⟨S8x2048x1024, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x1024, .f32⟩
  | 21 => ⟨S8x2048x1024, .f32⟩
  | 22 => ⟨S1x1x1024, .f32⟩
  | 23 => ⟨S8x2048x1024, .f32⟩
  | 24 => ⟨S8x2048x1024, .f32⟩
  | 25 => ⟨S1024x4296, .f32⟩
  | 26 => ⟨S8x2048x4296, .f32⟩
  | 27 => ⟨S8x2048x512, .f32⟩
  | 28 => ⟨S8x2048x512, .f32⟩
  | 29 => ⟨S8x2048x512, .f32⟩
  | 30 => ⟨S8x2048x512, .f32⟩
  | 31 => ⟨S_, .f32⟩
  | 32 => ⟨S8x2048x512, .f32⟩
  | 33 => ⟨S8x2048x512, .f32⟩
  | 34 => ⟨S_, .f32⟩
  | 35 => ⟨S8x2048x512, .f32⟩
  | 36 => ⟨S8x2048x512, .f32⟩
  | 37 => ⟨S8x2048x512, .f32⟩
  | 38 => ⟨S_, .i32⟩
  | 39 => ⟨S_, .f32⟩
  | 40 => ⟨S8x2078x512, .f32⟩
  | 41 => ⟨S512, .f32⟩
  | 42 => ⟨S1x1x512, .f32⟩
  | 43 => ⟨S512, .f32⟩
  | 44 => ⟨S8x2048x512, .f32⟩
  | 45 => ⟨S1x1x512, .f32⟩
  | 46 => ⟨S8x2048x512, .f32⟩
  | 47 => ⟨S8x2048x512, .f32⟩
  | 48 => ⟨S_, .f32⟩
  | 49 => ⟨S8x2048x512, .f32⟩
  | 50 => ⟨S8x2048x512, .f32⟩
  | 51 => ⟨S1x1x512, .f32⟩
  | 52 => ⟨S512, .f32⟩
  | 53 => ⟨S8x2048x512, .f32⟩
  | 54 => ⟨S1x1x512, .f32⟩
  | 55 => ⟨S8x2048x512, .f32⟩
  | 56 => ⟨S8x2048x512, .f32⟩
  | 57 => ⟨S8x2048x512, .f32⟩
  | 58 => ⟨S1x1x512, .f32⟩
  | 59 => ⟨S512, .f32⟩
  | 60 => ⟨S8x2048x512, .f32⟩
  | 61 => ⟨S1x1x512, .f32⟩
  | 62 => ⟨S8x2048x512, .f32⟩
  | 63 => ⟨S8x2048x512, .f32⟩
  | 64 => ⟨S8x2048x512, .f32⟩
  | 65 => ⟨S1x1x512, .f32⟩
  | 66 => ⟨S512, .f32⟩
  | 67 => ⟨S8x2048x512, .f32⟩
  | 68 => ⟨S1x1x512, .f32⟩
  | 69 => ⟨S8x2048x512, .f32⟩
  | 70 => ⟨S8x2048x512, .f32⟩
  | 71 => ⟨S8x2048x512, .f32⟩
  | 72 => ⟨S1x1x512, .f32⟩
  | 73 => ⟨S512, .f32⟩
  | 74 => ⟨S8x2048x512, .f32⟩
  | 75 => ⟨S1x1x512, .f32⟩
  | 76 => ⟨S8x2048x512, .f32⟩
  | 77 => ⟨S8x2048x512, .f32⟩
  | 78 => ⟨S8x2048x512, .f32⟩
  | 79 => ⟨S1x1x512, .f32⟩
  | 80 => ⟨S512, .f32⟩
  | 81 => ⟨S8x2048x512, .f32⟩
  | 82 => ⟨S1x1x512, .f32⟩
  | 83 => ⟨S8x2048x512, .f32⟩
  | 84 => ⟨S8x2048x512, .f32⟩
  | 85 => ⟨S8x2048x512, .f32⟩
  | 86 => ⟨S1x1x512, .f32⟩
  | 87 => ⟨S512, .f32⟩
  | 88 => ⟨S8x2048x512, .f32⟩
  | 89 => ⟨S1x1x512, .f32⟩
  | 90 => ⟨S8x2048x512, .f32⟩
  | 91 => ⟨S8x2048x512, .f32⟩
  | 92 => ⟨S8x2048x512, .f32⟩
  | 93 => ⟨S1x1x512, .f32⟩
  | 94 => ⟨S512, .f32⟩
  | 95 => ⟨S8x2048x512, .f32⟩
  | 96 => ⟨S1x1x512, .f32⟩
  | 97 => ⟨S8x2048x512, .f32⟩
  | 98 => ⟨S8x2048x512, .f32⟩
  | 99 => ⟨S8x2048x512, .f32⟩
  | 100 => ⟨S1x1x512, .f32⟩
  | 101 => ⟨S512, .f32⟩
  | 102 => ⟨S8x2048x512, .f32⟩
  | 103 => ⟨S1x1x512, .f32⟩
  | 104 => ⟨S8x2048x512, .f32⟩
  | 105 => ⟨S8x2048x512, .f32⟩
  | 106 => ⟨S8x2048x512, .f32⟩
  | 107 => ⟨S1x1x512, .f32⟩
  | 108 => ⟨S512, .f32⟩
  | 109 => ⟨S8x2048x512, .f32⟩
  | 110 => ⟨S1x1x512, .f32⟩
  | 111 => ⟨S8x2048x512, .f32⟩
  | 112 => ⟨S8x2048x512, .f32⟩
  | 113 => ⟨S8x2048x512, .f32⟩
  | 114 => ⟨S1x1x512, .f32⟩
  | 115 => ⟨S512, .f32⟩
  | 116 => ⟨S8x2048x512, .f32⟩
  | 117 => ⟨S1x1x512, .f32⟩
  | 118 => ⟨S8x2048x512, .f32⟩
  | 119 => ⟨S8x2048x512, .f32⟩
  | 120 => ⟨S8x2048x512, .f32⟩
  | 121 => ⟨S1x1x512, .f32⟩
  | 122 => ⟨S512, .f32⟩
  | 123 => ⟨S8x2048x512, .f32⟩
  | 124 => ⟨S1x1x512, .f32⟩
  | 125 => ⟨S8x2048x512, .f32⟩
  | 126 => ⟨S8x2048x512, .f32⟩
  | 127 => ⟨S8x2048x512, .f32⟩
  | _ => ⟨S8x2048x1024, .f32⟩

abbrev hbmTy0_1 (i : Nat) : BufTy := match i % 128 with
  | 0 => ⟨S1x1x512, .f32⟩
  | 1 => ⟨S512, .f32⟩
  | 2 => ⟨S8x2048x512, .f32⟩
  | 3 => ⟨S1x1x512, .f32⟩
  | 4 => ⟨S8x2048x512, .f32⟩
  | 5 => ⟨S8x2048x512, .f32⟩
  | 6 => ⟨S8x2048x512, .f32⟩
  | 7 => ⟨S1x1x512, .f32⟩
  | 8 => ⟨S512, .f32⟩
  | 9 => ⟨S8x2048x512, .f32⟩
  | 10 => ⟨S1x1x512, .f32⟩
  | 11 => ⟨S8x2048x512, .f32⟩
  | 12 => ⟨S8x2048x512, .f32⟩
  | 13 => ⟨S8x2048x512, .f32⟩
  | 14 => ⟨S1x1x512, .f32⟩
  | 15 => ⟨S512, .f32⟩
  | 16 => ⟨S8x2048x512, .f32⟩
  | 17 => ⟨S1x1x512, .f32⟩
  | 18 => ⟨S8x2048x512, .f32⟩
  | 19 => ⟨S8x2048x512, .f32⟩
  | 20 => ⟨S8x2048x512, .f32⟩
  | 21 => ⟨S1x1x512, .f32⟩
  | 22 => ⟨S512, .f32⟩
  | 23 => ⟨S8x2048x512, .f32⟩
  | 24 => ⟨S1x1x512, .f32⟩
  | 25 => ⟨S8x2048x512, .f32⟩
  | 26 => ⟨S8x2048x512, .f32⟩
  | 27 => ⟨S8x2048x512, .f32⟩
  | 28 => ⟨S1x1x512, .f32⟩
  | 29 => ⟨S512, .f32⟩
  | 30 => ⟨S8x2048x512, .f32⟩
  | 31 => ⟨S1x1x512, .f32⟩
  | 32 => ⟨S8x2048x512, .f32⟩
  | 33 => ⟨S8x2048x512, .f32⟩
  | 34 => ⟨S8x2048x512, .f32⟩
  | 35 => ⟨S1x1x512, .f32⟩
  | 36 => ⟨S512, .f32⟩
  | 37 => ⟨S8x2048x512, .f32⟩
  | 38 => ⟨S1x1x512, .f32⟩
  | 39 => ⟨S8x2048x512, .f32⟩
  | 40 => ⟨S8x2048x512, .f32⟩
  | 41 => ⟨S8x2048x512, .f32⟩
  | 42 => ⟨S1x1x512, .f32⟩
  | 43 => ⟨S512, .f32⟩
  | 44 => ⟨S8x2048x512, .f32⟩
  | 45 => ⟨S1x1x512, .f32⟩
  | 46 => ⟨S8x2048x512, .f32⟩
  | 47 => ⟨S8x2048x512, .f32⟩
  | 48 => ⟨S8x2048x512, .f32⟩
  | 49 => ⟨S1x1x512, .f32⟩
  | 50 => ⟨S512, .f32⟩
  | 51 => ⟨S8x2048x512, .f32⟩
  | 52 => ⟨S1x1x512, .f32⟩
  | 53 => ⟨S8x2048x512, .f32⟩
  | 54 => ⟨S8x2048x512, .f32⟩
  | 55 => ⟨S8x2048x512, .f32⟩
  | 56 => ⟨S1x1x512, .f32⟩
  | 57 => ⟨S512, .f32⟩
  | 58 => ⟨S8x2048x512, .f32⟩
  | 59 => ⟨S1x1x512, .f32⟩
  | 60 => ⟨S8x2048x512, .f32⟩
  | 61 => ⟨S8x2048x512, .f32⟩
  | 62 => ⟨S8x2048x512, .f32⟩
  | 63 => ⟨S1x1x512, .f32⟩
  | 64 => ⟨S512, .f32⟩
  | 65 => ⟨S8x2048x512, .f32⟩
  | 66 => ⟨S1x1x512, .f32⟩
  | 67 => ⟨S8x2048x512, .f32⟩
  | 68 => ⟨S8x2048x512, .f32⟩
  | 69 => ⟨S8x2048x512, .f32⟩
  | 70 => ⟨S1x1x512, .f32⟩
  | 71 => ⟨S512, .f32⟩
  | 72 => ⟨S8x2048x512, .f32⟩
  | 73 => ⟨S1x1x512, .f32⟩
  | 74 => ⟨S8x2048x512, .f32⟩
  | 75 => ⟨S8x2048x512, .f32⟩
  | 76 => ⟨S8x2048x512, .f32⟩
  | 77 => ⟨S1x1x512, .f32⟩
  | 78 => ⟨S512, .f32⟩
  | 79 => ⟨S8x2048x512, .f32⟩
  | 80 => ⟨S1x1x512, .f32⟩
  | 81 => ⟨S8x2048x512, .f32⟩
  | 82 => ⟨S8x2048x512, .f32⟩
  | 83 => ⟨S8x2048x512, .f32⟩
  | 84 => ⟨S1x1x512, .f32⟩
  | 85 => ⟨S512, .f32⟩
  | 86 => ⟨S8x2048x512, .f32⟩
  | 87 => ⟨S1x1x512, .f32⟩
  | 88 => ⟨S8x2048x512, .f32⟩
  | 89 => ⟨S8x2048x512, .f32⟩
  | 90 => ⟨S8x2048x512, .f32⟩
  | 91 => ⟨S1x1x512, .f32⟩
  | 92 => ⟨S512, .f32⟩
  | 93 => ⟨S8x2048x512, .f32⟩
  | 94 => ⟨S1x1x512, .f32⟩
  | 95 => ⟨S8x2048x512, .f32⟩
  | 96 => ⟨S8x2048x512, .f32⟩
  | 97 => ⟨S8x2048x512, .f32⟩
  | 98 => ⟨S1x1x512, .f32⟩
  | 99 => ⟨S512, .f32⟩
  | 100 => ⟨S8x2048x512, .f32⟩
  | 101 => ⟨S1x1x512, .f32⟩
  | 102 => ⟨S8x2048x512, .f32⟩
  | 103 => ⟨S8x2048x512, .f32⟩
  | 104 => ⟨S8x2048x512, .f32⟩
  | 105 => ⟨S1x1x512, .f32⟩
  | 106 => ⟨S512, .f32⟩
  | 107 => ⟨S8x2048x512, .f32⟩
  | 108 => ⟨S1x1x512, .f32⟩
  | 109 => ⟨S8x2048x512, .f32⟩
  | 110 => ⟨S8x2048x512, .f32⟩
  | 111 => ⟨S8x2048x512, .f32⟩
  | 112 => ⟨S1x1x512, .f32⟩
  | 113 => ⟨S512, .f32⟩
  | 114 => ⟨S8x2048x512, .f32⟩
  | 115 => ⟨S1x1x512, .f32⟩
  | 116 => ⟨S8x2048x512, .f32⟩
  | 117 => ⟨S8x2048x512, .f32⟩
  | 118 => ⟨S8x2048x512, .f32⟩
  | 119 => ⟨S1x1x512, .f32⟩
  | 120 => ⟨S512, .f32⟩
  | 121 => ⟨S8x2048x512, .f32⟩
  | 122 => ⟨S1x1x512, .f32⟩
  | 123 => ⟨S8x2048x512, .f32⟩
  | 124 => ⟨S8x2048x512, .f32⟩
  | 125 => ⟨S8x2048x512, .f32⟩
  | 126 => ⟨S1x1x512, .f32⟩
  | 127 => ⟨S512, .f32⟩
  | _ => ⟨S8x2048x1024, .f32⟩

abbrev hbmTy0_2 (i : Nat) : BufTy := match i % 128 with
  | 0 => ⟨S8x2048x512, .f32⟩
  | 1 => ⟨S1x1x512, .f32⟩
  | 2 => ⟨S8x2048x512, .f32⟩
  | 3 => ⟨S8x2048x512, .f32⟩
  | 4 => ⟨S8x2048x512, .f32⟩
  | 5 => ⟨S1x1x512, .f32⟩
  | 6 => ⟨S8x2048x512, .f32⟩
  | 7 => ⟨S8x2048x512, .f32⟩
  | 8 => ⟨S512, .f32⟩
  | 9 => ⟨S512, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S8x2048x512, .f32⟩
  | 17 => ⟨S8x2048x512, .f32⟩
  | 18 => ⟨S8x2048x512, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S_, .f32⟩
  | 26 => ⟨S8x2048x1, .f32⟩
  | 27 => ⟨S8x2048x1, .f32⟩
  | 28 => ⟨S8x2048x1, .f32⟩
  | 29 => ⟨S8x2048x512, .f32⟩
  | 30 => ⟨S8x2048x512, .f32⟩
  | 31 => ⟨S1x1x512, .f32⟩
  | 32 => ⟨S8x2048x512, .f32⟩
  | 33 => ⟨S8x2048x512, .f32⟩
  | 34 => ⟨S1x1x512, .f32⟩
  | 35 => ⟨S8x2048x512, .f32⟩
  | 36 => ⟨S8x2048x512, .f32⟩
  | 37 => ⟨S8x2048x512, .f32⟩
  | 38 => ⟨S8x2048x512, .f32⟩
  | 39 => ⟨S_, .f32⟩
  | 40 => ⟨S8x2048x512, .f32⟩
  | 41 => ⟨S8x2048x512, .f32⟩
  | 42 => ⟨S_, .f32⟩
  | 43 => ⟨S8x2048x512, .f32⟩
  | 44 => ⟨S8x2048x512, .f32⟩
  | 45 => ⟨S8x2048x512, .f32⟩
  | 46 => ⟨S8x2048x512, .f32⟩
  | 47 => ⟨S8x2048x64, .f32⟩
  | 48 => ⟨S8x2048x64, .f32⟩
  | 49 => ⟨S8x2048x512, .f32⟩
  | 50 => ⟨S8x2048x64, .f32⟩
  | 51 => ⟨S8x2048x8, .f32⟩
  | 52 => ⟨S8x2048x2048, .f32⟩
  | 53 => ⟨S2048, .f32⟩
  | 54 => ⟨S1x1x2048, .f32⟩
  | 55 => ⟨S8x2048x2048, .f32⟩
  | 56 => ⟨S8x2048x2048, .f32⟩
  | 57 => ⟨S8x2048x2048, .f32⟩
  | 58 => ⟨S8x2048x2048, .f32⟩
  | 59 => ⟨S_, .f32⟩
  | 60 => ⟨S8x2048x2048, .f32⟩
  | 61 => ⟨S8x2048x2048, .f32⟩
  | 62 => ⟨S_, .f32⟩
  | 63 => ⟨S8x2048x2048, .f32⟩
  | 64 => ⟨S8x2048x2048, .f32⟩
  | 65 => ⟨S_, .f32⟩
  | 66 => ⟨S8x2048x512, .f32⟩
  | 67 => ⟨S8x2048x512, .f32⟩
  | 68 => ⟨S8x512x2048, .f32⟩
  | 69 => ⟨S_, .f32⟩
  | 70 => ⟨S8x2048x512, .f32⟩
  | 71 => ⟨S8x2048x512, .f32⟩
  | 72 => ⟨S8x512x2048, .f32⟩
  | 73 => ⟨S_, .f32⟩
  | 74 => ⟨S8x2048x8, .f32⟩
  | 75 => ⟨S8x2048x8, .f32⟩
  | 76 => ⟨S8x8x2048, .f32⟩
  | 77 => ⟨S8x2048x3, .i32⟩
  | 78 => ⟨S_, .i32⟩
  | 79 => ⟨S_, .i32⟩
  | 80 => ⟨S8x2048x3, .i32⟩
  | 81 => ⟨S8x2048x3, .i32⟩
  | 82 => ⟨S8x2048x3, .i32⟩
  | 83 => ⟨S_, .i32⟩
  | 84 => ⟨S8x2048x3, .i32⟩
  | 85 => ⟨S8x2048x3, .i1⟩
  | 86 => ⟨S8x2048x3, .i32⟩
  | 87 => ⟨S8x2048x3, .i32⟩
  | 88 => ⟨S_, .i32⟩
  | 89 => ⟨S8x2048x3, .i32⟩
  | 90 => ⟨S8x2048x3, .i1⟩
  | 91 => ⟨S8x2048x3, .i1⟩
  | 92 => ⟨S_, .i32⟩
  | 93 => ⟨S8x2048x3, .i32⟩
  | 94 => ⟨S8x2048x3, .i32⟩
  | 95 => ⟨S8x2048x3, .i32⟩
  | 96 => ⟨S8x2048x3, .f32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S8x2048x3, .i32⟩
  | 104 => ⟨S8x2048x3, .i32⟩
  | 105 => ⟨S_, .i32⟩
  | 106 => ⟨S8x2048x3, .i32⟩
  | 107 => ⟨S8x2048x3, .i1⟩
  | 108 => ⟨S_, .i32⟩
  | 109 => ⟨S8x2048x3, .i32⟩
  | 110 => ⟨S8x2048x3, .i1⟩
  | 111 => ⟨S_, .i32⟩
  | 112 => ⟨S_, .i1⟩
  | 113 => ⟨S8x2048x3, .i1⟩
  | 114 => ⟨S8x2048x3, .i1⟩
  | 115 => ⟨S8x2048x3, .i1⟩
  | 116 => ⟨S8x2048x3, .i32⟩
  | 117 => ⟨S8x2048x3, .i32⟩
  | 118 => ⟨S8x2048x3, .i32⟩
  | 119 => ⟨S8x2048x3, .f32⟩
  | 120 => ⟨S_, .f32⟩
  | 121 => ⟨S8x2048x58, .f32⟩
  | 122 => ⟨S8x2048x128, .f32⟩
  | 123 => ⟨S_, .f32⟩
  | 124 => ⟨S8x2048x8, .f32⟩
  | 125 => ⟨S_, .f32⟩
  | 126 => ⟨S8x2048x8, .f32⟩
  | 127 => ⟨S8x2048x80, .f32⟩
  | _ => ⟨S8x2048x1024, .f32⟩

abbrev hbmTy0_3 (i : Nat) : BufTy := match i % 128 with
  | 0 => ⟨S8x8x256x80, .f32⟩
  | 1 => ⟨S8x8x80x256, .f32⟩
  | 2 => ⟨S8x2048x512, .bf16⟩
  | 3 => ⟨S8x2048x128, .bf16⟩
  | 4 => ⟨S8x2048x64, .bf16⟩
  | 5 => ⟨S8x512x2048, .bf16⟩
  | 6 => ⟨S8x512x2048, .bf16⟩
  | 7 => ⟨S8x8x80x256, .bf16⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_cst_5 : Ref sig .tc := ⟨.hbm, 266, rfl⟩
abbrev main_v250 : Ref sig .tc := ⟨.hbm, 267, rfl⟩
abbrev main_v251 : Ref sig .tc := ⟨.hbm, 268, rfl⟩
abbrev main_cst_6 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_v256 : Ref sig .tc := ⟨.hbm, 274, rfl⟩
abbrev main_cst_7 : Ref sig .tc := ⟨.hbm, 275, rfl⟩
abbrev main_v257 : Ref sig .tc := ⟨.hbm, 276, rfl⟩
abbrev main_v258 : Ref sig .tc := ⟨.hbm, 277, rfl⟩
abbrev main_cst_8 : Ref sig .tc := ⟨.hbm, 278, rfl⟩
abbrev main_v259 : Ref sig .tc := ⟨.hbm, 279, rfl⟩
abbrev main_v260 : Ref sig .tc := ⟨.hbm, 280, rfl⟩
abbrev main_cst_9 : Ref sig .tc := ⟨.hbm, 281, rfl⟩
abbrev main_v261 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_v270 : Ref sig .tc := ⟨.hbm, 291, rfl⟩
abbrev main_v271 : Ref sig .tc := ⟨.hbm, 292, rfl⟩
abbrev main_call1_v0 : Ref sig .tc := ⟨.hbm, 293, rfl⟩
abbrev main_call1_v1 : Ref sig .tc := ⟨.hbm, 294, rfl⟩
abbrev main_call1_cst : Ref sig .tc := ⟨.hbm, 295, rfl⟩
abbrev main_call1_v2 : Ref sig .tc := ⟨.hbm, 296, rfl⟩
abbrev main_call1_v3 : Ref sig .tc := ⟨.hbm, 297, rfl⟩
abbrev main_call1_cst_0 : Ref sig .tc := ⟨.hbm, 298, rfl⟩
abbrev main_call1_v4 : Ref sig .tc := ⟨.hbm, 299, rfl⟩
abbrev main_call1_v5 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_v281 : Ref sig .tc := ⟨.hbm, 310, rfl⟩
abbrev main_v282 : Ref sig .tc := ⟨.hbm, 311, rfl⟩
abbrev main_v283 : Ref sig .tc := ⟨.hbm, 312, rfl⟩
abbrev main_v284 : Ref sig .tc := ⟨.hbm, 313, rfl⟩
abbrev main_v285 : Ref sig .tc := ⟨.hbm, 314, rfl⟩
abbrev main_cst_10 : Ref sig .tc := ⟨.hbm, 315, rfl⟩
abbrev main_v286 : Ref sig .tc := ⟨.hbm, 316, rfl⟩
abbrev main_v287 : Ref sig .tc := ⟨.hbm, 317, rfl⟩
abbrev main_cst_11 : Ref sig .tc := ⟨.hbm, 318, rfl⟩
abbrev main_v288 : Ref sig .tc := ⟨.hbm, 319, rfl⟩
abbrev main_v289 : Ref sig .tc := ⟨.hbm, 320, rfl⟩
abbrev main_cst_12 : Ref sig .tc := ⟨.hbm, 321, rfl⟩
abbrev main_v290 : Ref sig .tc := ⟨.hbm, 322, rfl⟩
abbrev main_v291 : Ref sig .tc := ⟨.hbm, 323, rfl⟩
abbrev main_v292 : Ref sig .tc := ⟨.hbm, 324, rfl⟩
abbrev main_cst_13 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_cst_14 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_c_15 : Ref sig .tc := ⟨.hbm, 334, rfl⟩
abbrev main_call2_v0 : Ref sig .tc := ⟨.hbm, 335, rfl⟩
abbrev main_call2_v1 : Ref sig .tc := ⟨.hbm, 336, rfl⟩
abbrev main_call2_v2 : Ref sig .tc := ⟨.hbm, 337, rfl⟩
abbrev main_call2_v3 : Ref sig .tc := ⟨.hbm, 338, rfl⟩
abbrev main_call2_v4 : Ref sig .tc := ⟨.hbm, 339, rfl⟩
abbrev main_call2_v5 : Ref sig .tc := ⟨.hbm, 340, rfl⟩
abbrev main_call2_v6 : Ref sig .tc := ⟨.hbm, 341, rfl⟩
abbrev main_call2_v7 : Ref sig .tc := ⟨.hbm, 342, rfl⟩
abbrev main_call2_v8 : Ref sig .tc := ⟨.hbm, 343, rfl⟩
abbrev main_call2_c : Ref sig .tc := ⟨.hbm, 344, rfl⟩
abbrev main_call2_v9 : Ref sig .tc := ⟨.hbm, 345, rfl⟩
abbrev main_call2_v10 : Ref sig .tc := ⟨.hbm, 346, rfl⟩
abbrev main_call2_v11 : Ref sig .tc := ⟨.hbm, 347, rfl⟩
abbrev main_call2_c_0 : Ref sig .tc := ⟨.hbm, 348, rfl⟩
abbrev main_call2_v12 : Ref sig .tc := ⟨.hbm, 349, rfl⟩
abbrev main_call2_v13 : Ref sig .tc := ⟨.hbm, 350, rfl⟩
abbrev main_v300 : Ref sig .tc := ⟨.hbm, 351, rfl⟩
abbrev main_v301 : Ref sig .tc := ⟨.hbm, 352, rfl⟩
abbrev main_c_16 : Ref sig .tc := ⟨.hbm, 353, rfl⟩
abbrev main_call3_v0 : Ref sig .tc := ⟨.hbm, 354, rfl⟩
abbrev main_call3_c : Ref sig .tc := ⟨.hbm, 355, rfl⟩
abbrev main_call3_v1 : Ref sig .tc := ⟨.hbm, 356, rfl⟩
abbrev main_call3_c_0 : Ref sig .tc := ⟨.hbm, 357, rfl⟩
abbrev main_call3_v2 : Ref sig .tc := ⟨.hbm, 358, rfl⟩
abbrev main_call3_v3 : Ref sig .tc := ⟨.hbm, 359, rfl⟩
abbrev main_call3_v4 : Ref sig .tc := ⟨.hbm, 360, rfl⟩
abbrev main_call3_c_1 : Ref sig .tc := ⟨.hbm, 361, rfl⟩
abbrev main_call3_v5 : Ref sig .tc := ⟨.hbm, 362, rfl⟩
abbrev main_call3_v6 : Ref sig .tc := ⟨.hbm, 363, rfl⟩
abbrev main_call3_c_2 : Ref sig .tc := ⟨.hbm, 364, rfl⟩
abbrev main_call3_v7 : Ref sig .tc := ⟨.hbm, 365, rfl⟩
abbrev main_call3_v8 : Ref sig .tc := ⟨.hbm, 366, rfl⟩
abbrev main_call3_c_3 : Ref sig .tc := ⟨.hbm, 367, rfl⟩
abbrev main_call3_v9 : Ref sig .tc := ⟨.hbm, 368, rfl⟩
abbrev main_call3_v10 : Ref sig .tc := ⟨.hbm, 369, rfl⟩
abbrev main_call3_v11 : Ref sig .tc := ⟨.hbm, 370, rfl⟩
abbrev main_call3_v12 : Ref sig .tc := ⟨.hbm, 371, rfl⟩
abbrev main_call3_v13 : Ref sig .tc := ⟨.hbm, 372, rfl⟩
abbrev main_call3_v14 : Ref sig .tc := ⟨.hbm, 373, rfl⟩
abbrev main_v302 : Ref sig .tc := ⟨.hbm, 374, rfl⟩
abbrev main_v303 : Ref sig .tc := ⟨.hbm, 375, rfl⟩
abbrev main_cst_17 : Ref sig .tc := ⟨.hbm, 376, rfl⟩
abbrev main_v304 : Ref sig .tc := ⟨.hbm, 377, rfl⟩
abbrev main_v305 : Ref sig .tc := ⟨.hbm, 378, rfl⟩
abbrev main_cst_18 : Ref sig .tc := ⟨.hbm, 379, rfl⟩
abbrev main_v306 : Ref sig .tc := ⟨.hbm, 380, rfl⟩
abbrev main_cst_19 : Ref sig .tc := ⟨.hbm, 381, rfl⟩
abbrev main_v307 : Ref sig .tc := ⟨.hbm, 382, rfl⟩
abbrev main_v308 : Ref sig .tc := ⟨.hbm, 383, rfl⟩
abbrev main_v309 : Ref sig .tc := ⟨.hbm, 384, rfl⟩
abbrev main_v310 : Ref sig .tc := ⟨.hbm, 385, rfl⟩
abbrev main_v311 : Ref sig .tc := ⟨.hbm, 386, rfl⟩
abbrev main_v312 : Ref sig .tc := ⟨.hbm, 387, rfl⟩
abbrev main_v313 : Ref sig .tc := ⟨.hbm, 388, rfl⟩
abbrev main_v314 : Ref sig .tc := ⟨.hbm, 389, rfl⟩
abbrev main_v315 : Ref sig .tc := ⟨.hbm, 390, rfl⟩
abbrev main_v316 : Ref sig .tc := ⟨.hbm, 391, rfl⟩

abbrev nD : Nat := 1
abbrev τ : Topo := Topo.v7x

variable {F : FTy → Type} [FloatOps F]
-- ==== Proof.Keep.lean ====
/- Programs that keep what they hold: a program that only loads and stores inside the buffers an assertion holds ends
   with the assertion again, whatever it computes. One lemma for each kind of statement; a kernel's body is then gone
   through statement by statement, without a word on its values. -/
module

public import Idealize.ShloMosaic.Lib.Exec
public import Idealize.ShloMosaic.Lib.Scf
public import Idealize.ShloMosaic.Lib.Writes
public import Idealize.ShloMosaic.Lib.Pipeline.Frame

@[expose] public section

noncomputable section

namespace Cert.Keep

open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (UR sig nD τ) ℕ

/-- A program that, started with `H`, runs without fault and ends with `H`. -/
structure Keeps (defs : Defs nD τ sig Val Λ) (c : Dev nD) (H : sProp 𝕄) {α : Type} (p : Prog (TpuEff nD τ sig Val Λ .tc) α) : Prop where
  run : H ⊢ wp frame (wpE defs Variants.none (c : Thread nD τ) none) Set.univ p (fun _ => H)

/-- `H` holds the buffer of `m`, which may be read. -/
def Reads (c : Dev nD) (H : sProp 𝕄) {cs : CoreSpace} {s : Shape} {e : EltTy} (m : Memref sig .tc cs s e) : Prop :=
  H ⊢ iprop(∃ X : BufTy.Contents Val m.view.ty, (m.view.loc (c : Thread nD τ) ↦[m.view.set]{fullShare} X)
    ∗ ((m.view.loc (c : Thread nD τ) ↦[m.view.set]{fullShare} X) -∗ H))

/-- `H` holds the buffer of `m` at some contents, and any other contents would do. -/
def Writes (c : Dev nD) (H : sProp 𝕄) {cs : CoreSpace} {s : Shape} {e : EltTy} (m : Memref sig .tc cs s e) : Prop :=
  H ⊢ iprop(∃ X : BufTy.Contents Val m.view.ty, (m.view.loc (c : Thread nD τ) ↦[m.view.set]{fullShare} X)
    ∗ (∀ X' : BufTy.Contents Val m.view.ty, (m.view.loc (c : Thread nD τ) ↦[m.view.set]{fullShare} X') -∗ H))

variable {defs : Defs nD τ sig Val Λ} {c : Dev nD}

/-- A buffer that may be written may be read. -/
theorem Writes.reads {P : sProp 𝕄} {cs : CoreSpace} {s : Shape} {e : EltTy} {m : Memref sig .tc cs s e} (h : Writes c P m) :
    Reads c P m := by
  unfold Writes at h; unfold Reads
  refine h.trans ?_
  iintro ⟨%X, HX, HK⟩
  iexists X
  isplitl [HX]
  · iexact HX
  · iintro HX; iapply HK; iexact HX

theorem Keeps.ret {P : sProp 𝕄} {α : Type} (a : α) : Keeps defs c P (Pure.pure a : Prog (TpuEff nD τ sig Val Λ .tc) α) := by
  refine ⟨?_⟩
  rw [wp_pure]
  iintro HH
  imodintro
  iexact HH

theorem Keeps.bind {P : sProp 𝕄} {α β : Type} {p : Prog (TpuEff nD τ sig Val Λ .tc) α} {k : α → Prog (TpuEff nD τ sig Val Λ .tc) β}
    (hp : Keeps defs c P p) (hk : ∀ a, Keeps defs c P (k a)) : Keeps defs c P (p >>= k) := by
  refine ⟨?_⟩
  rw [wp_bind]
  exact hp.run.trans (wp_mono _ _ _ fun a => (hk a).run)

theorem Keeps.ite {P : sProp 𝕄} {α : Type} {b : Prop} [Decidable b] {p q : Prog (TpuEff nD τ sig Val Λ .tc) α}
    (hp : Keeps defs c P p) (hq : Keeps defs c P q) : Keeps defs c P (if b then p else q) := by
  split <;> assumption

theorem Keeps.dite {P : sProp 𝕄} {α : Type} {b : Prop} [Decidable b] {p : b → Prog (TpuEff nD τ sig Val Λ .tc) α}
    {q : ¬ b → Prog (TpuEff nD τ sig Val Λ .tc) α}
    (hp : ∀ h, Keeps defs c P (p h)) (hq : ∀ h, Keeps defs c P (q h)) : Keeps defs c P (if h : b then p h else q h) := by
  split
  · exact hp _
  · exact hq _

theorem Keeps.load {P : sProp 𝕄} {cs : CoreSpace} {s : Shape} {e : EltTy} {m : Memref sig .tc cs s e} {r : Rect s}
    {hl : m.view.LoadsAt r} (hm : Reads c P m) :
    Keeps defs c P (Prog.lift (.load m r hl) : Prog (TpuEff nD τ sig Val Λ .tc) _) := by
  refine ⟨?_⟩; unfold Reads at hm
  refine hm.trans ?_
  iintro ⟨%X, HX, HK⟩
  iapply (wp_load (defs := defs) Variants.none (c : Thread nD τ) none Set.univ (m := m) (S := m.view.set) (View.setOn_subset_set _ _)) $$ HX
  iintro HX
  rw [wp_ret]
  imodintro
  iapply HK; iexact HX

theorem Keeps.store {P : sProp 𝕄} {cs : CoreSpace} {s : Shape} {e : EltTy} {m : Memref sig .tc cs s e} {r : Rect s}
    {w : r.shape.Idx → Val e} {M : Finset r.shape.Idx} {hx : (m.access r).Stores M} {hu : M = Finset.univ ∨ ∀ a, r.stride a = 1}
    (hm : Writes c P m) :
    Keeps defs c P (Prog.lift (.store m r w M hx hu) : Prog (TpuEff nD τ sig Val Λ .tc) _) := by
  refine ⟨?_⟩; unfold Writes at hm
  refine hm.trans ?_
  iintro ⟨%X, HX, HK⟩
  iapply (wp_store (defs := defs) Variants.none (c : Thread nD τ) none Set.univ (m := m) (r := r) (S := m.view.set) (m.setOn_access_subset r M)) $$ HX
  iintro HX
  rw [wp_ret]
  imodintro
  iapply HK; iexact HX

theorem Keeps.loop {P : sProp 𝕄} {σ : Type} {w : Nat} {l : Scf.Loop w} {ok : l.OK} {init : σ}
    {body : Fin l.trips → σ → Prog (TpuEff nD τ sig Val Λ .tc) σ}
    (hb : ∀ k a, Keeps defs c P (body k a)) : Keeps defs c P (Scf.Loop.for l ok init body) := by
  refine ⟨?_⟩
  iintro HH
  iapply (Scf.wp_for frame (wpE defs Variants.none (c : Thread nD τ) none) Set.univ l.lb l.ub l.st ok init body (fun _ _ => P) (fun k a => (hb k a).run))
  isplitl [HH]
  · iexact HH
  · iintro %a HH; iexact HH

/-! ## Which assertions hold a buffer -/

theorem Reads.sep_left {P Q : sProp 𝕄} {cs : CoreSpace} {s : Shape} {e : EltTy} {m : Memref sig .tc cs s e} (h : Reads c P m) :
    Reads c iprop(P ∗ Q) m := by
  unfold Reads at h ⊢
  iintro ⟨HP, HQ⟩
  ihave HP := h $$ HP
  icases HP with ⟨%X, HX, HK⟩
  iexists X
  isplitl [HX]
  · iexact HX
  · iintro HX
    isplitl [HX HK]
    · iapply HK; iexact HX
    · iexact HQ

theorem Reads.sep_right {P Q : sProp 𝕄} {cs : CoreSpace} {s : Shape} {e : EltTy} {m : Memref sig .tc cs s e} (h : Reads c Q m) :
    Reads c iprop(P ∗ Q) m := by
  unfold Reads at h ⊢
  iintro ⟨HP, HQ⟩
  ihave HQ := h $$ HQ
  icases HQ with ⟨%X, HX, HK⟩
  iexists X
  isplitl [HX]
  · iexact HX
  · iintro HX
    isplitl [HP]
    · iexact HP
    · iapply HK; iexact HX

theorem Writes.sep_left {P Q : sProp 𝕄} {cs : CoreSpace} {s : Shape} {e : EltTy} {m : Memref sig .tc cs s e} (h : Writes c P m) :
    Writes c iprop(P ∗ Q) m := by
  unfold Writes at h ⊢
  iintro ⟨HP, HQ⟩
  ihave HP := h $$ HP
  icases HP with ⟨%X, HX, HK⟩
  iexists X
  isplitl [HX]
  · iexact HX
  · iintro %X' HX
    isplitl [HX HK]
    · iapply HK; iexact HX
    · iexact HQ

theorem Writes.sep_right {P Q : sProp 𝕄} {cs : CoreSpace} {s : Shape} {e : EltTy} {m : Memref sig .tc cs s e} (h : Writes c Q m) :
    Writes c iprop(P ∗ Q) m := by
  unfold Writes at h ⊢
  iintro ⟨HP, HQ⟩
  ihave HQ := h $$ HQ
  icases HQ with ⟨%X, HX, HK⟩
  iexists X
  isplitl [HX]
  · iexact HX
  · iintro %X' HX
    isplitl [HP]
    · iexact HP
    · iapply HK; iexact HX

/-- A memref owned at given contents may be read. -/
theorem reads_owns {cs : CoreSpace} {s : Shape} {e : EltTy} (m : Memref sig .tc cs s e) (d : s.Idx → Val e) :
    Reads c (owns (c : Thread nD τ) m fullShare d : sProp 𝕄) m := by
  unfold Reads owns
  iintro ⟨%X, %hX, HX⟩
  iexists X
  isplitl [HX]
  · iexact HX
  · iintro HX
    iexists X
    isplitr
    · ipureintro; exact hX
    · iexact HX

/-- A memref owned at some contents may be written. -/
theorem writes_owns {cs : CoreSpace} {s : Shape} {e : EltTy} (m : Memref sig .tc cs s e) :
    Writes c (iprop(∃ d, owns (c : Thread nD τ) m fullShare d) : sProp 𝕄) m := by
  unfold Writes owns
  iintro ⟨%d, %X, %hX, HX⟩
  iexists X
  isplitl [HX]
  · iexact HX
  · iintro %X' HX
    iexists (m.view.read Val X'), X'
    isplitr
    · ipureintro; rfl
    · iexact HX

/-- A whole memref whose buffer is held at some contents may be written. -/
theorem writes_buffer {cs : CoreSpace} {s : Shape} {e : EltTy} (m : Memref sig .tc cs s e) (hm : m.view.set = Finset.univ) :
    Writes c (iprop(∃ f : Buf Val (m.view.loc (c : Thread nD τ)), m.view.loc (c : Thread nD τ) ↦{fullShare} f) : sProp 𝕄) m := by
  unfold Writes
  rw [hm]
  iintro ⟨%X, HX⟩
  iexists X
  isplitl [HX]
  · iexact HX
  · iintro %X' HX
    iexists X'
    iexact HX

end Cert.Keep

end
-- ==== Proof.DsaBody.lean ====
/- The sparse attention's body keeps the buffers it is run on: its loops, its conditional and its switch, statement by
   statement, only load from and store into them. -/
module

public import proofs.«01_k».proof.Proof.Keep
public import proofs.«01_k».proof.Proof.Gen.Kernel

@[expose] public section

set_option maxRecDepth 16384

noncomputable section

namespace Cert.Dsa

open Cert.Kernel Cert.Kernel.Gen Cert.Keep
open Idealize.ShloMosaic Idealize.ShloMosaic.TcCoe
open Idealize.SL Idealize.SL.RA Idealize.SL.BI Idealize.SL.Sem
open Idealize.ShloMosaic.Rounds

variable {F : FTy → Type} [BitOps F]

local notation "𝕄" => MT nD τ sig Unit (Elt F) ℕ (UR sig nD τ) ℕ

variable (c : Dev nD) (i : grid0.Coords)
  (arg2 : Memref sig .tc .vmem S1x512x256 .bf16) (harg2 : arg2.IsWhole)
  (arg3 : Memref sig .tc .vmem S1x8x256 .f32) (harg3 : arg3.IsWhole)
  (arg4 : Memref sig .tc .vmem S1x2048x64 .bf16) (harg4 : arg4.IsWhole)
  (arg5 : Memref sig .tc .vmem S1x512x256 .bf16) (harg5 : arg5.IsWhole)
  (arg6 : Memref sig .tc .vmem S1x2048x128 .bf16) (harg6 : arg6.IsWhole)
  (arg7 : Memref sig .tc .vmem S1x8x80x256 .bf16) (harg7 : arg7.IsWhole)
  (arg8 : Memref sig .tc .vmem S1x256x512 .bf16) (harg8 : arg8.IsWhole)
  (arg9 : Memref sig .tc .vmem S8x256x256 .f32) (harg9 : arg9.IsWhole)
  (arg10 : Memref sig .tc .vmem S8x256x256 .bf16) (harg10 : arg10.IsWhole)
  (arg11 : Memref sig .tc .vmem S8x256x256 .f32) (harg11 : arg11.IsWhole)
  (arg12 : Memref sig .tc .vmem S8x80x256 .f32) (harg12 : arg12.IsWhole)
  (arg13 : Memref sig .tc .vmem S8x128x256 .bf16) (harg13 : arg13.IsWhole)
  (arg14 : Memref sig .tc .vmem S8x8x256 .f32) (harg14 : arg14.IsWhole)
  (arg15 : Memref sig .tc .vmem S8x8x256 .f32) (harg15 : arg15.IsWhole)
  (arg16 : Memref sig .tc .vmem S8x256x256 .f32) (harg16 : arg16.IsWhole)
  (arg17 : Memref sig .tc .vmem S8x256x256 .bf16) (harg17 : arg17.IsWhole)

set_option maxHeartbeats 4000000 in
/-- The whole body keeps `P`, any assertion that holds the six input blocks for reading and the output's block and the
    nine scratch arrays for writing. -/
theorem keeps_body {P : sProp 𝕄} (h2 : Reads c P arg2) (h3 : Reads c P arg3) (h4 : Reads c P arg4) (h5 : Reads c P arg5) (h6 : Reads c P arg6)
    (h7 : Reads c P arg7) (h8 : Writes c P arg8) (h9 : Writes c P arg9) (h10 : Writes c P arg10) (h11 : Writes c P arg11) (h12 : Writes c P arg12)
    (h13 : Writes c P arg13) (h14 : Writes c P arg14) (h15 : Writes c P arg15) (h16 : Writes c P arg16) (h17 : Writes c P arg17) :
    Keeps defs₀ c P (cc0_dsa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  repeat' first
    | with_reducible exact Keeps.ret _
    | with_reducible exact Keeps.load (by first | assumption | exact Writes.reads ‹_›)
    | with_reducible exact Keeps.store ‹_›
    | with_reducible refine Keeps.loop fun _ _ => ?_
    | with_reducible refine Keeps.ite ?_ ?_
    | with_reducible refine Keeps.dite (fun _ => ?_) (fun _ => ?_)
    | refine Keeps.bind ?_ ?_
    | refine Keeps.ite ?_ ?_
    | refine Keeps.dite (fun _ => ?_) (fun _ => ?_)
    | exact Keeps.ret _
    | intro _
    | split

end Cert.Dsa

end
-- ==== Proof.DsaFrame.lean ====
/- The sparse attention's frame: at every grid point the body keeps its six input blocks and leaves something in the
   output's block and in the scratch; so the launch ends with its arguments unchanged and every counter at zero. -/
module

public import proofs.«01_k».proof.Proof.DsaBody
public import proofs.«01_k».proof.Proof.Gen.Kernel.Frame

@[expose] public section

set_option maxRecDepth 16384

noncomputable section

namespace Cert.Dsa

open Cert.Kernel Cert.Kernel.Gen Cert.Keep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- Of the output window nothing is said. -/
def forgotten : Fin 7 → Bool := fun w => w.val == 6

/-- The launch's data on core `c`: each input's array as launched and its block left in place by the body, the output
    unnamed, the scratch at some contents between the points, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- Between the body's statements at point `t` core `c` holds: the scratch and the generator's register, what the core
    owes (nothing), the six input blocks at their contents, the output's block at some contents. -/
def held (c : Dev nD) (t : Fin cfg0.N) : sProp 𝕄 :=
  iprop((Pipeline.scopedRest (Ix := Unit) (Name := ℕ) (U := UR sig nD τ) (Lvl := ℕ) (Val := Elt F) spec0 c ∗ ∃ r, prngReg c r)
    ∗ (∃ W, owes (c : Thread nD τ) 0 W)
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ d, owns (c : Thread nD τ) (st0_6 t) fullShare d))

/-- The scratch array `b` is among what is held, if it is among the scratch. -/
theorem held_scratch {c : Dev nD} {t : Fin cfg0.N} {cs : CoreSpace} {s : Shape} {e : EltTy} {a : Memref sig .tc cs s e}
    (h : Writes c (Pipeline.scopedRest (Ix := Unit) (Name := ℕ) (U := UR sig nD τ) (Lvl := ℕ) (Val := Elt F) spec0 c) a) :
    Writes c (held m c t) a := by
  unfold held
  exact .sep_left (.sep_left h)

set_option maxHeartbeats 1000000 in
/-- The body at point `t` keeps what is held. -/
theorem keeps_point (c : Dev nD) (t : Fin cfg0.N) : Keeps (defs₀ (F := F)) c (held m c t) (bodyAt0 t) := by
  refine keeps_body c (grid0.coords t) _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_
  · unfold held; exact .sep_right (.sep_right (.sep_left (reads_owns _ _)))
  · unfold held; exact .sep_right (.sep_right (.sep_right (.sep_left (reads_owns _ _))))
  · unfold held; exact .sep_right (.sep_right (.sep_right (.sep_right (.sep_left (reads_owns _ _)))))
  · unfold held; exact .sep_right (.sep_right (.sep_right (.sep_right (.sep_right (.sep_left (reads_owns _ _))))))
  · unfold held; exact .sep_right (.sep_right (.sep_right (.sep_right (.sep_right (.sep_right (.sep_left (reads_owns _ _)))))))
  · unfold held; exact .sep_right (.sep_right (.sep_right (.sep_right (.sep_right (.sep_right (.sep_right (.sep_left (reads_owns _ _))))))))
  · unfold held; exact .sep_right (.sep_right (.sep_right (.sep_right (.sep_right (.sep_right (.sep_right (.sep_right (writes_owns _))))))))
  · refine held_scratch m ?_; rw [scopedRest0_eq]; exact .sep_left (writes_buffer (Memref.whole cc0_scratch0) (View.set_whole _))
  · refine held_scratch m ?_; rw [scopedRest0_eq]; exact .sep_right (.sep_left (writes_buffer (Memref.whole cc0_scratch1) (View.set_whole _)))
  · refine held_scratch m ?_; rw [scopedRest0_eq]; exact .sep_right (.sep_right (.sep_left (writes_buffer (Memref.whole cc0_scratch2) (View.set_whole _))))
  · refine held_scratch m ?_; rw [scopedRest0_eq]; exact .sep_right (.sep_right (.sep_right (.sep_left (writes_buffer (Memref.whole cc0_scratch3) (View.set_whole _)))))
  · refine held_scratch m ?_; rw [scopedRest0_eq]; exact .sep_right (.sep_right (.sep_right (.sep_right (.sep_left (writes_buffer (Memref.whole cc0_scratch4) (View.set_whole _))))))
  · refine held_scratch m ?_; rw [scopedRest0_eq]; exact .sep_right (.sep_right (.sep_right (.sep_right (.sep_right (.sep_left (writes_buffer (Memref.whole cc0_scratch5) (View.set_whole _)))))))
  · refine held_scratch m ?_; rw [scopedRest0_eq]; exact .sep_right (.sep_right (.sep_right (.sep_right (.sep_right (.sep_right (.sep_left (writes_buffer (Memref.whole cc0_scratch6) (View.set_whole _))))))))
  · refine held_scratch m ?_; rw [scopedRest0_eq]; exact .sep_right (.sep_right (.sep_right (.sep_right (.sep_right (.sep_right (.sep_right (.sep_left (writes_buffer (Memref.whole cc0_scratch7) (View.set_whole _)))))))))
  · refine held_scratch m ?_; rw [scopedRest0_eq]; exact .sep_right (.sep_right (.sep_right (.sep_right (.sep_right (.sep_right (.sep_right (.sep_right (writes_buffer (Memref.whole cc0_scratch8) (View.set_whole _)))))))))

/-- The body's triple at point `t`, as the launch asks for it. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare d))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ (∃ d, owns (c : Thread nD τ) (st0_6 t) fullShare d))) := by
  simp only [before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t,
    before0_4_of m (dats m 0 c) (A_eq m c 4) (fun _ => rfl) t, before0_5_of m (dats m 0 c) (A_eq m c 5) (fun _ => rfl) t]
  rw [show (dats m 0 c).Φ t.castSucc = Pipeline.ΦA spec0 c from rfl, show (dats m 0 c).Φ t.succ = Pipeline.ΦA spec0 c from rfl]
  unfold Dat.owesAt Pipeline.owesWithin Pipeline.ΦA
  rw [show (dats m 0 c).owed t.castSucc = 0 from rfl, show (dats m 0 c).owed t.succ = 0 from rfl]
  refine .trans ?_ ((keeps_point m c t).run.trans (wp_mono _ _ _ fun _ => ?_))
  · unfold held
    iintro ⟨HΦ, ⟨%W, -, HW⟩, ⟨%d0, H0⟩, ⟨%d1, H1⟩, ⟨%d2, H2⟩, ⟨%d3, H3⟩, ⟨%d4, H4⟩, ⟨%d5, H5⟩, H6⟩
    isplitl [HΦ]; · iexact HΦ
    isplitl [HW]; · iexists W; iexact HW
    isplitl [H0]; · iexact H0
    isplitl [H1]; · iexact H1
    isplitl [H2]; · iexact H2
    isplitl [H3]; · iexact H3
    isplitl [H4]; · iexact H4
    isplitl [H5]; · iexact H5
    iexact H6
  · unfold held
    iintro ⟨HΦ, ⟨%W, HW⟩, H⟩
    isplitl [HΦ]; · iexact HΦ
    isplitl [HW]
    · iexists W
      isplitr
      · ipureintro; exact fun _ _ => Or.inl trivial
      · iexact HW
    iexact H

/-- The launch's body obligation. -/
theorem body_obligation (c : Dev nD) :
    BodyObligation (dats (F := F) m 0 c) (defs₀ (F := F)) Variants.none () Set.univ forgotten := fun t => by
  rw [bigSep_W0, bigSep_W0, show defs₀ (F := F) .tc cfg0.body (cfg0.bodyArgs t (cfg0.slots t)) = bodyAt0 t by
    unfold defs₀; rw [Defs.onTc_tc]]
  exact triple_restated (sound_body m c t) rfl .rfl fun _ => .rfl

set_option backward.isDefEq.respectTransparency.types false in
/-- Every execution ends, with the inputs' arrays as they were and every counter at zero. -/
theorem run_main : θ_run defs (onTc (τ := τ) (main (F := F))) (s₀ m ρ)
    (fun r => (Pipeline.RDat.FramePost (cfgs 0) (fun c => (dats m 0 c).toRForget forgotten) (V m)) r ∧ r.2.sem = fun _ => 0) :=
  Pipeline.θ_run_frame_forget (Q' := _) cfgs (dats m) (0 : Fin 1) launch0 defs₀ Variants.none forgotten m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, over any values. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨h.1.arr_in c 0 rfl, h.1.arr_in c 1 rfl, h.1.arr_in c 2 rfl, h.1.arr_in c 3 rfl,
    h.1.arr_in c 4 rfl, h.1.arr_in c 5 rfl⟩, h.2⟩) (run_main m ρ)

end Cert.Dsa

end
-- ==== Proof.RefFrames.lean ====
/- The two references are host programs: each runs to the end, changes no argument and has no semaphore to signal. -/
module

public import proofs.«01_k».proof.Defs
public import proofs.«01_k».proof.Proof.Gen.PostRefIdeal.Run
public import proofs.«01_k».proof.Proof.Gen.InprojRefIdeal.Run
public import Idealize.ShloMosaic.Lib.Quiescent

@[expose] public section

noncomputable section

namespace Cert.RefFrames

open Idealize.ShloMosaic Idealize.SL.Sem

/-- The reference of the layer's last call keeps its arguments and ends with every counter at zero. -/
theorem post : Cert.quiescent_PostRefIdeal (hPostRefIdeal := Cert.PostRefIdeal.Gen.facts) := fun m ρ _ =>
  (θ_run Cert.PostRefIdeal.defs _ _).mono
    (fun r h => ⟨fun c => (h c).2, sem_eq_zero_of_no_sems rfl r.2⟩)
    (Cert.PostRefIdeal.Value.run (F := Ideal) m ρ)

/-- The reference of the layer's first call keeps its arguments and ends with every counter at zero. -/
theorem inproj : Cert.quiescent_InprojRefIdeal (hInprojRefIdeal := Cert.InprojRefIdeal.Gen.facts) := fun m ρ _ =>
  (θ_run Cert.InprojRefIdeal.defs _ _).mono
    (fun r h => ⟨fun c => (h c).2.2.2.2.2.2.2.2, sem_eq_zero_of_no_sems rfl r.2⟩)
    (Cert.InprojRefIdeal.Value.run (F := Ideal) m ρ)

end Cert.RefFrames
end
-- ==== Proof.PostRow.lean ====
/-
  The layer's tail for ONE token, written on its coordinates over the extended reals: the two projections mixed by the
  gates, the output projection added to the residual, the feed-forward between two RMS norms. Both the kernel's blocks
  and the reference's arrays are this function of a token's row and of the weights.
-/
module

public import Idealize.ShloMosaic.PureOps.Ideal.Laws
public import Idealize.ShloMosaic.Lib.ValueIdxCore

@[expose] public section

noncomputable section

open Idealize.ShloMosaic
open scoped BigOperators

namespace Cert.PostRow

/-- The weights, by their coordinates. -/
structure Weights where
  wc : Fin 512 → Fin 1024 → EReal
  wa : Fin 512 → Fin 1024 → EReal
  wo : Fin 1024 → Fin 1024 → EReal
  nf : Fin 1024 → EReal
  wg : Fin 1024 → Fin 2816 → EReal
  wu : Fin 1024 → Fin 2816 → EReal
  wd : Fin 2816 → Fin 1024 → EReal
  nl : Fin 1024 → EReal

/-- One token's inputs. -/
structure Token where
  x : Fin 1024 → EReal
  hc : Fin 512 → EReal
  ao : Fin 512 → EReal
  gate : Fin 2048 → EReal

/-- The position of the first gate of a column. -/
def gLo (j : Fin 1024) : Fin 2048 := ⟨j.val, by have := j.isLt; omega⟩
/-- The position of the second gate of a column. -/
def gHi (j : Fin 1024) : Fin 2048 := ⟨1024 + j.val, by have := j.isLt; omega⟩

/-- The RMS norm of a row, with its weight: the row over the root of its mean square and a small constant. -/
def norm (v w : Fin 1024 → EReal) (j : Fin 1024) : EReal :=
  v j * Ideal.rsqrt (Ideal.div (∑ k : Fin 1024, v k * v k) (Ideal.ofBits .f32 0x44800000#32) + Ideal.ofBits .f32 0x358637BD#32) * w j

/-- The gated sum of the two projections. -/
def mrg (L : Weights) (T : Token) (j : Fin 1024) : EReal :=
  T.gate (gLo j) * (∑ k : Fin 512, T.hc k * L.wc k j) + T.gate (gHi j) * (∑ k : Fin 512, T.ao k * L.wa k j)

/-- The residual after the output projection. -/
def x1 (L : Weights) (T : Token) (j : Fin 1024) : EReal := T.x j + ∑ k : Fin 1024, mrg L T k * L.wo k j

/-- The feed-forward's normalised input. -/
def hf (L : Weights) (T : Token) : Fin 1024 → EReal := norm (x1 L T) L.nf

/-- The feed-forward's gate projection. -/
def gt (L : Weights) (T : Token) (j : Fin 2816) : EReal := ∑ k : Fin 1024, hf L T k * L.wg k j
/-- The feed-forward's up projection. -/
def up (L : Weights) (T : Token) (j : Fin 2816) : EReal := ∑ k : Fin 1024, hf L T k * L.wu k j

/-- `g · σ(g) · u`. -/
def glu (g u : EReal) : EReal :=
  g * Ideal.div (Ideal.ofBits .f32 0x3F800000#32) (Ideal.ofBits .f32 0x3F800000#32 + Ideal.exp (-g)) * u

/-- The feed-forward's activations. -/
def act (L : Weights) (T : Token) (j : Fin 2816) : EReal := glu (gt L T j) (up L T j)

/-- The residual after the feed-forward. -/
def x2 (L : Weights) (T : Token) (j : Fin 1024) : EReal := x1 L T j + ∑ k : Fin 2816, act L T k * L.wd k j

/-- The layer's output row. -/
def out (L : Weights) (T : Token) : Fin 1024 → EReal := norm (x2 L T) L.nl

end Cert.PostRow
-- ==== Proof.PostBlock.lean ====
/-
  What one grid point of the tail kernel leaves in its output block, as ONE vector function of the blocks it reads
  (`blockVal`): the merged projections column block by column block (256 columns each), the residual, the feed-forward
  over eleven column blocks, and the final norm. Both cases of the body leave it — the first point, which copies the
  feed-forward's weights into the scratches, and the later ones, which find them there.
-/
module

public import proofs.«01_k».proof.Proof.Gen.PostIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.PostIdeal.Block

open Cert.PostIdeal Cert.PostIdeal.Gen

variable {F : FTy → Type} [FloatOps F]

theorem hz : (![0, 0] : Fin 2 → Nat) = fun _ => 0 := funext fun a => by fin_cases a <;> rfl

/-- A load from a buffer just written whole is the load of what was written. -/
theorem readCov_whole {S : Shape} {e : EltTy} {sp : Space} (v : View sig .tc sp S e) (X : S.Idx → Elt F e) (r : Rect S) :
    v.readCov [⟨Rect.whole S, X⟩] r.toLoadRect = View.ld X r := by
  rw [View.readCov_eq_canon']
  exact funext fun j => congrFun (View.canon_unit_zero (S := S) (off := fun _ => 0) rfl (fun _ => by simp) X) (r.idx j)

/-- Column block `n` of a projection's weights. -/
def colP (X : Vec F S512x1024 .bf16) (n : Fin 4) : Vec F S512x256 .bf16 :=
  View.ld X (Rect.unit ![0, 256 * n.val] S512x256.size fun a => by
    have := n.isLt; match a with | ⟨0, _⟩ => exact (by decide : 0 + 512 ≤ 512) | ⟨1, _⟩ => show 256 * n.val + 256 ≤ 1024; omega)

/-- Column block `n` of the first gate (`o = 0`) or of the second (`o = 1024`). -/
def colG (X : Vec F S512x2048 .f32) (o : Nat) (ho : o ≤ 1024) (n : Fin 4) : Vec F S512x256 .f32 :=
  View.ld X (Rect.unit ![0, o + 256 * n.val] S512x256.size fun a => by
    have := n.isLt; match a with | ⟨0, _⟩ => exact (by decide : 0 + 512 ≤ 512) | ⟨1, _⟩ => show o + 256 * n.val + 256 ≤ 2048; omega)

/-- Column block `n` of a feed-forward projection's weights. -/
def colF (X : Vec F S1024x2816 .bf16) (n : Fin 11) : Vec F S1024x256 .bf16 :=
  View.ld X (Rect.unit ![0, 256 * n.val] S1024x256.size fun a => by
    have := n.isLt; match a with | ⟨0, _⟩ => exact (by decide : 0 + 1024 ≤ 1024) | ⟨1, _⟩ => show 256 * n.val + 256 ≤ 2816; omega)

/-- One column block of the merged projections. -/
def mrgB (hc ao : Vec F S512x512 .bf16) (wc wa : Vec F S512x256 .bf16) (g h : Vec F S512x256 .f32) : FVec F S512x256 .bf16 :=
  truncf .bf16 (addf (mulf g (matmul dot_S512x512_S512x256_S512x256_1_0_0_1_n_n none hc wc (constant S512x256 .f32 0x00000000#32)))
    (mulf h (matmul dot_S512x512_S512x256_S512x256_1_0_0_1_n_n none ao wa (constant S512x256 .f32 0x00000000#32)))) bitsLt_bf16_f32

/-- The merged projections. -/
def mrgV (hc ao : Vec F S512x512 .bf16) (gate : Vec F S512x2048 .f32) (wc wa : Vec F S512x1024 .bf16) : FVec F S512x1024 .bf16 :=
  concatenate S512x1024 1 (List.ofFn fun n : Fin 4 => ⟨S512x256, mrgB hc ao (colP wc n) (colP wa n)
    (colG gate 0 (by decide) n) (colG gate 1024 (by decide) n)⟩) concatenates_S512x256_S512x256_S512x256_S512x256_S512x1024_d1

/-- The residual after the output projection. -/
def x1V (x : Vec F S512x1024 .f32) (mg : FVec F S512x1024 .bf16) (wo : Vec F S1024x1024 .bf16) : FVec F S512x1024 .f32 :=
  addf x (matmul dot_S512x1024_S1024x1024_S512x1024_1_0_0_1_n_n none mg wo (constant S512x1024 .f32 0x00000000#32))

/-- The RMS norm of the rows. -/
def normV (v : FVec F S512x1024 .f32) (w : Vec F S1x1024 .f32) : FVec F S512x1024 .f32 :=
  mulf (mulf v (broadcastTo S512x1024 (rsqrt (addf (divf (shapeCast S512x1 (multiReduction .add [1] S512 (mulf v v) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024)) (broadcastTo S512x1024 w broadcasts_S1x1024_S512x1024)

/-- The feed-forward's normalised input. -/
def hfV (x1 : FVec F S512x1024 .f32) (w : Vec F S1x1024 .f32) : FVec F S512x1024 .bf16 := truncf .bf16 (normV x1 w) bitsLt_bf16_f32

/-- A feed-forward projection's column block. -/
def prjB (h : FVec F S512x1024 .bf16) (w : Vec F S1024x256 .bf16) : FVec F S512x256 .f32 :=
  matmul dot_S512x1024_S1024x256_S512x256_1_0_0_1_n_n none h w (constant S512x256 .f32 0x00000000#32)

/-- One column block of the activations. -/
def actB (h : FVec F S512x1024 .bf16) (wg wu : Vec F S1024x256 .bf16) : FVec F S512x256 .bf16 :=
  truncf .bf16 (mulf (mulf (prjB h wg) (divf (broadcast S512x256 (Scalar.ofBits .f32 0x3F800000#32))
    (addf (broadcast S512x256 (Scalar.ofBits .f32 0x3F800000#32)) (exp (subf (broadcast S512x256 (Scalar.ofBits .f32 0x00000000#32)) (prjB h wg))))))
    (prjB h wu)) bitsLt_bf16_f32

/-- The activations. -/
def actV (h : FVec F S512x1024 .bf16) (wg wu : Vec F S1024x2816 .bf16) : FVec F S512x2816 .bf16 :=
  concatenate S512x2816 1 (List.ofFn fun n : Fin 11 => ⟨S512x256, actB h (colF wg n) (colF wu n)⟩)
    concatenates_S512x256_S512x256_S512x256_S512x256_S512x256_S512x256_S512x256_S512x256_S512x256_S512x256_S512x256_S512x2816_d1

/-- The residual after the feed-forward. -/
def x2V (x1 : FVec F S512x1024 .f32) (ac : FVec F S512x2816 .bf16) (wd : Vec F S2816x1024 .bf16) : FVec F S512x1024 .f32 :=
  addf x1 (matmul dot_S512x2816_S2816x1024_S512x1024_1_0_0_1_n_n none ac wd (constant S512x1024 .f32 0x00000000#32))

/-- The point's output block, of the blocks it reads and the feed-forward's weights. -/
def blockVal (x0 : Vec F S512x1024 .f32) (x1 x2 : Vec F S512x512 .bf16) (x3 : Vec F S512x2048 .f32) (x4 x5 : Vec F S512x1024 .bf16)
    (x6 : Vec F S1024x1024 .bf16) (x7 x8 : Vec F S1x1024 .f32)
    (wg wu : Vec F S1024x2816 .bf16) (wd : Vec F S2816x1024 .bf16) : FVec F S512x1024 .f32 :=
  let r := x1V x0 (mrgV x1 x2 x3 x4 x5) x6
  normV (x2V r (actV (hfV r x7) wg wu) wd) x8

/-- The printed concatenation of the merged blocks, its casts of a shape to itself dropped. -/
theorem pay9_eq (v4 v6 : FVec F S512x512 .bf16) (v20 : FVec F S512x256 .bf16) (v23 v26 v28 : FVec F S512x256 .f32) (v29 : Vec F S512x256 .f32)
    (v35 v38 : Vec F S512x256 .bf16) (v41 v43 : Vec F S512x256 .f32) (v49 v52 : Vec F S512x256 .bf16) (v55 v57 : Vec F S512x256 .f32) :
    k0_pay9 v4 v6 v20 v23 v26 v28 v29 v35 v38 v41 v43 v49 v52 v55 v57
      = concatenate S512x1024 1 [⟨S512x256, v20⟩, ⟨S512x256, truncf .bf16 (addf (mulf v28 v23) (mulf v29 v26)) bitsLt_bf16_f32⟩,
        ⟨S512x256, mrgB v4 v6 v35 v38 v41 v43⟩, ⟨S512x256, mrgB v4 v6 v49 v52 v55 v57⟩] concatenates_S512x256_S512x256_S512x256_S512x256_S512x1024_d1 := by
  unfold k0_pay9
  dsimp only
  repeat rw [shapeCast_self]
  rfl

/-- The printed residual after the feed-forward, its casts of a shape to itself dropped. -/
theorem pay25_eq (v69 : FVec F S512x1024 .f32) (v84 : FVec F S512x1024 .bf16) (b0 b1 b2 b3 b4 b5 b6 b7 b8 : FVec F S512x256 .bf16)
    (g9 u9 g10 u10 : Vec F S1024x256 .bf16) (wd : Vec F S2816x1024 .bf16) :
    k0_pay25 v69 v84 b0 b1 b2 b3 b4 b5 b6 b7 b8 g9 u9 g10 u10 wd
      = x2V v69 (concatenate S512x2816 1 [⟨S512x256, b0⟩, ⟨S512x256, b1⟩, ⟨S512x256, b2⟩, ⟨S512x256, b3⟩, ⟨S512x256, b4⟩, ⟨S512x256, b5⟩,
        ⟨S512x256, b6⟩, ⟨S512x256, b7⟩, ⟨S512x256, b8⟩, ⟨S512x256, actB v84 g9 u9⟩, ⟨S512x256, actB v84 g10 u10⟩]
        concatenates_S512x256_S512x256_S512x256_S512x256_S512x256_S512x256_S512x256_S512x256_S512x256_S512x256_S512x256_S512x2816_d1) wd := by
  unfold k0_pay25
  dsimp only
  repeat rw [shapeCast_self]
  rfl

variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg12 : Memref sig .tc .vmem S1x1024 .f32) (harg12 : arg12.IsWhole) (arg13 : Memref sig .tc .vmem S512x1024 .f32) (harg13 : arg13.IsWhole) (arg14 : Memref sig .tc .vmem S1024x2816 .bf16) (harg14 : arg14.IsWhole) (arg15 : Memref sig .tc .vmem S1024x2816 .bf16) (harg15 : arg15.IsWhole) (arg16 : Memref sig .tc .vmem S2816x1024 .bf16) (harg16 : arg16.IsWhole)

/-- The later points leave it, at the scratches' weights. -/
theorem out_B (hc0 : ¬cond0_0 i) (hc1 : ¬cond0_1 i)
    (x0 : Vec F S512x1024 .f32) (x1 x2 : Vec F S512x512 .bf16) (x3 : Vec F S512x2048 .f32) (x4 x5 : Vec F S512x1024 .bf16)
    (x6 : Vec F S1024x1024 .bf16) (x7 x8 : Vec F S1x1024 .f32)
    (xs0 xs1 : Vec F S1024x2816 .bf16) (xs2 : Vec F S2816x1024 .bf16) (fh0 : HbBuf0 (F := F) c hbM0_0) (fh1 : HbBuf0 (F := F) c hbM0_1) (fh2 : HbBuf0 (F := F) c hbM0_2) :
    out0_B_9 c i arg1 harg1 arg2 harg2 arg3 harg3 arg4 harg4 arg5 harg5 arg6 harg6 arg7 harg7 arg8 harg8 arg12 harg12 arg13 harg13 arg14 harg14 arg15 harg15 arg16 harg16 hc0 hc1 x0 x1 x2 x3 x4 x5 x6 x7 x8 xs0 xs1 xs2 fh0 fh1 fh2 = blockVal x0 x1 x2 x3 x4 x5 x6 x7 x8 xs0 xs1 xs2 := by
  unfold out0_B_9
  rw [View.read_writes_eq_canon _ _ _ (cover0_B_9 c i arg1 harg1 arg2 harg2 arg3 harg3 arg4 harg4 arg5 harg5 arg6 harg6 arg7 harg7 arg8 harg8 arg12 harg12 arg13 harg13 arg14 harg14 arg15 harg15 arg16 harg16 hc0 hc1 x0 x1 x2 x3 x4 x5 x6 x7 x8 xs0 xs1 xs2 fh0 fh1 fh2)]
  unfold kernelRun0_B
  dsimp only
  rw [View.canon_unit_zero hz]
  sl_unfold_words
  simp only [View.readAt_eq_ld, harg1.read_unread, harg2.read_unread, harg3.read_unread, harg4.read_unread, harg5.read_unread, harg6.read_unread, harg7.read_unread, harg8.read_unread, harg12.read_unread, harg14.read_unread, harg15.read_unread, harg16.read_unread,
    View.ld_unit_zero (S := S512x1024) hz, View.ld_unit_zero (S := S512x512) hz, View.ld_unit_zero (S := S1024x1024) hz, View.ld_unit_zero (S := S1x1024) hz, View.ld_unit_zero (S := S2816x1024) hz]
  simp only [k0_pay1, k0_pay2, k0_pay3, k0_pay4, k0_pay5, k0_pay6, k0_pay7, k0_pay8, k0_pay10, k0_pay11, k0_pay12, k0_pay13, k0_pay14, k0_pay15, k0_pay16, k0_pay17, k0_pay18, k0_pay19, k0_pay20, k0_pay21, k0_pay22, k0_pay23, k0_pay24, k0_pay26, pay9_eq, pay25_eq, shapeCast_self]
  rfl

/-- The first point leaves it, at the weights it copied. -/
theorem out_A (hc0 : cond0_0 i) (hc1 : cond0_1 i)
    (x0 : Vec F S512x1024 .f32) (x1 x2 : Vec F S512x512 .bf16) (x3 : Vec F S512x2048 .f32) (x4 x5 : Vec F S512x1024 .bf16)
    (x6 : Vec F S1024x1024 .bf16) (x7 x8 : Vec F S1x1024 .f32)
    (fh0 : HbBuf0 (F := F) c hbM0_0) (fh1 : HbBuf0 (F := F) c hbM0_1) (fh2 : HbBuf0 (F := F) c hbM0_2) :
    out0_A_9 c i arg1 harg1 arg2 harg2 arg3 harg3 arg4 harg4 arg5 harg5 arg6 harg6 arg7 harg7 arg8 harg8 arg12 harg12 arg13 harg13 arg14 harg14 arg15 harg15 arg16 harg16 hc0 hc1 x0 x1 x2 x3 x4 x5 x6 x7 x8 fh0 fh1 fh2 = blockVal x0 x1 x2 x3 x4 x5 x6 x7 x8 fh0 fh1 fh2 := by
  unfold out0_A_9
  rw [View.read_writes_eq_canon _ _ _ (cover0_A_9 c i arg1 harg1 arg2 harg2 arg3 harg3 arg4 harg4 arg5 harg5 arg6 harg6 arg7 harg7 arg8 harg8 arg12 harg12 arg13 harg13 arg14 harg14 arg15 harg15 arg16 harg16 hc0 hc1 x0 x1 x2 x3 x4 x5 x6 x7 x8 fh0 fh1 fh2)]
  unfold kernelRun0_A
  dsimp only
  rw [View.canon_unit_zero hz]
  sl_unfold_words
  simp only [View.readAt_eq_ld, harg1.read_unread, harg2.read_unread, harg3.read_unread, harg4.read_unread, harg5.read_unread, harg6.read_unread, harg7.read_unread, harg8.read_unread, harg12.read_unread,
    View.ld_unit_zero (S := S512x1024) hz, View.ld_unit_zero (S := S512x512) hz, View.ld_unit_zero (S := S1024x1024) hz, View.ld_unit_zero (S := S1x1024) hz, View.ld_unit_zero (S := S2816x1024) hz, readCov_whole]
  simp only [k0_pay1, k0_pay2, k0_pay3, k0_pay4, k0_pay5, k0_pay6, k0_pay7, k0_pay8, k0_pay10, k0_pay11, k0_pay12, k0_pay13, k0_pay14, k0_pay15, k0_pay16, k0_pay17, k0_pay18, k0_pay19, k0_pay20, k0_pay21, k0_pay22, k0_pay23, k0_pay24, k0_pay26, pay9_eq, pay25_eq, shapeCast_self]
  rfl

end Cert.PostIdeal.Block

end
-- ==== Proof.PostToken.lean ====
/-
  The block function of `PostBlock.lean` over the extended reals, element by element: row `r` of the output block is the
  token's function of `PostRow.lean` at row `r` of the blocks the point reads.
-/
module

public import proofs.«01_k».proof.Proof.PostRow
public import proofs.«01_k».proof.Proof.PostBlock
public import Idealize.ShloMosaic.Lib.Pointwise
public import Idealize.ShloMosaic.Lib.Pipeline.ValueKit

@[expose] public section

set_option maxRecDepth 16384

noncomputable section

open Idealize.ShloMosaic
open scoped BigOperators

namespace Cert.PostIdeal.Block

open Cert.PostIdeal Cert.PostIdeal.Gen Cert.PostRow

/-- The weights as a point's blocks hold them. -/
def wts (x4 x5 : Vec Ideal S512x1024 .bf16) (x6 : Vec Ideal S1024x1024 .bf16) (x7 x8 : Vec Ideal S1x1024 .f32)
    (wg wu : Vec Ideal S1024x2816 .bf16) (wd : Vec Ideal S2816x1024 .bf16) : Weights where
  wc k j := x4 (ix2 k j)
  wa k j := x5 (ix2 k j)
  wo k j := x6 (ix2 k j)
  nf j := x7 (ix2 0 j)
  wg k j := wg (ix2 k j)
  wu k j := wu (ix2 k j)
  wd k j := wd (ix2 k j)
  nl j := x8 (ix2 0 j)

/-- Row `r` of a point's blocks. -/
def tok (x0 : Vec Ideal S512x1024 .f32) (x1 x2 : Vec Ideal S512x512 .bf16) (x3 : Vec Ideal S512x2048 .f32) (r : Fin 512) : Token where
  x j := x0 (ix2 r j)
  hc j := x1 (ix2 r j)
  ao j := x2 (ix2 r j)
  gate j := x3 (ix2 r j)

/-- The norm of a row. -/
theorem normV_apply (v : FVec Ideal S512x1024 .f32) (w : Vec Ideal S1x1024 .f32) (r : Fin 512) (j : Fin 1024) :
    normV v w (ix2 r j) = PostRow.norm (fun k => v (ix2 r k)) (fun k => w (ix2 0 k)) j := by
  unfold PostRow.norm
  pointwise [normV]

/-- One column block of the merged projections. -/
theorem mrgB_apply (hc ao : Vec Ideal S512x512 .bf16) (wc wa : Vec Ideal S512x256 .bf16) (g h : Vec Ideal S512x256 .f32) (r : Fin 512) (j : Fin 256) :
    mrgB hc ao wc wa g h (ix2 r j) = g (ix2 r j) * (∑ k : Fin 512, hc (ix2 r k) * wc (ix2 k j)) + h (ix2 r j) * (∑ k : Fin 512, ao (ix2 r k) * wa (ix2 k j)) := by
  pointwise [mrgB]

/-- A feed-forward projection's column block. -/
theorem prjB_apply (h : FVec Ideal S512x1024 .bf16) (w : Vec Ideal S1024x256 .bf16) (r : Fin 512) (j : Fin 256) :
    prjB h w (ix2 r j) = ∑ k : Fin 1024, h (ix2 r k) * w (ix2 k j) := by
  pointwise [prjB]

/-- One column block of the activations. -/
theorem actB_apply (h : FVec Ideal S512x1024 .bf16) (wg wu : Vec Ideal S1024x256 .bf16) (r : Fin 512) (j : Fin 256) :
    actB h wg wu (ix2 r j) = glu (∑ k : Fin 1024, h (ix2 r k) * wg (ix2 k j)) (∑ k : Fin 1024, h (ix2 r k) * wu (ix2 k j)) := by
  unfold glu
  rw [← prjB_apply h wg, ← prjB_apply h wu]
  pointwise [actB]
  rw [sub_eq_add_neg, zero_add]

/-- The residual after the output projection. -/
theorem x1V_apply (x : Vec Ideal S512x1024 .f32) (mg : FVec Ideal S512x1024 .bf16) (wo : Vec Ideal S1024x1024 .bf16) (r : Fin 512) (j : Fin 1024) :
    x1V x mg wo (ix2 r j) = x (ix2 r j) + ∑ k : Fin 1024, mg (ix2 r k) * wo (ix2 k j) := by
  pointwise [x1V]

/-- The residual after the feed-forward. -/
theorem x2V_apply (x : FVec Ideal S512x1024 .f32) (ac : FVec Ideal S512x2816 .bf16) (wd : Vec Ideal S2816x1024 .bf16) (r : Fin 512) (j : Fin 1024) :
    x2V x ac wd (ix2 r j) = x (ix2 r j) + ∑ k : Fin 2816, ac (ix2 r k) * wd (ix2 k j) := by
  pointwise [x2V]

/-- The merged projections, gathered from their column blocks. -/
theorem mrgV_apply (hc ao : Vec Ideal S512x512 .bf16) (gate : Vec Ideal S512x2048 .f32) (wc wa : Vec Ideal S512x1024 .bf16) (r : Fin 512) (j : Fin 1024) :
    mrgV hc ao gate wc wa (ix2 r j) = gate (ix2 r (gLo j)) * (∑ k : Fin 512, hc (ix2 r k) * wc (ix2 k j))
      + gate (ix2 r (gHi j)) * (∑ k : Fin 512, ao (ix2 r k) * wa (ix2 k j)) := by
  have hj := j.isLt
  unfold mrgV
  refine (concatenate_ofFn_apply (t := S512x1024) (s₁ := S512x256) 1 _ _ rfl 256 rfl (ix2 r j) ⟨j.val / 256, by omega⟩ rfl
    (ix2 r ⟨j.val % 256, Nat.mod_lt _ (by decide)⟩) rfl (fun b hb => by match b with | ⟨0, _⟩ => rfl | ⟨1, _⟩ => exact absurd rfl hb)).trans ?_
  refine (mrgB_apply _ _ _ _ _ _ _ _).trans ?_
  have hc' : 256 * (j.val / 256) + j.val % 256 = j.val := Nat.div_add_mod _ _
  unfold colP colG gLo gHi
  refine congrArg₂ _ (congrArg₂ _ (View.ld_unit_apply_of _ _ _ _ _ _ ?_) (Finset.sum_congr rfl fun k _ => congrArg _ (View.ld_unit_apply_of _ _ _ _ _ _ ?_)))
    (congrArg₂ _ (View.ld_unit_apply_of _ _ _ _ _ _ ?_) (Finset.sum_congr rfl fun k _ => congrArg _ (View.ld_unit_apply_of _ _ _ _ _ _ ?_)))
  · intro a; match a with | ⟨0, _⟩ => exact (Nat.zero_add _).symm | ⟨1, _⟩ => show j.val = 0 + 256 * (j.val / 256) + j.val % 256; omega
  · intro a; match a with | ⟨0, _⟩ => exact (Nat.zero_add _).symm | ⟨1, _⟩ => show j.val = 256 * (j.val / 256) + j.val % 256; omega
  · intro a; match a with | ⟨0, _⟩ => exact (Nat.zero_add _).symm | ⟨1, _⟩ => show 1024 + j.val = 1024 + 256 * (j.val / 256) + j.val % 256; omega
  · intro a; match a with | ⟨0, _⟩ => exact (Nat.zero_add _).symm | ⟨1, _⟩ => show j.val = 256 * (j.val / 256) + j.val % 256; omega

/-- The activations, gathered from their column blocks. -/
theorem actV_apply (h : FVec Ideal S512x1024 .bf16) (wg wu : Vec Ideal S1024x2816 .bf16) (r : Fin 512) (j : Fin 2816) :
    actV h wg wu (ix2 r j) = glu (∑ k : Fin 1024, h (ix2 r k) * wg (ix2 k j)) (∑ k : Fin 1024, h (ix2 r k) * wu (ix2 k j)) := by
  have hj := j.isLt
  unfold actV
  refine (concatenate_ofFn_apply (t := S512x2816) (s₁ := S512x256) 1 _ _ rfl 256 rfl (ix2 r j) ⟨j.val / 256, by omega⟩ rfl
    (ix2 r ⟨j.val % 256, Nat.mod_lt _ (by decide)⟩) rfl (fun b hb => by match b with | ⟨0, _⟩ => rfl | ⟨1, _⟩ => exact absurd rfl hb)).trans ?_
  refine (actB_apply _ _ _ _ _).trans ?_
  have hc' : 256 * (j.val / 256) + j.val % 256 = j.val := Nat.div_add_mod _ _
  unfold colF
  refine congrArg₂ _ (Finset.sum_congr rfl fun k _ => congrArg _ (View.ld_unit_apply_of _ _ _ _ _ _ ?_))
    (Finset.sum_congr rfl fun k _ => congrArg _ (View.ld_unit_apply_of _ _ _ _ _ _ ?_))
  all_goals intro a; match a with | ⟨0, _⟩ => exact (Nat.zero_add _).symm | ⟨1, _⟩ => show j.val = 256 * (j.val / 256) + j.val % 256; omega

/-- Row `r` of the output block is the token's function of row `r` of the blocks. -/
theorem blockVal_apply (x0 : Vec Ideal S512x1024 .f32) (x1 x2 : Vec Ideal S512x512 .bf16) (x3 : Vec Ideal S512x2048 .f32) (x4 x5 : Vec Ideal S512x1024 .bf16)
    (x6 : Vec Ideal S1024x1024 .bf16) (x7 x8 : Vec Ideal S1x1024 .f32)
    (wg wu : Vec Ideal S1024x2816 .bf16) (wd : Vec Ideal S2816x1024 .bf16) (r : Fin 512) (j : Fin 1024) :
    blockVal x0 x1 x2 x3 x4 x5 x6 x7 x8 wg wu wd (ix2 r j) = out (wts x4 x5 x6 x7 x8 wg wu wd) (tok x0 x1 x2 x3 r) j := by
  have e1 : ∀ k, x1V x0 (mrgV x1 x2 x3 x4 x5) x6 (ix2 r k) = PostRow.x1 (wts x4 x5 x6 x7 x8 wg wu wd) (tok x0 x1 x2 x3 r) k := fun k => by
    rw [x1V_apply]
    simp only [mrgV_apply]
    rfl
  have eh : ∀ k, hfV (x1V x0 (mrgV x1 x2 x3 x4 x5) x6) x7 (ix2 r k) = hf (wts x4 x5 x6 x7 x8 wg wu wd) (tok x0 x1 x2 x3 r) k := fun k => by
    refine (normV_apply _ x7 r k).trans ?_
    simp only [e1]
    rfl
  unfold blockVal
  rw [normV_apply]
  simp only [x2V_apply, actV_apply, e1, eh]
  rfl

end Cert.PostIdeal.Block

end
-- ==== Proof.PostHost.lean ====
/-
  What the post call's windows and operands hold when its region is entered, read at an index over the extended reals:
  the host's flattenings, dropped unit axes and casts all read an argument of the call at one index.
-/
module

public import proofs.«01_k».proof.Proof.PostToken
public import Idealize.ShloMosaic.Lib.StableHlo.Run

@[expose] public section

set_option maxRecDepth 16384

noncomputable section

open Idealize.ShloMosaic Idealize.ShloMosaic.TcCoe Idealize.SL.Sem

namespace Cert.PostIdeal.Block

open Cert.PostIdeal Cert.PostIdeal.Gen

variable (m : (ℓ : Loc nD τ sig) → Buf (Elt Ideal) ℓ) (c : Dev nD)

/-- The argument `b` of the call. -/
abbrev arg (b : Ref sig .tc) : Buf (Elt Ideal) ((c : Thread nD τ).loc b) := m ((c : Thread nD τ).loc b)

/-! ## The host's operations, one buffer at a time -/

theorem V_v0 : V m c main_v0 = shapeCast S16384x1024 (arg m c main_arg0) shapeCasts_S8x2048x1024_S16384x1024 := by
  unfold_abbrev_sides; after_results; rfl
theorem V_v1 : V m c main_v1 = shapeCast S16384x512 (arg m c main_arg1) shapeCasts_S8x2048x512_S16384x512 := by
  unfold_abbrev_sides; after_results; rfl
theorem V_v2 : V m c main_v2 = shapeCast S16384x512 (arg m c main_arg2) shapeCasts_S8x2048x512_S16384x512 := by
  unfold_abbrev_sides; after_results; rfl
theorem V_v3 : V m c main_v3 = shapeCast S16384x2048 (arg m c main_arg3) shapeCasts_S8x2048x2048_S16384x2048 := by
  unfold_abbrev_sides; after_results; rfl
theorem V_v5 : V m c main_v5 = truncf (F := Ideal) .bf16 (shapeCast S512x1024 (arg m c main_arg4) shapeCasts_S1x512x1024_S512x1024) bitsLt_bf16_f32 := by
  unfold_abbrev_sides; after_results; rfl
theorem V_v7 : V m c main_v7 = truncf (F := Ideal) .bf16 (shapeCast S512x1024 (arg m c main_arg5) shapeCasts_S1x512x1024_S512x1024) bitsLt_bf16_f32 := by
  unfold_abbrev_sides; after_results; rfl
theorem V_v9 : V m c main_v9 = truncf (F := Ideal) .bf16 (shapeCast S1024x1024 (arg m c main_arg6) shapeCasts_S1x1024x1024_S1024x1024) bitsLt_bf16_f32 := by
  unfold_abbrev_sides; after_results; rfl
theorem V_v11 : V m c main_v11 = broadcastInDim S1x1024 ![1] bcast_S1024_S1x1024_1 (shapeCast S1024 (arg m c main_arg7) shapeCasts_S1x1024_S1024) := by
  unfold_abbrev_sides; after_results; rfl
theorem V_v13 : V m c main_v13 = truncf (F := Ideal) .bf16 (shapeCast S1024x2816 (arg m c main_arg8) shapeCasts_S1x1024x2816_S1024x2816) bitsLt_bf16_f32 := by
  unfold_abbrev_sides; after_results; rfl
theorem V_v15 : V m c main_v15 = truncf (F := Ideal) .bf16 (shapeCast S1024x2816 (arg m c main_arg9) shapeCasts_S1x1024x2816_S1024x2816) bitsLt_bf16_f32 := by
  unfold_abbrev_sides; after_results; rfl
theorem V_v17 : V m c main_v17 = truncf (F := Ideal) .bf16 (shapeCast S2816x1024 (arg m c main_arg10) shapeCasts_S1x2816x1024_S2816x1024) bitsLt_bf16_f32 := by
  unfold_abbrev_sides; after_results; rfl
theorem V_v18 : V m c main_v18 = broadcastInDim S1x1024 ![1] bcast_S1024_S1x1024_1 (arg m c main_arg11) := by
  unfold_abbrev_sides; after_results

/-! ## Read at an index -/

/-- A flattened array at a row: token `(row / 2048, row % 2048)`. -/
theorem flat_apply {w : Nat} (x : (⟨3, ![8, 2048, w]⟩ : Shape).Idx → EReal) (h : (⟨3, ![8, 2048, w]⟩ : Shape).ShapeCasts ⟨2, ![16384, w]⟩)
    (n : Fin 16384) (j : Fin w) (b : Fin 8) (l : Fin 2048) (hn : n.val = b.val * 2048 + l.val) :
    shapeCast ⟨2, ![16384, w]⟩ x h (ix2 n j) = x (ix3 b l j) :=
  shapeCast_apply x h _ _ (by
    rw [Shape.rowMajor_val_three, Shape.rowMajor_val_two]
    show (b.val * 2048 + l.val) * w + j.val = n.val * w + j.val
    rw [hn])

/-- A leading unit axis dropped. -/
theorem drop_apply {a b : Nat} (x : (⟨3, ![1, a, b]⟩ : Shape).Idx → EReal) (h : (⟨3, ![1, a, b]⟩ : Shape).ShapeCasts ⟨2, ![a, b]⟩)
    (i : Fin a) (j : Fin b) : shapeCast ⟨2, ![a, b]⟩ x h (ix2 i j) = x (ix3 0 i j) :=
  shapeCast_apply x h _ _ (by
    rw [Shape.rowMajor_val_three, Shape.rowMajor_val_two]
    show (0 * a + i.val) * b + j.val = i.val * b + j.val
    rw [Nat.zero_mul, Nat.zero_add])

theorem at_v11 (j : Fin 1024) : V m c main_v11 (ix2 0 j) = arg m c main_arg7 (ix2 0 j) := by
  rw [V_v11]
  pointwise

theorem at_v18 (j : Fin 1024) : V m c main_v18 (ix2 0 j) = arg m c main_arg11 (ix1 j) := by
  rw [V_v18]
  pointwise

end Cert.PostIdeal.Block

end
-- ==== Proof.PostRefValue.lean ====
/-
  The reference's result, element by element: the token's function of `PostRow.lean` at token (i 0) of the flattened
  tokens, whose inputs are the arrays' rows (b, l) = ((i 0) / 2048, (i 0) mod 2048).
-/
module

public import proofs.«01_k».proof.Proof.PostRow
public import proofs.«01_k».proof.Proof.Gen.PostRefIdeal.Read

@[expose] public section

noncomputable section

open Idealize.ShloMosaic Idealize.ShloMosaic.ValueIdx
open scoped BigOperators

namespace Cert.PostRefIdeal.Token

open Cert.PostRefIdeal Cert.PostRefIdeal.Gen Cert.PostRefIdeal.Read Cert.PostRow

variable (x0 : (⟨S8x2048x1024, .f32⟩ : BufTy).Contents (Elt Ideal)) (x1 x2 : (⟨S8x2048x512, .bf16⟩ : BufTy).Contents (Elt Ideal))
  (x3 : (⟨S8x2048x2048, .f32⟩ : BufTy).Contents (Elt Ideal)) (x4 x5 : (⟨S1x512x1024, .f32⟩ : BufTy).Contents (Elt Ideal))
  (x6 : (⟨S1x1024x1024, .f32⟩ : BufTy).Contents (Elt Ideal)) (x7 : (⟨S1x1024, .f32⟩ : BufTy).Contents (Elt Ideal))
  (x8 x9 : (⟨S1x1024x2816, .f32⟩ : BufTy).Contents (Elt Ideal)) (x10 : (⟨S1x2816x1024, .f32⟩ : BufTy).Contents (Elt Ideal))
  (x11 : (⟨S1024, .f32⟩ : BufTy).Contents (Elt Ideal))

/-- The weights as the argument arrays hold them. -/
def wts : Weights where
  wc k j := x4 (ix3 0 k j)
  wa k j := x5 (ix3 0 k j)
  wo k j := x6 (ix3 0 k j)
  nf j := x7 (ix2 0 j)
  wg k j := x8 (ix3 0 k j)
  wu k j := x9 (ix3 0 k j)
  wd k j := x10 (ix3 0 k j)
  nl j := x11 (ix1 j)

/-- Token (b, l) as the argument arrays hold it. -/
def tok (b : Fin 8) (l : Fin 2048) : Token where
  x j := x0 (ix3 b l j)
  hc j := x1 (ix3 b l j)
  ao j := x2 (ix3 b l j)
  gate j := x3 (ix3 b l j)

local notation "WTS" => wts x4 x5 x6 x7 x8 x9 x10 x11
local notation "TOK" => tok x0 x1 x2 x3

/-- Two indices of a rank-three array with equal coordinates. -/
theorem ix3_of {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  rw [eq_ix3 j]
  obtain rfl : j 0 = a := Fin.ext h0
  obtain rfl : j 1 = b := Fin.ext h1
  obtain rfl : j 2 = c := Fin.ext h2
  rfl

/-- Two indices of a rank-two array with equal coordinates. -/
theorem ix2_of {n0 n1 : Nat} (j : (⟨2, ![n0, n1]⟩ : Shape).Idx) (a : Fin n0) (b : Fin n1)
    (h0 : (j 0).val = a.val) (h1 : (j 1).val = b.val) : j = ix2 a b := by
  rw [eq_ix2 j]
  obtain rfl : j 0 = a := Fin.ext h0
  obtain rfl : j 1 = b := Fin.ext h1
  rfl

/-- The mixed projections. -/
theorem mrg_eq (b : Fin 8) (l : Fin 2048) (j : Fin 1024) :
    val_main_v10 (F := Ideal) x1 x2 x3 x4 x5 (ix3 b l j) = mrg WTS (TOK b l) j := by
  rw [val_main_v10_apply, val_main_v7_apply, val_main_v9_apply, val_main_v6_apply, val_main_v8_apply, val_main_v2_apply, val_main_v5_apply]
  simp only [val_main_v0_apply, val_main_v1_apply, val_main_v3_apply, val_main_v4_apply]
  have hj := j.isLt
  unfold mrg
  show _ * _ + _ * _ = _
  refine congrArg₂ _ (congrArg₂ _ (congrArg x3 (ix3_of _ _ _ _ rfl rfl rfl)) (Finset.sum_congr rfl fun k _ => ?_))
    (congrArg₂ _ (congrArg x3 (ix3_of _ _ _ _ rfl rfl rfl)) (Finset.sum_congr rfl fun k _ => ?_))
  all_goals
    have hk := k.isLt
    refine congrArg₂ _ (by first | exact congrArg x1 (ix3_of _ _ _ _ rfl rfl rfl) | exact congrArg x2 (ix3_of _ _ _ _ rfl rfl rfl))
      (congrArg _ (ix3_of _ _ _ _ rfl ?_ ?_))
    · show (k.val * 1024 + j.val) / 1024 % 512 = k.val; omega
    · show (k.val * 1024 + j.val) % 1024 = j.val; omega

/-- The residual after the output projection. -/
theorem x1_eq (b : Fin 8) (l : Fin 2048) (j : Fin 1024) :
    val_main_v13 (F := Ideal) x0 x1 x2 x3 x4 x5 x6 (ix3 b l j) = PostRow.x1 WTS (TOK b l) j := by
  rw [val_main_v13_apply, val_main_v12_apply]
  unfold PostRow.x1
  show _ + _ = _
  refine congrArg₂ _ rfl (Finset.sum_congr rfl fun k _ => ?_)
  have hk := k.isLt
  have hj := j.isLt
  refine congrArg₂ _ ((congrArg _ (ix3_of _ b l k rfl rfl rfl)).trans (mrg_eq x0 x1 x2 x3 x4 x5 x6 x7 x8 x9 x10 x11 b l k)) ?_
  rw [val_main_v11_apply]
  refine congrArg _ (ix3_of _ _ _ _ rfl ?_ ?_)
  · show (k.val * 1024 + j.val) / 1024 % 1024 = k.val; omega
  · show (k.val * 1024 + j.val) % 1024 = j.val; omega

/-- The normalised input of the feed-forward. -/
theorem hf_eq (b : Fin 8) (l : Fin 2048) (j : Fin 1024) :
    val_main_v27 (F := Ideal) x0 x1 x2 x3 x4 x5 x6 x7 (ix3 b l j) = hf WTS (TOK b l) j := by
  rw [val_main_v27_apply, val_main_v24_apply, x1_eq x0 x1 x2 x3 x4 x5 x6 x7 x8 x9 x10 x11, val_main_v23_apply, val_main_v22_apply,
    val_main_v21_apply, val_main_v20_apply, val_main_v19_apply, val_main_v18_apply, val_main_v17_apply, val_main_v16_apply,
    val_main_v26_apply, val_main_v25_apply, val_main_v14_apply, val_main_cst_apply, val_main_cst_0_apply, val_main_cst_1_apply]
  have hs : (∑ k : Fin 1024, val_main_v15 (F := Ideal) x0 x1 x2 x3 x4 x5 x6 (idx_main_v16 (idx_main_v17 (idx_main_v23 (ix3 b l j))) k))
      = ∑ k : Fin 1024, PostRow.x1 WTS (TOK b l) k * PostRow.x1 WTS (TOK b l) k := Finset.sum_congr rfl fun k _ => by
    rw [val_main_v15_apply, ix3_of (idx_main_v16 _ k) b l k rfl rfl rfl, x1_eq x0 x1 x2 x3 x4 x5 x6 x7 x8 x9 x10 x11]
    rfl
  rw [hs, show (FloatOps.ofBits .f32 0x00000000#32 : Ideal .f32) = (0 : EReal) from Ideal.ofBits_zero_f32, zero_add]
  have hj := j.isLt
  refine congrArg₂ _ rfl (congrArg x7 (ix2_of _ _ _ rfl ?_))
  show j.val % 1024 = j.val
  omega

/-- The feed-forward's gate projection. -/
theorem gt_eq (b : Fin 8) (l : Fin 2048) (j : Fin 2816) :
    val_main_v29 (F := Ideal) x0 x1 x2 x3 x4 x5 x6 x7 x8 (ix3 b l j) = gt WTS (TOK b l) j := by
  rw [val_main_v29_apply]
  unfold gt
  refine Finset.sum_congr rfl fun k _ => ?_
  have hk := k.isLt
  have hj := j.isLt
  refine congrArg₂ _ ((congrArg _ (ix3_of _ b l k rfl rfl rfl)).trans (hf_eq x0 x1 x2 x3 x4 x5 x6 x7 x8 x9 x10 x11 b l k)) ?_
  rw [val_main_v28_apply]
  refine congrArg _ (ix3_of _ _ _ _ rfl ?_ ?_)
  · show (k.val * 2816 + j.val) / 2816 % 1024 = k.val; omega
  · show (k.val * 2816 + j.val) % 2816 = j.val; omega

/-- The feed-forward's up projection. -/
theorem up_eq (b : Fin 8) (l : Fin 2048) (j : Fin 2816) :
    val_main_v32 (F := Ideal) x0 x1 x2 x3 x4 x5 x6 x7 x9 (ix3 b l j) = up WTS (TOK b l) j := by
  rw [val_main_v32_apply]
  unfold up
  refine Finset.sum_congr rfl fun k _ => ?_
  have hk := k.isLt
  have hj := j.isLt
  refine congrArg₂ _ ((congrArg _ (ix3_of _ b l k rfl rfl rfl)).trans (hf_eq x0 x1 x2 x3 x4 x5 x6 x7 x8 x9 x10 x11 b l k)) ?_
  rw [val_main_v31_apply]
  refine congrArg _ (ix3_of _ _ _ _ rfl ?_ ?_)
  · show (k.val * 2816 + j.val) / 2816 % 1024 = k.val; omega
  · show (k.val * 2816 + j.val) % 2816 = j.val; omega

/-- The feed-forward's activations: `silu` printed as `g · (1 / (1 + exp (−g)))`. -/
theorem act_eq (b : Fin 8) (l : Fin 2048) (j : Fin 2816) :
    val_main_v33 (F := Ideal) x0 x1 x2 x3 x4 x5 x6 x7 x8 x9 (ix3 b l j) = act WTS (TOK b l) j := by
  rw [val_main_v33_apply, val_main_v30_apply, val_main_call0_v5_apply, val_main_call0_v3_apply, val_main_call0_v1_apply,
    val_main_call0_v0_apply, gt_eq x0 x1 x2 x3 x4 x5 x6 x7 x8 x9 x10 x11, up_eq x0 x1 x2 x3 x4 x5 x6 x7 x8 x9 x10 x11,
    val_main_call0_v2_apply, val_main_call0_v4_apply, val_main_call0_cst_apply, val_main_call0_cst_0_apply]
  rfl

/-- The residual after the feed-forward. -/
theorem x2_eq (b : Fin 8) (l : Fin 2048) (j : Fin 1024) :
    val_main_v36 (F := Ideal) x0 x1 x2 x3 x4 x5 x6 x7 x8 x9 x10 (ix3 b l j) = PostRow.x2 WTS (TOK b l) j := by
  rw [val_main_v36_apply, val_main_v35_apply, x1_eq x0 x1 x2 x3 x4 x5 x6 x7 x8 x9 x10 x11]
  unfold PostRow.x2
  show _ + _ = _
  refine congrArg₂ _ rfl (Finset.sum_congr rfl fun k _ => ?_)
  have hk := k.isLt
  have hj := j.isLt
  refine congrArg₂ _ ((congrArg _ (ix3_of _ b l k rfl rfl rfl)).trans (act_eq x0 x1 x2 x3 x4 x5 x6 x7 x8 x9 x10 x11 b l k)) ?_
  rw [val_main_v34_apply]
  refine congrArg _ (ix3_of _ _ _ _ rfl ?_ ?_)
  · show (k.val * 1024 + j.val) / 1024 % 2816 = k.val; omega
  · show (k.val * 1024 + j.val) % 1024 = j.val; omega

/-- The reference's result at token (b, l), before it is flattened. -/
theorem out_eq (b : Fin 8) (l : Fin 2048) (j : Fin 1024) :
    val_main_v49 (F := Ideal) x0 x1 x2 x3 x4 x5 x6 x7 x8 x9 x10 x11 (ix3 b l j) = out WTS (TOK b l) j := by
  rw [val_main_v49_apply, val_main_v46_apply, x2_eq x0 x1 x2 x3 x4 x5 x6 x7 x8 x9 x10 x11, val_main_v45_apply, val_main_v44_apply,
    val_main_v43_apply, val_main_v42_apply, val_main_v41_apply, val_main_v40_apply, val_main_v39_apply, val_main_v38_apply,
    val_main_v48_apply, val_main_v47_apply, val_main_cst_2_apply, val_main_cst_3_apply, val_main_cst_4_apply]
  have hs : (∑ k : Fin 1024, val_main_v37 (F := Ideal) x0 x1 x2 x3 x4 x5 x6 x7 x8 x9 x10 (idx_main_v38 (idx_main_v39 (idx_main_v45 (ix3 b l j))) k))
      = ∑ k : Fin 1024, PostRow.x2 WTS (TOK b l) k * PostRow.x2 WTS (TOK b l) k := Finset.sum_congr rfl fun k _ => by
    rw [val_main_v37_apply, ix3_of (idx_main_v38 _ k) b l k rfl rfl rfl, x2_eq x0 x1 x2 x3 x4 x5 x6 x7 x8 x9 x10 x11]
    rfl
  rw [hs, show (FloatOps.ofBits .f32 0x00000000#32 : Ideal .f32) = (0 : EReal) from Ideal.ofBits_zero_f32, zero_add]
  refine congrArg₂ _ rfl (congrArg x11 ?_)
  funext d
  match d with
  | ⟨0, _⟩ => rfl

/-- The reference's result at row `n` of the flattened tokens. -/
theorem result_eq (n : Fin 16384) (j : Fin 1024) :
    val_main_v50 (F := Ideal) x0 x1 x2 x3 x4 x5 x6 x7 x8 x9 x10 x11 (ix2 n j)
      = out WTS (TOK ⟨n.val / 2048, by have := n.isLt; omega⟩ ⟨n.val % 2048, Nat.mod_lt _ (by decide)⟩) j := by
  have hn := n.isLt
  have hj := j.isLt
  rw [val_main_v50_apply, ← out_eq]
  refine congrArg _ (ix3_of _ _ _ _ ?_ ?_ ?_)
  · show (n.val * 1024 + j.val) / 2097152 = n.val / 2048; omega
  · show (n.val * 1024 + j.val) / 1024 % 2048 = n.val % 2048; omega
  · show (n.val * 1024 + j.val) % 1024 = j.val; omega

end Cert.PostRefIdeal.Token
-- ==== Proof.PostValue.lean ====
/-
  The tail kernel's result array over the extended reals: the scratches hold the feed-forward's weights after every
  point, so every point leaves its block's rows, each the token's function of `PostRow.lean`; the blocks tile the array.
-/
module

public import proofs.«01_k».proof.Proof.PostHost
public import proofs.«01_k».proof.Proof.PostRefValue
public import proofs.«01_k».proof.Proof.Gen.PostIdeal.Value
public import proofs.«01_k».proof.Proof.Gen.PostRefIdeal.Read
public import proofs.«01_k».proof.Defs

@[expose] public section

set_option maxRecDepth 16384

noncomputable section

open Idealize.ShloMosaic Idealize.ShloMosaic.TcCoe Idealize.SL.Sem

namespace Cert.PostIdeal.Block

open Cert.PostIdeal Cert.PostIdeal.Gen

section Scratches

variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg12 : Memref sig .tc .vmem S1x1024 .f32) (harg12 : arg12.IsWhole) (arg13 : Memref sig .tc .vmem S512x1024 .f32) (harg13 : arg13.IsWhole) (arg14 : Memref sig .tc .vmem S1024x2816 .bf16) (harg14 : arg14.IsWhole) (arg15 : Memref sig .tc .vmem S1024x2816 .bf16) (harg15 : arg15.IsWhole) (arg16 : Memref sig .tc .vmem S2816x1024 .bf16) (harg16 : arg16.IsWhole)

theorem sout_A0 (hc0 : cond0_0 i) (hc1 : cond0_1 i)
    (x0 : Vec Ideal S512x1024 .f32) (x1 x2 : Vec Ideal S512x512 .bf16) (x3 : Vec Ideal S512x2048 .f32) (x4 x5 : Vec Ideal S512x1024 .bf16)
    (x6 : Vec Ideal S1024x1024 .bf16) (x7 x8 : Vec Ideal S1x1024 .f32)
    (fh0 : HbBuf0 (F := Ideal) c hbM0_0) (fh1 : HbBuf0 (F := Ideal) c hbM0_1) (fh2 : HbBuf0 (F := Ideal) c hbM0_2) :
    sout0_A_0 (F := Ideal) c i arg1 harg1 arg2 harg2 arg3 harg3 arg4 harg4 arg5 harg5 arg6 harg6 arg7 harg7 arg8 harg8 arg12 harg12 arg13 harg13 arg14 harg14 arg15 harg15 arg16 harg16 hc0 hc1 x0 x1 x2 x3 x4 x5 x6 x7 x8 fh0 fh1 fh2 = fh0 := by
  unfold sout0_A_0
  rw [View.read_writes_eq_canon _ _ _ (scover0_A_0 c i arg1 harg1 arg2 harg2 arg3 harg3 arg4 harg4 arg5 harg5 arg6 harg6 arg7 harg7 arg8 harg8 arg12 harg12 arg13 harg13 arg14 harg14 arg15 harg15 arg16 harg16 hc0 hc1 x0 x1 x2 x3 x4 x5 x6 x7 x8 fh0 fh1 fh2)]
  unfold kernelRun0_A
  dsimp only
  exact View.canon_unit_zero (S := S1024x2816) (off := fun _ => 0) rfl (fun _ => by simp) _

theorem sout_A1 (hc0 : cond0_0 i) (hc1 : cond0_1 i)
    (x0 : Vec Ideal S512x1024 .f32) (x1 x2 : Vec Ideal S512x512 .bf16) (x3 : Vec Ideal S512x2048 .f32) (x4 x5 : Vec Ideal S512x1024 .bf16)
    (x6 : Vec Ideal S1024x1024 .bf16) (x7 x8 : Vec Ideal S1x1024 .f32)
    (fh0 : HbBuf0 (F := Ideal) c hbM0_0) (fh1 : HbBuf0 (F := Ideal) c hbM0_1) (fh2 : HbBuf0 (F := Ideal) c hbM0_2) :
    sout0_A_1 (F := Ideal) c i arg1 harg1 arg2 harg2 arg3 harg3 arg4 harg4 arg5 harg5 arg6 harg6 arg7 harg7 arg8 harg8 arg12 harg12 arg13 harg13 arg14 harg14 arg15 harg15 arg16 harg16 hc0 hc1 x0 x1 x2 x3 x4 x5 x6 x7 x8 fh0 fh1 fh2 = fh1 := by
  unfold sout0_A_1
  rw [View.read_writes_eq_canon _ _ _ (scover0_A_1 c i arg1 harg1 arg2 harg2 arg3 harg3 arg4 harg4 arg5 harg5 arg6 harg6 arg7 harg7 arg8 harg8 arg12 harg12 arg13 harg13 arg14 harg14 arg15 harg15 arg16 harg16 hc0 hc1 x0 x1 x2 x3 x4 x5 x6 x7 x8 fh0 fh1 fh2)]
  unfold kernelRun0_A
  dsimp only
  exact View.canon_unit_zero (S := S1024x2816) (off := fun _ => 0) rfl (fun _ => by simp) _

theorem sout_A2 (hc0 : cond0_0 i) (hc1 : cond0_1 i)
    (x0 : Vec Ideal S512x1024 .f32) (x1 x2 : Vec Ideal S512x512 .bf16) (x3 : Vec Ideal S512x2048 .f32) (x4 x5 : Vec Ideal S512x1024 .bf16)
    (x6 : Vec Ideal S1024x1024 .bf16) (x7 x8 : Vec Ideal S1x1024 .f32)
    (fh0 : HbBuf0 (F := Ideal) c hbM0_0) (fh1 : HbBuf0 (F := Ideal) c hbM0_1) (fh2 : HbBuf0 (F := Ideal) c hbM0_2) :
    sout0_A_2 (F := Ideal) c i arg1 harg1 arg2 harg2 arg3 harg3 arg4 harg4 arg5 harg5 arg6 harg6 arg7 harg7 arg8 harg8 arg12 harg12 arg13 harg13 arg14 harg14 arg15 harg15 arg16 harg16 hc0 hc1 x0 x1 x2 x3 x4 x5 x6 x7 x8 fh0 fh1 fh2 = fh2 := by
  unfold sout0_A_2
  rw [View.read_writes_eq_canon _ _ _ (scover0_A_2 c i arg1 harg1 arg2 harg2 arg3 harg3 arg4 harg4 arg5 harg5 arg6 harg6 arg7 harg7 arg8 harg8 arg12 harg12 arg13 harg13 arg14 harg14 arg15 harg15 arg16 harg16 hc0 hc1 x0 x1 x2 x3 x4 x5 x6 x7 x8 fh0 fh1 fh2)]
  unfold kernelRun0_A
  dsimp only
  exact View.canon_unit_zero (S := S2816x1024) (off := fun _ => 0) rfl (fun _ => by simp) _

end Scratches

variable (m : (ℓ : Loc nD τ sig) → Buf (Elt Ideal) ℓ) (c : Dev nD)

/-- After every point the scratches hold the feed-forward's weights. -/
theorem scratches : ∀ (n : ℕ) (h : n < cfg0.N), (outsAt0 m c n h).2 = (V m c main_v13, V m c main_v15, V m c main_v17)
  | 0, h => by
    refine (congrArg Prod.snd (outsAt0_A m c ⟨0, h⟩ rfl rfl)).trans ?_
    dsimp only
    rw [sout_A0, sout_A1, sout_A2]
  | n + 1, h => by
    have hN : cfg0.N = 32 := N_0
    have hB : ¬(⟨n + 1, h⟩ : Fin cfg0.N).val % 32 = 0 := by dsimp only; omega
    rw [outsAt0_B m c ⟨n + 1, h⟩ hB hB]
    exact scratches n (Nat.lt_of_succ_lt h)

/-- What a point leaves in the output's staging buffer. -/
theorem left (t : Fin cfg0.N) : (outsAt0 m c t.val t.isLt).1
    = blockVal (iblk m c 0 t) (iblk m c 1 t) (iblk m c 2 t) (iblk m c 3 t) (iblk m c 4 t) (iblk m c 5 t) (iblk m c 6 t) (iblk m c 7 t) (iblk m c 8 t)
        (V m c main_v13) (V m c main_v15) (V m c main_v17) := by
  by_cases h : t.val % 32 = 0
  · rw [outsAt0_A m c t h h]
    dsimp only
    rw [out_A]
  · rw [outsAt0_B m c t h h]
    dsimp only
    rw [scratches m c (t.val - 1) _]
    rw [out_B]

/-! ## The windows' blocks, read at an index -/

theorem index_row : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_9.index t 0 = t.val ∧ win0_9.index t 1 = 0) := by decide +kernel
theorem index_whole : ∀ t : Fin grid0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) := by decide +kernel

/-- Row `r` of point `t`'s blocks, as a row of the flattened tokens. -/
def row (t : Fin cfg0.N) (r : Fin 512) : Fin 16384 := ⟨t.val * 512 + r.val, by have := t.isLt; have h : cfg0.N = 32 := N_0; have := r.isLt; omega⟩

theorem at_win0 (t : Fin cfg0.N) (r : Fin 512) (j : Fin 1024) : iblk m c 0 t (ix2 r j) = V m c main_v0 (ix2 (row t r) j) := by
  obtain ⟨e0, e1⟩ := (index_row t).1
  unfold iblk
  rw [View.read_apply]
  show V m c main_v0 _ = _
  congr 1
  funext a
  match a with
  | ⟨0, _⟩ => exact Fin.ext (by show win0_0.index t 0 * 512 + 1 * r.val = t.val * 512 + r.val; rw [e0, Nat.one_mul])
  | ⟨1, _⟩ => exact Fin.ext (by show win0_0.index t 1 * 1024 + 1 * j.val = j.val; rw [e1, Nat.zero_mul, Nat.zero_add, Nat.one_mul])

theorem at_win1 (t : Fin cfg0.N) (r : Fin 512) (j : Fin 512) : iblk m c 1 t (ix2 r j) = V m c main_v1 (ix2 (row t r) j) := by
  obtain ⟨e0, e1⟩ := (index_row t).2.1
  unfold iblk
  rw [View.read_apply]
  show V m c main_v1 _ = _
  congr 1
  funext a
  match a with
  | ⟨0, _⟩ => exact Fin.ext (by show win0_1.index t 0 * 512 + 1 * r.val = t.val * 512 + r.val; rw [e0, Nat.one_mul])
  | ⟨1, _⟩ => exact Fin.ext (by show win0_1.index t 1 * 512 + 1 * j.val = j.val; rw [e1, Nat.zero_mul, Nat.zero_add, Nat.one_mul])

theorem at_win2 (t : Fin cfg0.N) (r : Fin 512) (j : Fin 512) : iblk m c 2 t (ix2 r j) = V m c main_v2 (ix2 (row t r) j) := by
  obtain ⟨e0, e1⟩ := (index_row t).2.2.1
  unfold iblk
  rw [View.read_apply]
  show V m c main_v2 _ = _
  congr 1
  funext a
  match a with
  | ⟨0, _⟩ => exact Fin.ext (by show win0_2.index t 0 * 512 + 1 * r.val = t.val * 512 + r.val; rw [e0, Nat.one_mul])
  | ⟨1, _⟩ => exact Fin.ext (by show win0_2.index t 1 * 512 + 1 * j.val = j.val; rw [e1, Nat.zero_mul, Nat.zero_add, Nat.one_mul])

theorem at_win3 (t : Fin cfg0.N) (r : Fin 512) (j : Fin 2048) : iblk m c 3 t (ix2 r j) = V m c main_v3 (ix2 (row t r) j) := by
  obtain ⟨e0, e1⟩ := (index_row t).2.2.2.1
  unfold iblk
  rw [View.read_apply]
  show V m c main_v3 _ = _
  congr 1
  funext a
  match a with
  | ⟨0, _⟩ => exact Fin.ext (by show win0_3.index t 0 * 512 + 1 * r.val = t.val * 512 + r.val; rw [e0, Nat.one_mul])
  | ⟨1, _⟩ => exact Fin.ext (by show win0_3.index t 1 * 2048 + 1 * j.val = j.val; rw [e1, Nat.zero_mul, Nat.zero_add, Nat.one_mul])

theorem at_win4 (t : Fin cfg0.N) (k : Fin 512) (j : Fin 1024) : iblk m c 4 t (ix2 k j) = V m c main_v5 (ix2 k j) := by
  obtain ⟨e0, e1⟩ := (index_whole t).1
  unfold iblk
  rw [View.read_apply]
  show V m c main_v5 _ = _
  congr 1
  funext a
  match a with
  | ⟨0, _⟩ => exact Fin.ext (by show win0_4.index t 0 * 512 + 1 * k.val = k.val; rw [e0, Nat.zero_mul, Nat.zero_add, Nat.one_mul])
  | ⟨1, _⟩ => exact Fin.ext (by show win0_4.index t 1 * 1024 + 1 * j.val = j.val; rw [e1, Nat.zero_mul, Nat.zero_add, Nat.one_mul])

theorem at_win5 (t : Fin cfg0.N) (k : Fin 512) (j : Fin 1024) : iblk m c 5 t (ix2 k j) = V m c main_v7 (ix2 k j) := by
  obtain ⟨e0, e1⟩ := (index_whole t).2.1
  unfold iblk
  rw [View.read_apply]
  show V m c main_v7 _ = _
  congr 1
  funext a
  match a with
  | ⟨0, _⟩ => exact Fin.ext (by show win0_5.index t 0 * 512 + 1 * k.val = k.val; rw [e0, Nat.zero_mul, Nat.zero_add, Nat.one_mul])
  | ⟨1, _⟩ => exact Fin.ext (by show win0_5.index t 1 * 1024 + 1 * j.val = j.val; rw [e1, Nat.zero_mul, Nat.zero_add, Nat.one_mul])

theorem at_win6 (t : Fin cfg0.N) (k : Fin 1024) (j : Fin 1024) : iblk m c 6 t (ix2 k j) = V m c main_v9 (ix2 k j) := by
  obtain ⟨e0, e1⟩ := (index_whole t).2.2.1
  unfold iblk
  rw [View.read_apply]
  show V m c main_v9 _ = _
  congr 1
  funext a
  match a with
  | ⟨0, _⟩ => exact Fin.ext (by show win0_6.index t 0 * 1024 + 1 * k.val = k.val; rw [e0, Nat.zero_mul, Nat.zero_add, Nat.one_mul])
  | ⟨1, _⟩ => exact Fin.ext (by show win0_6.index t 1 * 1024 + 1 * j.val = j.val; rw [e1, Nat.zero_mul, Nat.zero_add, Nat.one_mul])

theorem at_win7 (t : Fin cfg0.N) (k : Fin 1) (j : Fin 1024) : iblk m c 7 t (ix2 k j) = V m c main_v11 (ix2 k j) := by
  obtain ⟨e0, e1⟩ := (index_whole t).2.2.2.1
  unfold iblk
  rw [View.read_apply]
  show V m c main_v11 _ = _
  congr 1
  funext a
  match a with
  | ⟨0, _⟩ => exact Fin.ext (by show win0_7.index t 0 * 1 + 1 * k.val = k.val; rw [e0, Nat.zero_mul, Nat.zero_add, Nat.one_mul])
  | ⟨1, _⟩ => exact Fin.ext (by show win0_7.index t 1 * 1024 + 1 * j.val = j.val; rw [e1, Nat.zero_mul, Nat.zero_add, Nat.one_mul])

theorem at_win8 (t : Fin cfg0.N) (k : Fin 1) (j : Fin 1024) : iblk m c 8 t (ix2 k j) = V m c main_v18 (ix2 k j) := by
  obtain ⟨e0, e1⟩ := (index_whole t).2.2.2.2
  unfold iblk
  rw [View.read_apply]
  show V m c main_v18 _ = _
  congr 1
  funext a
  match a with
  | ⟨0, _⟩ => exact Fin.ext (by show win0_8.index t 0 * 1 + 1 * k.val = k.val; rw [e0, Nat.zero_mul, Nat.zero_add, Nat.one_mul])
  | ⟨1, _⟩ => exact Fin.ext (by show win0_8.index t 1 * 1024 + 1 * j.val = j.val; rw [e1, Nat.zero_mul, Nat.zero_add, Nat.one_mul])

/-! ## The result array -/

/-- The call's weights, as its arguments hold them. -/
abbrev W : PostRow.Weights := PostRefIdeal.Token.wts (arg m c main_arg4) (arg m c main_arg5) (arg m c main_arg6) (arg m c main_arg7) (arg m c main_arg8)
  (arg m c main_arg9) (arg m c main_arg10) (arg m c main_arg11)

/-- Row `n` of the flattened tokens, as the call's arguments hold it. -/
abbrev T (n : Fin 16384) : PostRow.Token := PostRefIdeal.Token.tok (arg m c main_arg0) (arg m c main_arg1) (arg m c main_arg2) (arg m c main_arg3)
  ⟨n.val / 2048, by have := n.isLt; omega⟩ ⟨n.val % 2048, Nat.mod_lt _ (by decide)⟩

theorem wts_eq (t : Fin cfg0.N) : wts (iblk m c 4 t) (iblk m c 5 t) (iblk m c 6 t) (iblk m c 7 t) (iblk m c 8 t) (V m c main_v13) (V m c main_v15) (V m c main_v17) = W m c := by
  unfold wts W PostRefIdeal.Token.wts
  simp only [at_win4, at_win5, at_win6, at_win7, at_win8, at_v11, at_v18, V_v5, V_v7, V_v9, V_v13, V_v15, V_v17]
  congr 1
  all_goals first | exact funext fun k => funext fun j => drop_apply _ _ _ _ | exact funext fun j => at_v11 m c j | exact funext fun j => at_v18 m c j | skip

theorem tok_eq (t : Fin cfg0.N) (r : Fin 512) : tok (iblk m c 0 t) (iblk m c 1 t) (iblk m c 2 t) (iblk m c 3 t) r = T m c (row t r) := by
  unfold tok T PostRefIdeal.Token.tok
  simp only [at_win0, at_win1, at_win2, at_win3, V_v0, V_v1, V_v2, V_v3]
  congr 1 <;> funext j <;> exact flat_apply _ _ _ _ _ _ (Nat.div_add_mod' _ _).symm

/-- The result: every row the token's function. -/
def result : Buf (Elt Ideal) ((c : Thread nD τ).loc main_v19) := fun i : S16384x1024.Idx => PostRow.out (W m c) (T m c (i 0)) (i 1)

theorem cut_apply (t : Fin cfg0.N) (X : Vec Ideal S512x1024 .f32) (r : Fin 512) (k : Fin 1024) :
    (cfg0.win 9).cut (grid0.coords t) X (ix2 r k) = X (ix2 r k) := rfl

theorem result_row (t : Fin cfg0.N) (r : Fin 512) (k : Fin 1024) :
    ((cfg0.win 9).blk t).view.read (Elt Ideal) (result m c) (ix2 r k) = PostRow.out (W m c) (T m c (row t r)) k := by
  obtain ⟨e0, e1⟩ := (index_row t).2.2.2.2
  rw [View.read_apply]
  show PostRow.out (W m c) (T m c _) _ = _
  refine congrArg₂ (fun n j => PostRow.out (W m c) (T m c n) j) ?_ ?_
  · exact Fin.ext (by show win0_9.index t 0 * 512 + 1 * r.val = t.val * 512 + r.val; rw [e0, Nat.one_mul])
  · exact Fin.ext (by show win0_9.index t 1 * 1024 + 1 * k.val = k.val; rw [e1, Nat.zero_mul, Nat.zero_add, Nat.one_mul])

theorem left_row (t : Fin cfg0.N) (r : Fin 512) (k : Fin 1024) :
    (outsAt0 m c t.val t.isLt).1 (ix2 r k) = PostRow.out (W m c) (T m c (row t r)) k := by
  rw [left, blockVal_apply, wts_eq, tok_eq]

theorem flushed_eq (t : Fin cfg0.N) (hf : (cfg0.win 9).flush t = true) :
    (dats m 0 c).flushed 9 t = ((cfg0.win 9).blk t).view.read (Elt Ideal) (result m c) := by
  rw [Value.flushed9]
  funext j
  obtain ⟨r, k, rfl⟩ : ∃ (r : Fin 512) (k : Fin 1024), j = ix2 r k := ⟨j 0, j 1, eq_ix2 j⟩
  exact (cut_apply t _ r k).trans ((left_row m c t r k).trans (result_row m c t r k).symm)

theorem final : (dats m 0 c).arrAt 9 cfg0.N = result m c :=
  (dats m 0 c).arrAt_eq_of_cover 9 (result m c) (flushed_eq m c) fun i => by
    have hN : cfg0.N = 32 := N_0
    have h0 : (i 0 : Nat) < 16384 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_9 t, ?_⟩
    obtain ⟨e0, e1⟩ := (index_row t).2.2.2.2
    show i ∈ ((View.whole main_v19).slice (win0_9.rect t)).set
    rw [View.set_slice_whole, Rect.mem_set_unit]
    intro a
    match a with
    | ⟨0, _⟩ =>
      show win0_9.index t 0 * 512 ≤ (i 0 : Nat) ∧ (i 0 : Nat) < win0_9.index t 0 * 512 + 512
      rw [e0]
      omega
    | ⟨1, _⟩ =>
      show win0_9.index t 1 * 1024 ≤ (i 1 : Nat) ∧ (i 1 : Nat) < win0_9.index t 1 * 1024 + 1024
      rw [e1]
      omega

/-- The kernel's run: the result array named, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final m c), (h c).2⟩) (Value.run_blocks m ρ)

/-- The reference's result is the same array, of a memory that agrees on the arguments. -/
theorem ref_eq (m' : (ℓ : Loc PostRefIdeal.nD PostRefIdeal.τ PostRefIdeal.sig) → Buf (Elt Ideal) ℓ)
    (h0 : m' ((c : Thread PostRefIdeal.nD PostRefIdeal.τ).loc PostRefIdeal.main_arg0) = arg m c main_arg0)
    (h1 : m' ((c : Thread PostRefIdeal.nD PostRefIdeal.τ).loc PostRefIdeal.main_arg1) = arg m c main_arg1)
    (h2 : m' ((c : Thread PostRefIdeal.nD PostRefIdeal.τ).loc PostRefIdeal.main_arg2) = arg m c main_arg2)
    (h3 : m' ((c : Thread PostRefIdeal.nD PostRefIdeal.τ).loc PostRefIdeal.main_arg3) = arg m c main_arg3)
    (h4 : m' ((c : Thread PostRefIdeal.nD PostRefIdeal.τ).loc PostRefIdeal.main_arg4) = arg m c main_arg4)
    (h5 : m' ((c : Thread PostRefIdeal.nD PostRefIdeal.τ).loc PostRefIdeal.main_arg5) = arg m c main_arg5)
    (h6 : m' ((c : Thread PostRefIdeal.nD PostRefIdeal.τ).loc PostRefIdeal.main_arg6) = arg m c main_arg6)
    (h7 : m' ((c : Thread PostRefIdeal.nD PostRefIdeal.τ).loc PostRefIdeal.main_arg7) = arg m c main_arg7)
    (h8 : m' ((c : Thread PostRefIdeal.nD PostRefIdeal.τ).loc PostRefIdeal.main_arg8) = arg m c main_arg8)
    (h9 : m' ((c : Thread PostRefIdeal.nD PostRefIdeal.τ).loc PostRefIdeal.main_arg9) = arg m c main_arg9)
    (h10 : m' ((c : Thread PostRefIdeal.nD PostRefIdeal.τ).loc PostRefIdeal.main_arg10) = arg m c main_arg10)
    (h11 : m' ((c : Thread PostRefIdeal.nD PostRefIdeal.τ).loc PostRefIdeal.main_arg11) = arg m c main_arg11) :
    PostRefIdeal.Value.res_main_v50 m' c = result m c := by
  rw [PostRefIdeal.Read.val_main_v50_eq m' c, h0, h1, h2, h3, h4, h5, h6, h7, h8, h9, h10, h11]
  funext i
  obtain ⟨n, j, rfl⟩ : ∃ (n : Fin 16384) (j : Fin 1024), i = ValueIdx.ix2 n j := ⟨i 0, i 1, ValueIdx.eq_ix2 i⟩
  exact PostRefIdeal.Token.result_eq _ _ _ _ _ _ _ _ _ _ _ _ n j

/-- The post call computes its reference's array over the extended reals. -/
theorem algebraic : Cert.algebraic_PostIdeal_PostRefIdeal (hPostIdeal := Cert.PostIdeal.Gen.facts) (hPostRefIdeal := Cert.PostRefIdeal.Gen.facts) := by
  intro m g m' g' _ h
  refine ⟨result m, run m g, (θ_run PostRefIdeal.defs _ _).mono (fun _ hr c => ⟨(hr c).1.trans ?_, (hr c).2⟩) (PostRefIdeal.Value.run m' g')⟩
  obtain ⟨h0, h1, h2, h3, h4, h5, h6, h7, h8, h9, h10, h11⟩ := h c
  exact ref_eq m c m' h0 h1 h2 h3 h4 h5 h6 h7 h8 h9 h10 h11

end Cert.PostIdeal.Block

end
-- ==== Proof.InprojRow.lean ====
/-
  The layer's input projection and its convolution branch for ONE token, written on its coordinates over the extended
  reals: the columns of the normalised row's product with the weights, the gated linear unit, the 31 taps over the tokens
  before, the layer norm and the activation. Both the kernel's blocks and the reference's arrays are these functions.
-/
module

public import proofs.«01_k».proof.Proof.PostRow

@[expose] public section

noncomputable section

open Idealize.ShloMosaic
open scoped BigOperators

namespace Cert.InprojRow

/-- The call's arguments, by their coordinates. -/
structure Args where
  x : Fin 8 → Fin 2048 → Fin 1024 → EReal
  g : Fin 1024 → EReal
  w : Fin 1024 → Fin 4296 → EReal
  bg : Fin 2048 → EReal
  cw : Nat → Fin 512 → EReal
  cb : Fin 512 → EReal
  lg : Fin 512 → EReal
  lb : Fin 512 → EReal

variable (A : Args) (b : Fin 8)

/-- The normalised token. -/
def h (l : Fin 2048) : Fin 1024 → EReal := PostRow.norm (A.x b l) A.g

/-- A column of the projection. -/
def u (l : Fin 2048) (n : Fin 4296) : EReal := ∑ k : Fin 1024, h A b l k * A.w k n

/-- The logistic function. -/
def sig (v : EReal) : EReal :=
  Ideal.div (Ideal.ofBits .f32 0x3F800000#32) (Ideal.ofBits .f32 0x3F800000#32 + Ideal.exp (-v))

/-- The gated linear unit. -/
def glu (l : Fin 2048) (c : Fin 512) : EReal :=
  u A b l ⟨c.val, by have := c.isLt; omega⟩ * sig (u A b l ⟨512 + c.val, by have := c.isLt; omega⟩)

/-- The gated linear unit, with 30 zero rows before the first token. -/
def hpad (t : Nat) (c : Fin 512) : EReal := if h : 30 ≤ t ∧ t - 30 < 2048 then glu A b ⟨t - 30, h.2⟩ c else 0

/-- The first `n` taps. -/
def taps (l : Nat) (c : Fin 512) : Nat → EReal
  | 0 => 0
  | n + 1 => taps l c n + A.cw n c * hpad A b (l + n) c

/-- The convolution. -/
def conv (l : Nat) (c : Fin 512) : EReal := A.cb c + taps A b l c 31

/-- The mean of a row. -/
def mean (v : Fin 512 → EReal) : EReal := Ideal.div (∑ k : Fin 512, v k) (Ideal.ofBits .f32 0x44000000#32)

/-- The layer norm of a row. -/
def ln (v g b : Fin 512 → EReal) (j : Fin 512) : EReal :=
  (v j - mean v) * Ideal.rsqrt (mean (fun k => (v k - mean v) * (v k - mean v)) + Ideal.ofBits .f32 0x3727C5AC#32) * g j + b j

/-- The convolution branch. -/
def hc (l : Nat) (c : Fin 512) : EReal := ln (conv A b l) A.lg A.lb c * sig (ln (conv A b l) A.lg A.lb c)

/-- The gates. -/
def gate (l : Fin 2048) (n : Fin 2048) : EReal := sig (u A b l ⟨2248 + n.val, by have := n.isLt; omega⟩ + A.bg n)

/-- The keys with the position columns beside them. -/
def ka (l : Fin 2048) (n : Fin 128) : EReal :=
  if h : n.val < 64 then u A b l ⟨1536 + n.val, by omega⟩
  else if n.val < 67 then (FloatOps.sitofp .f32 (BitVec.ofNat 32 (l.val / 64)) : Ideal .f32)
  else if n.val < 70 then (FloatOps.sitofp .f32 (BitVec.ofNat 32 (l.val % 64)) : Ideal .f32) else 0

/-- The index keys. -/
def ki (l : Fin 2048) (n : Fin 64) : EReal := u A b l ⟨2176 + n.val, by have := n.isLt; omega⟩

/-- The scaled queries. -/
def qt (n : Fin 512) (l : Fin 2048) : EReal := u A b l ⟨1024 + n.val, by have := n.isLt; omega⟩ * Ideal.ofBits .f32 0x3E38AA3B#32

/-- The scaled index queries. -/
def qit (n : Fin 512) (l : Fin 2048) : EReal := u A b l ⟨1664 + n.val, by have := n.isLt; omega⟩ * Ideal.ofBits .f32 0x3E000000#32

/-- The values, with eight rows of ones and eight of zeros under them. -/
def vt (n : Fin 80) (l : Fin 2048) : EReal :=
  if h : n.val < 64 then u A b l ⟨1600 + n.val, by omega⟩ else if n.val < 72 then 1 else 0

/-- The scaled index weights. -/
def wit (n : Fin 8) (l : Fin 2048) : EReal := u A b l ⟨2240 + n.val, by have := n.isLt; omega⟩ * Ideal.ofBits .f32 0x3EB504F3#32

theorem ofBits_one : Ideal.ofBits .f32 0x3F800000#32 = (1 : EReal) := by
  simp [Ideal.ofBits, Ideal.ieee, -EReal.coe_mul]
  try norm_num

theorem sitofp_zero : (FloatOps.sitofp .f32 (0#32) : Ideal .f32) = (0 : EReal) := by
  show (((0#32).toInt : ℝ) : EReal) = 0
  simp

theorem sitofp_one : (FloatOps.sitofp .f32 (1#32) : Ideal .f32) = (1 : EReal) := by
  show (((1#32).toInt : ℝ) : EReal) = 1
  simp

end Cert.InprojRow

end
-- ==== Proof.InprojConv.lean ====
/-
  The convolution's pieces as vector functions, and the halo buffer it reads. The buffer holds, strip by strip of 128
  channels, 32 rows carried from the tile before and the 512 rows of the tile's own activations: `winArr` says what it
  holds once the four strips are stored, and `taps` sums the taps over it.
-/
module

public import proofs.«01_k».proof.Proof.Gen.InprojIdeal.Frame
public import Idealize.ShloMosaic.Lib.Pipeline.Value
public import Idealize.ShloMosaic.Lib.Writes
public import Idealize.ShloMosaic.Lib.Tactic

@[expose] public section

set_option maxRecDepth 16384

noncomputable section

open Idealize.ShloMosaic Idealize.ShloMosaic.TcCoe Idealize.SL.Sem

namespace Cert.InprojIdeal.Block

open Cert.InprojIdeal Cert.InprojIdeal.Gen

variable {F : FTy → Type} [FloatOps F]

/-- The stored strip of a channel block. -/
def pick (p0 p1 p2 p3 : Vec F S1x512x128 .f32) (s : Nat) : Vec F S1x512x128 .f32 :=
  match s with | 0 => p0 | 1 => p1 | 2 => p2 | _ => p3

/-- What the halo buffer holds once the four strips are stored: the carried rows, then the strips. -/
def winArr (base : Vec F S4x544x128 .f32) (p0 p1 p2 p3 : Vec F S1x512x128 .f32) : Vec F S4x544x128 .f32 := fun z =>
  if h : 32 ≤ (z 1).val then pick p0 p1 p2 p3 (z 0).val (fun a => match a with
    | ⟨0, _⟩ => ⟨0, Nat.one_pos⟩
    | ⟨1, _⟩ => ⟨(z 1).val - 32, by have h' : (z 1).val < 544 := (z 1).isLt; show (z 1).val - 32 < 512; omega⟩
    | ⟨2, _⟩ => ⟨(z 2).val, (z 2).isLt⟩)
  else base z

/-- The buffer with zeroed halo rows, over the prior contents. -/
def haloZ (base : Vec F S4x544x128 .f32) (z0 : Vec F S4x32x128 .f32) : Vec F S4x544x128 .f32 := fun z =>
  if h : (z 1).val < 32 then z0 (fun a => match a with
    | ⟨0, _⟩ => ⟨(z 0).val, (z 0).isLt⟩
    | ⟨1, _⟩ => ⟨(z 1).val, h⟩
    | ⟨2, _⟩ => ⟨(z 2).val, (z 2).isLt⟩)
  else base z

/-- Reading the buffer after its four strips were stored. -/
theorem read_strips {sg : RefSig} {sp : Space} (v : View sg .tc sp S4x544x128 .f32) (f : v.ty.Contents (Elt F)) (p0 p1 p2 p3 : Vec F S1x512x128 .f32) (i3 i2 i1 i0) :
    v.read (Elt F) (v.writes (Elt F) f [⟨Rect.unit ![3, 32, 0] S1x512x128.size i3, p3⟩, ⟨Rect.unit ![2, 32, 0] S1x512x128.size i2, p2⟩,
      ⟨Rect.unit ![1, 32, 0] S1x512x128.size i1, p1⟩, ⟨Rect.unit ![0, 32, 0] S1x512x128.size i0, p0⟩])
      = winArr (v.read (Elt F) f) p0 p1 p2 p3 := by
  funext z
  have z0 : (z 0).val < 4 := (z 0).isLt
  have z1 : (z 1).val < 544 := (z 1).isLt
  have z2 : (z 2).val < 128 := (z 2).isLt
  unfold winArr
  by_cases h : 32 ≤ (z 1).val
  · rw [dif_pos h]
    have e : (z 0).val = 0 ∨ (z 0).val = 1 ∨ (z 0).val = 2 ∨ (z 0).val = 3 := by omega
    rcases e with e | e | e | e
    · rw [e, View.read_writes_cons_miss_of_axis v f _ _ z 0 3 1 rfl rfl rfl (Or.inl (by omega)),
        View.read_writes_cons_miss_of_axis v f _ _ z 0 2 1 rfl rfl rfl (Or.inl (by omega)),
        View.read_writes_cons_miss_of_axis v f _ _ z 0 1 1 rfl rfl rfl (Or.inl (by omega))]
      refine View.read_writes_cons_hit_of_coords v f _ _ _ _ z fun a => ?_
      match a with
      | ⟨0, _⟩ => show (z 0).val = 0 + 1 * 0; omega
      | ⟨1, _⟩ => show (z 1).val = 32 + 1 * ((z 1).val - 32); omega
      | ⟨2, _⟩ => show (z 2).val = 0 + 1 * (z 2).val; omega
    · rw [e, View.read_writes_cons_miss_of_axis v f _ _ z 0 3 1 rfl rfl rfl (Or.inl (by omega)),
        View.read_writes_cons_miss_of_axis v f _ _ z 0 2 1 rfl rfl rfl (Or.inl (by omega))]
      refine View.read_writes_cons_hit_of_coords v f _ _ _ _ z fun a => ?_
      match a with
      | ⟨0, _⟩ => show (z 0).val = 1 + 1 * 0; omega
      | ⟨1, _⟩ => show (z 1).val = 32 + 1 * ((z 1).val - 32); omega
      | ⟨2, _⟩ => show (z 2).val = 0 + 1 * (z 2).val; omega
    · rw [e, View.read_writes_cons_miss_of_axis v f _ _ z 0 3 1 rfl rfl rfl (Or.inl (by omega))]
      refine View.read_writes_cons_hit_of_coords v f _ _ _ _ z fun a => ?_
      match a with
      | ⟨0, _⟩ => show (z 0).val = 2 + 1 * 0; omega
      | ⟨1, _⟩ => show (z 1).val = 32 + 1 * ((z 1).val - 32); omega
      | ⟨2, _⟩ => show (z 2).val = 0 + 1 * (z 2).val; omega
    · rw [e]
      refine View.read_writes_cons_hit_of_coords v f _ _ _ _ z fun a => ?_
      match a with
      | ⟨0, _⟩ => show (z 0).val = 3 + 1 * 0; omega
      | ⟨1, _⟩ => show (z 1).val = 32 + 1 * ((z 1).val - 32); omega
      | ⟨2, _⟩ => show (z 2).val = 0 + 1 * (z 2).val; omega
  · rw [dif_neg h]
    refine View.read_writes_apply_of_forall_not_mem v f z _ ?_
    intro p hp
    simp only [List.mem_cons, List.not_mem_nil, or_false] at hp
    rcases hp with rfl | rfl | rfl | rfl
    all_goals exact Rect.not_mem_set_of_axis _ z 1 32 512 rfl rfl rfl (Or.inl (by omega))

/-- Reading the buffer after its halo rows were zeroed. -/
theorem read_halo {sg : RefSig} {sp : Space} (v : View sg .tc sp S4x544x128 .f32) (f : v.ty.Contents (Elt F)) (z0 : Vec F S4x32x128 .f32) (i0) :
    v.read (Elt F) (v.writes (Elt F) f [⟨Rect.unit ![0, 0, 0] S4x32x128.size i0, z0⟩]) = haloZ (v.read (Elt F) f) z0 := by
  funext z
  unfold haloZ
  by_cases h : (z 1).val < 32
  · rw [dif_pos h]
    refine View.read_writes_cons_hit_of_coords v f _ _ _ _ z fun a => ?_
    match a with
    | ⟨0, _⟩ => show (z 0).val = 0 + 1 * (z 0).val; omega
    | ⟨1, _⟩ => show (z 1).val = 0 + 1 * (z 1).val; omega
    | ⟨2, _⟩ => show (z 2).val = 0 + 1 * (z 2).val; omega
  · rw [dif_neg h]
    exact View.read_writes_cons_miss_of_axis v f _ _ z 1 0 32 rfl rfl rfl (Or.inr (by omega))

/-- A load after the four strips were stored. -/
theorem readAt_strips {sg : RefSig} {sp : Space} (v : View sg .tc sp S4x544x128 .f32) (f : v.ty.Contents (Elt F)) (p0 p1 p2 p3 : Vec F S1x512x128 .f32) (i3 i2 i1 i0) (r : Rect S4x544x128) :
    v.readAt (Elt F) r.toLoadRect (v.writes (Elt F) f [⟨Rect.unit ![3, 32, 0] ![1, 512, 128] i3, p3⟩, ⟨Rect.unit ![2, 32, 0] ![1, 512, 128] i2, p2⟩,
      ⟨Rect.unit ![1, 32, 0] ![1, 512, 128] i1, p1⟩, ⟨Rect.unit ![0, 32, 0] ![1, 512, 128] i0, p0⟩])
      = View.ld (winArr (v.read (Elt F) f) p0 p1 p2 p3) r := by
  rw [View.readAt_eq_ld, read_strips]

/-- What the buffer holds where nothing was stored before, as a covered load reads it. -/
def junkArr (F : FTy → Type) [FloatOps F] : Vec F S4x544x128 .f32 := View.canon (Val := Elt F) (s := S4x544x128) (e := .f32) []

/-- A load of the strips' own rows. -/
theorem readCov_strips {sg : RefSig} {sp : Space} (v : View sg .tc sp S4x544x128 .f32) (p0 p1 p2 p3 : Vec F S1x512x128 .f32) (i3 i2 i1 i0) (r : Rect S4x544x128) :
    v.readCov [⟨Rect.unit ![3, 32, 0] ![1, 512, 128] i3, p3⟩, ⟨Rect.unit ![2, 32, 0] ![1, 512, 128] i2, p2⟩,
      ⟨Rect.unit ![1, 32, 0] ![1, 512, 128] i1, p1⟩, ⟨Rect.unit ![0, 32, 0] ![1, 512, 128] i0, p0⟩] r.toLoadRect
      = View.ld (winArr (junkArr F) p0 p1 p2 p3) r := by
  refine (readAt_strips v v.junk p0 p1 p2 p3 i3 i2 i1 i0 r).trans ?_
  rw [show v.read (Elt F) v.junk = junkArr F from View.read_writes_junk_eq_canon v []]

/-- A load after the halo was zeroed and the four strips stored. -/
theorem readCov_strips_halo {sg : RefSig} {sp : Space} (v : View sg .tc sp S4x544x128 .f32) (p0 p1 p2 p3 : Vec F S1x512x128 .f32) (z0 : Vec F S4x32x128 .f32) (i3 i2 i1 i0 iz) (r : Rect S4x544x128) :
    v.readCov [⟨Rect.unit ![3, 32, 0] ![1, 512, 128] i3, p3⟩, ⟨Rect.unit ![2, 32, 0] ![1, 512, 128] i2, p2⟩,
      ⟨Rect.unit ![1, 32, 0] ![1, 512, 128] i1, p1⟩, ⟨Rect.unit ![0, 32, 0] ![1, 512, 128] i0, p0⟩, ⟨Rect.unit ![0, 0, 0] ![4, 32, 128] iz, z0⟩] r.toLoadRect
      = View.ld (winArr (haloZ (junkArr F) z0) p0 p1 p2 p3) r := by
  refine (readAt_strips v (v.writes (Elt F) v.junk [⟨Rect.unit ![0, 0, 0] ![4, 32, 128] iz, z0⟩]) p0 p1 p2 p3 i3 i2 i1 i0 r).trans ?_
  rw [read_halo, show v.read (Elt F) v.junk = junkArr F from View.read_writes_junk_eq_canon v []]

/-- One tap. -/
def tapV (acc : FVec F S256x128 .f32) (w : Vec F S1x128 .f32) (x : Vec F S1x256x128 .f32) : FVec F S256x128 .f32 :=
  addf acc (mulf (broadcastTo S256x128 w broadcasts_S1x128_S256x128) (shapeCast S256x128 x shapeCasts_S1x256x128_S256x128))

/-- The first `n` taps of strip `s`, for the rows from `o` of the buffer. -/
def taps (W : Vec F S4x544x128 .f32) (cw : Vec F S31x512 .f32) (s o : Nat) (hs : s < 4) (ho : o ≤ 258) (acc : FVec F S256x128 .f32) :
    (n : Nat) → n ≤ 31 → FVec F S256x128 .f32
  | 0, _ => acc
  | n + 1, h => tapV (taps W cw s o hs ho acc n (Nat.le_of_succ_le h))
      (View.ld cw (Rect.unit ![n, 128 * s] S1x128.size fun a => by
        match a with | ⟨0, _⟩ => show n + 1 ≤ 31; omega | ⟨1, _⟩ => show 128 * s + 128 ≤ 512; omega))
      (View.ld W (Rect.unit ![s, o + n, 0] S1x256x128.size fun a => by
        match a with | ⟨0, _⟩ => show s + 1 ≤ 4; omega | ⟨1, _⟩ => show o + n + 256 ≤ 544; omega | ⟨2, _⟩ => exact (by decide : 0 + 128 ≤ 128)))

/-- The convolution of strip `s`: the bias, then the 31 taps. -/
def convS (W : Vec F S4x544x128 .f32) (cw : Vec F S31x512 .f32) (cb : Vec F S1x512 .f32) (s o : Nat) (hs : s < 4) (ho : o ≤ 258) : FVec F S256x128 .f32 :=
  taps W cw s o hs ho (addf (broadcast S256x128 (Scalar.ofBits .f32 0x00000000#32))
    (broadcastTo S256x128 (View.ld cb (Rect.unit ![0, 128 * s] S1x128.size fun a => by
        match a with | ⟨0, _⟩ => exact (by decide : 0 + 1 ≤ 1) | ⟨1, _⟩ => show 128 * s + 128 ≤ 512; omega)) broadcasts_S1x128_S256x128)) 31 (Nat.le_refl _)

/-- The convolution of 256 rows: its four strips side by side. -/
def convV (W : Vec F S4x544x128 .f32) (cw : Vec F S31x512 .f32) (cb : Vec F S1x512 .f32) (o : Nat) (ho : o ≤ 258) : FVec F S256x512 .f32 :=
  concatenate S256x512 1 [⟨S256x128, convS W cw cb 0 o (by decide) ho⟩, ⟨S256x128, convS W cw cb 1 o (by decide) ho⟩,
    ⟨S256x128, convS W cw cb 2 o (by decide) ho⟩, ⟨S256x128, convS W cw cb 3 o (by decide) ho⟩] concatenates_S256x128_S256x128_S256x128_S256x128_S256x512_d1

/-- The rows less their mean. -/
def xcV (v : FVec F S256x512 .f32) : FVec F S256x512 .f32 :=
  subf v (broadcastTo S256x512 (divf (shapeCast S256x1 (multiReduction .add [1] S256 v 0x00000000#32 reduces_S256x512_S256 (.inl rfl) rfl)
    shapeCasts_S256_S256x1) (broadcast S256x1 (Scalar.ofBits .f32 0x44000000#32))) broadcasts_S256x1_S256x512)

/-- The layer norm of the rows. -/
def lnV (v : FVec F S256x512 .f32) (g b : Vec F S1x512 .f32) : FVec F S256x512 .f32 :=
  addf (mulf (mulf (xcV v) (broadcastTo S256x512 (rsqrt (addf (divf (shapeCast S256x1 (multiReduction .add [1] S256 (mulf (xcV v) (xcV v)) 0x00000000#32
    reduces_S256x512_S256 (.inl rfl) rfl) shapeCasts_S256_S256x1) (broadcast S256x1 (Scalar.ofBits .f32 0x44000000#32)))
    (broadcast S256x1 (Scalar.ofBits .f32 0x3727C5AC#32)))) broadcasts_S256x1_S256x512)) (broadcastTo S256x512 g broadcasts_S1x512_S256x512))
    (broadcastTo S256x512 b broadcasts_S1x512_S256x512)

/-- `v · σ(v)`. -/
def swishV (v : FVec F S256x512 .f32) : FVec F S256x512 .bf16 :=
  truncf .bf16 (mulf v (divf (broadcast S256x512 (Scalar.ofBits .f32 0x3F800000#32)) (addf (broadcast S256x512 (Scalar.ofBits .f32 0x3F800000#32))
    (exp (subf (broadcast S256x512 (Scalar.ofBits .f32 0x00000000#32)) v))))) bitsLt_bf16_f32

/-- 256 rows of the convolution branch. -/
def hcV (W : Vec F S4x544x128 .f32) (cw : Vec F S31x512 .f32) (cb g b : Vec F S1x512 .f32) (o : Nat) (ho : o ≤ 258) : FVec F S1x256x512 .bf16 :=
  shapeCast S1x256x512 (swishV (lnV (convV W cw cb o ho) g b)) shapeCasts_S256x512_S1x256x512

end Cert.InprojIdeal.Block

end
-- ==== Proof.InprojBlock.lean ====
/-
  What one grid point of the projection kernel leaves: the convolution branch of its 512 rows as the vector functions of
  `InprojConv.lean`, over the halo buffer the point finds (the first tile of a sequence zeroes its carried rows), and the
  rows it carries to the next tile. The other results do not read the halo buffer.
-/
module

public import proofs.«01_k».proof.Proof.InprojConv
public import Idealize.ShloMosaic.Lib.Pointwise

@[expose] public section

set_option maxRecDepth 16384

noncomputable section

open Idealize.ShloMosaic Idealize.ShloMosaic.TcCoe Idealize.SL.Sem

namespace Cert.InprojIdeal.Block

open Cert.InprojIdeal Cert.InprojIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A column block of 256 of the convolution's projection weights. -/
def colW (wc : Vec F S1024x1024 .bf16) (n : Fin 4) : Vec F S1024x256 .bf16 :=
  View.ld wc (Rect.unit ![0, 256 * n.val] S1024x256.size fun a => by
    have := n.isLt; match a with | ⟨0, _⟩ => exact (by decide : 0 + 1024 ≤ 1024) | ⟨1, _⟩ => show 256 * n.val + 256 ≤ 1024; omega)

/-- The halo buffer of a point once its strips are stored, over what it held. -/
def winV (base : Vec F S4x544x128 .f32) (x : Vec F S1x512x1024 .f32) (g : Vec F S1x1024 .f32) (wc : Vec F S1024x1024 .bf16) : Vec F S4x544x128 .f32 :=
  winArr base (k0_pay8 (k0_pay7 x g (colW wc 0) (colW wc 2))) (k0_pay9 (k0_pay6 x g (colW wc 0) (colW wc 2)))
    (k0_pay11 (k0_pay4 x g) (colW wc 1) (colW wc 3)) (k0_pay12 (k0_pay4 x g) (colW wc 1) (colW wc 3))

/-- The printed layer norm and activation of the first 256 rows. -/
theorem pay60_eq (a0 a1 a2 a3 : FVec F S256x128 .f32) (w : Vec F S1x128 .f32) (x : Vec F S1x256x128 .f32) (g b : Vec F S1x512 .f32) :
    k0_pay60 a0 a1 a2 a3 w x g b = swishV (lnV (concatenate S256x512 1 [⟨S256x128, a0⟩, ⟨S256x128, a1⟩, ⟨S256x128, a2⟩, ⟨S256x128, tapV a3 w x⟩]
      concatenates_S256x128_S256x128_S256x128_S256x128_S256x512_d1) g b) := by
  unfold k0_pay60
  dsimp only
  repeat rw [shapeCast_self]
  rfl

/-- The printed layer norm and activation of the last 256 rows. -/
theorem pay105_eq (a0 a1 a2 a3 : FVec F S256x128 .f32) (w w' : Vec F S1x128 .f32) (x x' : Vec F S1x256x128 .f32) (g b : Vec F S1x512 .f32) :
    k0_pay105 (k0_pay103 a0 a1 a2 a3 w x w' x' g b) k0_pay104 = shapeCast S1x256x512 (swishV (lnV (concatenate S256x512 1
      [⟨S256x128, a0⟩, ⟨S256x128, a1⟩, ⟨S256x128, a2⟩, ⟨S256x128, tapV (tapV a3 w x) w' x'⟩]
      concatenates_S256x128_S256x128_S256x128_S256x128_S256x512_d1) g b)) shapeCasts_S256x512_S1x256x512 := by
  unfold k0_pay105 k0_pay103 k0_pay104
  dsimp only
  repeat rw [shapeCast_self]
  rfl

/-- The buffer over the printed loads of the weights' column blocks. -/
theorem winV_of_loads (base : Vec F S4x544x128 .f32) (x : Vec F S1x512x1024 .f32) (g : Vec F S1x1024 .f32) (wc : Vec F S1024x1024 .bf16) (i0 i1 i2 i3) :
    winArr base (k0_pay8 (k0_pay7 x g (View.ld wc (Rect.unit ![0, 0] ![1024, 256] i0)) (View.ld wc (Rect.unit ![0, 512] ![1024, 256] i2))))
      (k0_pay9 (k0_pay6 x g (View.ld wc (Rect.unit ![0, 0] ![1024, 256] i0)) (View.ld wc (Rect.unit ![0, 512] ![1024, 256] i2))))
      (k0_pay11 (k0_pay4 x g) (View.ld wc (Rect.unit ![0, 256] ![1024, 256] i1)) (View.ld wc (Rect.unit ![0, 768] ![1024, 256] i3)))
      (k0_pay12 (k0_pay4 x g) (View.ld wc (Rect.unit ![0, 256] ![1024, 256] i1)) (View.ld wc (Rect.unit ![0, 768] ![1024, 256] i3)))
      = winV base x g wc := rfl

/-- One printed tap. -/
theorem tapV_fold (acc : FVec F S256x128 .f32) (w : Vec F S1x128 .f32) (x : Vec F S1x256x128 .f32) (h1 h2) :
    addf acc (mulf (broadcastTo S256x128 w h1) (shapeCast S256x128 x h2)) = tapV acc w x := rfl

theorem taps_zero (W : Vec F S4x544x128 .f32) (cw : Vec F S31x512 .f32) (s o : Nat) (hs : s < 4) (ho : o ≤ 258) (acc : FVec F S256x128 .f32) (h) :
    taps W cw s o hs ho acc 0 h = acc := rfl

theorem taps_succ (W : Vec F S4x544x128 .f32) (cw : Vec F S31x512 .f32) (s o : Nat) (hs : s < 4) (ho : o ≤ 258) (acc : FVec F S256x128 .f32) (n : Nat) (h) :
    taps W cw s o hs ho acc (n + 1) h = tapV (taps W cw s o hs ho acc n (Nat.le_of_succ_le h))
      (View.ld cw (Rect.unit ![n, 128 * s] S1x128.size fun a => by
        match a with | ⟨0, _⟩ => show n + 1 ≤ 31; omega | ⟨1, _⟩ => show 128 * s + 128 ≤ 512; omega))
      (View.ld W (Rect.unit ![s, o + n, 0] S1x256x128.size fun a => by
        match a with | ⟨0, _⟩ => show s + 1 ≤ 4; omega | ⟨1, _⟩ => show o + n + 256 ≤ 544; omega | ⟨2, _⟩ => exact (by decide : 0 + 128 ≤ 128))) := rfl

/-- The strips' own rows do not see what lay under them. -/
theorem winV_own (base : Vec F S4x544x128 .f32) (x : Vec F S1x512x1024 .f32) (g : Vec F S1x1024 .f32) (wc : Vec F S1024x1024 .bf16) (z : S4x544x128.Idx)
    (h : 32 ≤ (z 1).val) : winV base x g wc z = winV (junkArr F) x g wc z := by
  unfold winV winArr
  rw [dif_pos h, dif_pos h]

/-- A load of the strips' own rows does not see what lay under them. -/
theorem ld_own (base : Vec F S4x544x128 .f32) (x : Vec F S1x512x1024 .f32) (g : Vec F S1x1024 .f32) (wc : Vec F S1024x1024 .bf16) (s : Nat) (i) :
    View.ld (winV base x g wc) (Rect.unit ![s, 32, 0] ![1, 256, 128] i) = View.ld (winV (junkArr F) x g wc) (Rect.unit ![s, 32, 0] ![1, 256, 128] i) := by
  funext j
  have h : 32 ≤ ((Rect.unit (s := S4x544x128) ![s, 32, 0] ![1, 256, 128] i).idx j 1).val := by
    show 32 ≤ 32 + 1 * (j 1).val; omega
  exact winV_own base x g wc _ h

/-- The rows a point carries: the copy of its last 32 rows, over whatever was stored before. -/
theorem canon_halo (W : Vec F S4x544x128 .f32) (L) (i0 i1) (z : S4x544x128.Idx) (hz : (z 1).val < 32) :
    View.canon (Val := Elt F) (s := S4x544x128) (e := .f32) (⟨Rect.unit ![0, 0, 0] ![4, 32, 128] i0, k0_pay106 (View.ld W (Rect.unit ![0, 512, 0] ![4, 32, 128] i1))⟩ :: L) z
      = W (ix3 (z 0) ⟨512 + (z 1).val, by omega⟩ (z 2)) := by
  have e : z = (Rect.unit (s := S4x544x128) ![0, 0, 0] ![4, 32, 128] i0).emb (ix3 (z 0) ⟨(z 1).val, hz⟩ (z 2)) := by
    funext a; apply Fin.ext
    match a with
    | ⟨0, _⟩ => show (z 0).val = 0 + 1 * (z 0).val; omega
    | ⟨1, _⟩ => show (z 1).val = 0 + 1 * (z 1).val; omega
    | ⟨2, _⟩ => show (z 2).val = 0 + 1 * (z 2).val; omega
  conv_lhs => rw [e]
  rw [View.canon_cons_emb]
  unfold k0_pay106
  rw [shapeCast_self]
  show W _ = W _
  congr 1
  funext a; apply Fin.ext
  match a with
  | ⟨0, _⟩ => show 0 + 1 * (z 0).val = (z 0).val; omega
  | ⟨1, _⟩ => show 512 + 1 * (z 1).val = 512 + (z 1).val; omega
  | ⟨2, _⟩ => show 0 + 1 * (z 2).val = (z 2).val; omega

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x128 .bf16) (harg7 : arg7.IsWhole) (arg8 : Memref sig .tc .vmem S1152x1024 .bf16) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512x512 .bf16) (harg13 : arg13.IsWhole) (arg14 : Memref sig .tc .vmem S1x512x2048 .f32) (harg14 : arg14.IsWhole) (arg15 : Memref sig .tc .vmem S1x512x128 .bf16) (harg15 : arg15.IsWhole) (arg16 : Memref sig .tc .vmem S1x512x64 .bf16) (harg16 : arg16.IsWhole) (arg17 : Memref sig .tc .vmem S1x512x512 .bf16) (harg17 : arg17.IsWhole) (arg18 : Memref sig .tc .vmem S1x512x512 .bf16) (harg18 : arg18.IsWhole) (arg19 : Memref sig .tc .vmem S1x2x80x256 .bf16) (harg19 : arg19.IsWhole) (arg20 : Memref sig .tc .vmem S1x8x512 .f32) (harg20 : arg20.IsWhole) (arg21 : Memref sig .tc .vmem S4x544x128 .f32) (harg21 : arg21.IsWhole)

set_option maxHeartbeats 1000000 in
/-- A later tile, over the halo rows it finds. -/
theorem out11_B (hc0 : ¬cond0_0 i) (x0 : Vec F S1x512x1024 .f32) (x1 : Vec F S1x1024 .f32) (x2 : Vec F S1024x1024 .bf16) (x3 : Vec F S1024x2048 .bf16) (x4 : Vec F S1x2048 .f32) (x5 : Vec F S1024x128 .bf16) (x6 : Vec F S1152x1024 .bf16) (x7 : Vec F S31x512 .f32) (x8 x9 x10 : Vec F S1x512 .f32) (xs0 : Vec F S4x544x128 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 = View.canon
      [⟨Rect.unit ![0, 256, 0] ![1, 256, 512] inb_S1x512x512_S1x256x512_0_256_0, hcV (winV (junkArr F) x0 x1 x2) x7 x8 x9 x10 258 (by decide)⟩,
       ⟨Rect.unit ![0, 0, 0] ![1, 256, 512] inb_S1x512x512_S1x256x512_0_0_0, hcV (winV xs0 x0 x1 x2) x7 x8 x9 x10 2 (by decide)⟩] := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0)]
  unfold kernelRun0_B
  dsimp only
  sl_unfold_words
  simp only [readAt_strips, readCov_strips, readCov_strips_halo, harg21.read_unread]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x512x1024) hz3, View.ld_unit_zero (S := S1x1024) hz2, View.ld_unit_zero (S := S1x512) hz2, View.ld_unit_zero (S := S1024x2048) hz2, View.ld_unit_zero (S := S1x2048) hz2, View.ld_unit_zero (S := S1024x128) hz2, View.ld_unit_zero (S := S1152x1024) hz2]
  simp only [winV_of_loads]
  simp only [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay61, pay60_eq, pay105_eq, shapeCast_self]
  simp only [tapV_fold]
  simp only [hcV, convV, convS, taps_succ, taps_zero, Nat.reduceMul, Nat.reduceAdd]
  rw [ld_own xs0 x0 x1 x2 0, ld_own xs0 x0 x1 x2 1, ld_own xs0 x0 x1 x2 2, ld_own xs0 x0 x1 x2 3]

set_option maxHeartbeats 1000000 in
/-- The first tile of a sequence, over zeroed halo rows. -/
theorem out11_A (hc0 : cond0_0 i) (x0 : Vec F S1x512x1024 .f32) (x1 : Vec F S1x1024 .f32) (x2 : Vec F S1024x1024 .bf16) (x3 : Vec F S1024x2048 .bf16) (x4 : Vec F S1x2048 .f32) (x5 : Vec F S1024x128 .bf16) (x6 : Vec F S1152x1024 .bf16) (x7 : Vec F S31x512 .f32) (x8 x9 x10 : Vec F S1x512 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = View.canon
      [⟨Rect.unit ![0, 256, 0] ![1, 256, 512] inb_S1x512x512_S1x256x512_0_256_0, hcV (winV (haloZ (junkArr F) (k0_pay5 (F := F))) x0 x1 x2) x7 x8 x9 x10 258 (by decide)⟩,
       ⟨Rect.unit ![0, 0, 0] ![1, 256, 512] inb_S1x512x512_S1x256x512_0_0_0, hcV (winV (haloZ (junkArr F) (k0_pay5 (F := F))) x0 x1 x2) x7 x8 x9 x10 2 (by decide)⟩] := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10)]
  unfold kernelRun0_A
  dsimp only
  sl_unfold_words
  simp only [readAt_strips, readCov_strips, readCov_strips_halo, harg21.read_unread]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x512x1024) hz3, View.ld_unit_zero (S := S1x1024) hz2, View.ld_unit_zero (S := S1x512) hz2, View.ld_unit_zero (S := S1024x2048) hz2, View.ld_unit_zero (S := S1x2048) hz2, View.ld_unit_zero (S := S1024x128) hz2, View.ld_unit_zero (S := S1152x1024) hz2]
  simp only [winV_of_loads]
  simp only [k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay61, pay60_eq, pay105_eq, shapeCast_self]
  simp only [tapV_fold]
  simp only [hcV, convV, convS, taps_succ, taps_zero, Nat.reduceMul, Nat.reduceAdd]

/-- The first tile carries its last 32 rows. -/
theorem carry_A (hc0 : cond0_0 i) (x0 : Vec F S1x512x1024 .f32) (x1 : Vec F S1x1024 .f32) (x2 : Vec F S1024x1024 .bf16) (x3 : Vec F S1024x2048 .bf16) (x4 : Vec F S1x2048 .f32) (x5 : Vec F S1024x128 .bf16) (x6 : Vec F S1152x1024 .bf16) (x7 : Vec F S31x512 .f32) (x8 x9 x10 : Vec F S1x512 .f32) (z : S4x544x128.Idx) (hz : (z 1).val < 32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 z = winV (haloZ (junkArr F) (k0_pay5 (F := F))) x0 x1 x2 (ix3 (z 0) ⟨512 + (z 1).val, by omega⟩ (z 2)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10)]
  unfold kernelRun0_A
  dsimp only
  sl_unfold_words
  simp only [readCov_strips, readCov_strips_halo]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x512x1024) hz3, View.ld_unit_zero (S := S1x1024) hz2, View.ld_unit_zero (S := S1x512) hz2, View.ld_unit_zero (S := S1024x2048) hz2, View.ld_unit_zero (S := S1x2048) hz2, View.ld_unit_zero (S := S1024x128) hz2, View.ld_unit_zero (S := S1152x1024) hz2]
  simp only [winV_of_loads]
  exact canon_halo _ _ _ _ z hz

/-- A later tile carries its last 32 rows. -/
theorem carry_B (hc0 : ¬cond0_0 i) (x0 : Vec F S1x512x1024 .f32) (x1 : Vec F S1x1024 .f32) (x2 : Vec F S1024x1024 .bf16) (x3 : Vec F S1024x2048 .bf16) (x4 : Vec F S1x2048 .f32) (x5 : Vec F S1024x128 .bf16) (x6 : Vec F S1152x1024 .bf16) (x7 : Vec F S31x512 .f32) (x8 x9 x10 : Vec F S1x512 .f32) (xs0 : Vec F S4x544x128 .f32) (z : S4x544x128.Idx) (hz : (z 1).val < 32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 z = winV (junkArr F) x0 x1 x2 (ix3 (z 0) ⟨512 + (z 1).val, by omega⟩ (z 2)) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0)]
  unfold kernelRun0_B
  dsimp only
  sl_unfold_words
  simp only [readCov_strips, readCov_strips_halo]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x512x1024) hz3, View.ld_unit_zero (S := S1x1024) hz2, View.ld_unit_zero (S := S1x512) hz2, View.ld_unit_zero (S := S1024x2048) hz2, View.ld_unit_zero (S := S1x2048) hz2, View.ld_unit_zero (S := S1024x128) hz2, View.ld_unit_zero (S := S1152x1024) hz2]
  simp only [winV_of_loads]
  exact canon_halo _ _ _ _ z hz

end Cert.InprojIdeal.Block

end
-- ==== Proof.InprojOuts.lean ====
/-
  The results of one grid point of the projection kernel that do not read the halo buffer, as the pieces it stores.
-/
module

public import proofs.«01_k».proof.Proof.InprojBlock

@[expose] public section

set_option maxRecDepth 16384

noncomputable section

open Idealize.ShloMosaic Idealize.ShloMosaic.TcCoe Idealize.SL.Sem

namespace Cert.InprojIdeal.Block

open Cert.InprojIdeal Cert.InprojIdeal.Gen

variable {F : FTy → Type} [FloatOps F]

/-- The gate rows. -/
def oGate (h : FVec F S512x1024 .bf16) (wg : Vec F S1024x2048 .bf16) (bg : Vec F S1x2048 .f32) : Vec F S1x512x2048 .f32 :=
  View.canon [⟨Rect.unit ![0, 0, 0] ![1, 512, 2048] inb_S1x512x2048_S1x512x2048_0_0_0, k0_pay107 h wg bg⟩]

/-- The keys of tile `t` with their position columns. -/
def oK (t : BitVec 32) (h : FVec F S512x1024 .bf16) (wkk : Vec F S1024x128 .bf16) : Vec F S1x512x128 .bf16 :=
  View.canon [⟨Rect.unit ![0, 0, 0] ![1, 512, 128] inb_S1x512x128_S1x512x128_0_0_0,
    k0_pay116 (k0_pay108 h wkk) (iota Kind.tc S512x128 32 [1] iota_S512x128_d1_w32) k0_pay110 (k0_pay111 t) k0_pay112
      64#32 (k0_pay113 t) (k0_pay114 t) (k0_pay115 t) 0#32⟩]

/-- The index keys. -/
def oKi (h : FVec F S512x1024 .bf16) (wkk : Vec F S1024x128 .bf16) : Vec F S1x512x64 .bf16 :=
  View.canon [⟨Rect.unit ![0, 0, 0] ![1, 512, 64] inb_S1x512x64_S1x512x64_0_0_0, k0_pay117 (k0_pay108 h wkk)⟩]

/-- The transposed queries. -/
def oQt (h : FVec F S512x1024 .bf16) (wt : Vec F S1152x1024 .bf16) : Vec F S1x512x512 .bf16 :=
  View.canon [⟨Rect.unit ![0, 0, 256] ![1, 512, 256] inb_S1x512x512_S1x512x256_0_0_256, k0_pay127 h wt⟩,
    ⟨Rect.unit ![0, 0, 0] ![1, 512, 256] inb_S1x512x512_S1x512x256_0_0_0, k0_pay120 h wt⟩]

/-- The transposed index queries. -/
def oQit (h : FVec F S512x1024 .bf16) (wt : Vec F S1152x1024 .bf16) : Vec F S1x512x512 .bf16 :=
  View.canon [⟨Rect.unit ![0, 0, 256] ![1, 512, 256] inb_S1x512x512_S1x512x256_0_0_256, k0_pay128 h wt⟩,
    ⟨Rect.unit ![0, 0, 0] ![1, 512, 256] inb_S1x512x512_S1x512x256_0_0_0, k0_pay122 (k0_pay121 h wt)⟩]

/-- The transposed values with their rows of ones. -/
def oVt (h : FVec F S512x1024 .bf16) (wt : Vec F S1152x1024 .bf16) : Vec F S1x2x80x256 .bf16 :=
  View.canon [⟨Rect.unit ![0, 1, 64, 0] ![1, 1, 16, 256] inb_S1x2x80x256_S1x1x16x256_0_1_64_0, k0_pay2 k0_pay118⟩,
    ⟨Rect.unit ![0, 1, 0, 0] ![1, 1, 64, 256] inb_S1x2x80x256_S1x1x64x256_0_1_0_0, k0_pay1 (k0_pay129 (k0_pay126 h wt))⟩,
    ⟨Rect.unit ![0, 0, 64, 0] ![1, 1, 16, 256] inb_S1x2x80x256_S1x1x16x256_0_0_64_0, k0_pay124 k0_pay118⟩,
    ⟨Rect.unit ![0, 0, 0, 0] ![1, 1, 64, 256] inb_S1x2x80x256_S1x1x64x256_0_0_0_0, k0_pay123 (k0_pay119 h wt)⟩]

/-- The transposed index weights. -/
def oWit (h : FVec F S512x1024 .bf16) (wt : Vec F S1152x1024 .bf16) : Vec F S1x8x512 .f32 :=
  View.canon [⟨Rect.unit ![0, 0, 256] ![1, 8, 256] inb_S1x8x512_S1x8x256_0_0_256, k0_pay3 (k0_pay126 h wt)⟩,
    ⟨Rect.unit ![0, 0, 0] ![1, 8, 256] inb_S1x8x512_S1x8x256_0_0_0, k0_pay125 (k0_pay119 h wt)⟩]

/-- The 512 rows of the convolution branch, over what the carried rows held. -/
def oHc (base : Vec F S4x544x128 .f32) (x : Vec F S1x512x1024 .f32) (g : Vec F S1x1024 .f32) (wc : Vec F S1024x1024 .bf16)
    (cw : Vec F S31x512 .f32) (cb lg lb : Vec F S1x512 .f32) : Vec F S1x512x512 .bf16 :=
  View.canon [⟨Rect.unit ![0, 256, 0] ![1, 256, 512] inb_S1x512x512_S1x256x512_0_256_0, hcV (winV (junkArr F) x g wc) cw cb lg lb 258 (by decide)⟩,
    ⟨Rect.unit ![0, 0, 0] ![1, 256, 512] inb_S1x512x512_S1x256x512_0_0_0, hcV (winV base x g wc) cw cb lg lb 2 (by decide)⟩]

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x128 .bf16) (harg7 : arg7.IsWhole) (arg8 : Memref sig .tc .vmem S1152x1024 .bf16) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512x512 .bf16) (harg13 : arg13.IsWhole) (arg14 : Memref sig .tc .vmem S1x512x2048 .f32) (harg14 : arg14.IsWhole) (arg15 : Memref sig .tc .vmem S1x512x128 .bf16) (harg15 : arg15.IsWhole) (arg16 : Memref sig .tc .vmem S1x512x64 .bf16) (harg16 : arg16.IsWhole) (arg17 : Memref sig .tc .vmem S1x512x512 .bf16) (harg17 : arg17.IsWhole) (arg18 : Memref sig .tc .vmem S1x512x512 .bf16) (harg18 : arg18.IsWhole) (arg19 : Memref sig .tc .vmem S1x2x80x256 .bf16) (harg19 : arg19.IsWhole) (arg20 : Memref sig .tc .vmem S1x8x512 .f32) (harg20 : arg20.IsWhole) (arg21 : Memref sig .tc .vmem S4x544x128 .f32) (harg21 : arg21.IsWhole)

/-- The first tile of a sequence. -/
theorem outs_A (hc0 : cond0_0 i) (x0 : Vec F S1x512x1024 .f32) (x1 : Vec F S1x1024 .f32) (x2 : Vec F S1024x1024 .bf16) (x3 : Vec F S1024x2048 .bf16) (x4 : Vec F S1x2048 .f32) (x5 : Vec F S1024x128 .bf16) (x6 : Vec F S1152x1024 .bf16) (x7 : Vec F S31x512 .f32) (x8 x9 x10 : Vec F S1x512 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = oGate (k0_pay4 x0 x1) x3 x4 ∧
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = oK (BitVec.ofNat 32 (i 1).val) (k0_pay4 x0 x1) x5 ∧
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = oKi (k0_pay4 x0 x1) x5 ∧
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = oQt (k0_pay4 x0 x1) x6 ∧
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = oQit (k0_pay4 x0 x1) x6 ∧
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = oVt (k0_pay4 x0 x1) x6 ∧
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 = oWit (k0_pay4 x0 x1) x6 := by
  refine ⟨(View.read_writes_eq_canon _ _ _ fun _ => cover0_A_12 ..).trans ?_,
      (View.read_writes_eq_canon _ _ _ fun _ => cover0_A_13 ..).trans ?_,
      (View.read_writes_eq_canon _ _ _ fun _ => cover0_A_14 ..).trans ?_,
      (View.read_writes_eq_canon _ _ _ fun _ => cover0_A_15 ..).trans ?_,
      (View.read_writes_eq_canon _ _ _ fun _ => cover0_A_16 ..).trans ?_,
      (View.read_writes_eq_canon _ _ _ fun _ => cover0_A_17 ..).trans ?_,
      (View.read_writes_eq_canon _ _ _ fun _ => cover0_A_18 ..).trans ?_⟩ <;>
  · unfold kernelRun0_A; dsimp only; sl_unfold_words
    simp only [View.readAt_eq_ld, harg2.read_unread, harg3.read_unread, harg5.read_unread, harg6.read_unread, harg7.read_unread, harg8.read_unread, View.ld_unit_zero (S := S1x512x1024) hz3, View.ld_unit_zero (S := S1x1024) hz2, View.ld_unit_zero (S := S1024x2048) hz2, View.ld_unit_zero (S := S1x2048) hz2, View.ld_unit_zero (S := S1024x128) hz2, View.ld_unit_zero (S := S1152x1024) hz2]
    rfl

/-- A later tile. -/
theorem outs_B (hc0 : ¬cond0_0 i) (x0 : Vec F S1x512x1024 .f32) (x1 : Vec F S1x1024 .f32) (x2 : Vec F S1024x1024 .bf16) (x3 : Vec F S1024x2048 .bf16) (x4 : Vec F S1x2048 .f32) (x5 : Vec F S1024x128 .bf16) (x6 : Vec F S1152x1024 .bf16) (x7 : Vec F S31x512 .f32) (x8 x9 x10 : Vec F S1x512 .f32) (xs0 : Vec F S4x544x128 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 = oGate (k0_pay4 x0 x1) x3 x4 ∧
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 = oK (BitVec.ofNat 32 (i 1).val) (k0_pay4 x0 x1) x5 ∧
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 = oKi (k0_pay4 x0 x1) x5 ∧
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 = oQt (k0_pay4 x0 x1) x6 ∧
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 = oQit (k0_pay4 x0 x1) x6 ∧
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 = oVt (k0_pay4 x0 x1) x6 ∧
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0 = oWit (k0_pay4 x0 x1) x6 := by
  refine ⟨(View.read_writes_eq_canon _ _ _ fun _ => cover0_B_12 ..).trans ?_,
      (View.read_writes_eq_canon _ _ _ fun _ => cover0_B_13 ..).trans ?_,
      (View.read_writes_eq_canon _ _ _ fun _ => cover0_B_14 ..).trans ?_,
      (View.read_writes_eq_canon _ _ _ fun _ => cover0_B_15 ..).trans ?_,
      (View.read_writes_eq_canon _ _ _ fun _ => cover0_B_16 ..).trans ?_,
      (View.read_writes_eq_canon _ _ _ fun _ => cover0_B_17 ..).trans ?_,
      (View.read_writes_eq_canon _ _ _ fun _ => cover0_B_18 ..).trans ?_⟩ <;>
  · unfold kernelRun0_B; dsimp only; sl_unfold_words
    simp only [View.readAt_eq_ld, harg2.read_unread, harg3.read_unread, harg5.read_unread, harg6.read_unread, harg7.read_unread, harg8.read_unread, View.ld_unit_zero (S := S1x512x1024) hz3, View.ld_unit_zero (S := S1x1024) hz2, View.ld_unit_zero (S := S1024x2048) hz2, View.ld_unit_zero (S := S1x2048) hz2, View.ld_unit_zero (S := S1024x128) hz2, View.ld_unit_zero (S := S1152x1024) hz2]
    rfl

end Cert.InprojIdeal.Block

end
-- ==== Proof.InprojToken.lean ====
/-
  The projection kernel's blocks over the extended reals, element by element: the products of a point's normalised rows
  with the weights' columns, and the arrays the point stores of them.
-/
module

public import proofs.«01_k».proof.Proof.InprojRow
public import proofs.«01_k».proof.Proof.InprojOuts
public import proofs.«01_k».proof.Proof.PostHost
public import Idealize.ShloMosaic.Lib.Pointwise
public import Idealize.ShloMosaic.Lib.Pipeline.ValueKit

@[expose] public section

set_option maxRecDepth 16384

noncomputable section

open Idealize.ShloMosaic
open scoped BigOperators

namespace Cert.InprojIdeal.Block

open Cert.InprojIdeal Cert.InprojIdeal.Gen Cert.InprojRow

/-- The normalised rows. -/
theorem pay4_apply (x : Vec Ideal S1x512x1024 .f32) (g : Vec Ideal S1x1024 .f32) (r : Fin 512) (j : Fin 1024) :
    k0_pay4 x g (ix2 r j) = PostRow.norm (fun k => x (ix3 0 r k)) (fun k => g (ix2 0 k)) j := by
  have e (k : Fin 1024) : shapeCast S512x1024 x shapeCasts_S1x512x1024_S512x1024 (ix2 r k) = x (ix3 0 r k) := PostIdeal.Block.drop_apply x _ r k
  unfold PostRow.norm
  simp only [← e]
  unfold k0_pay4
  dsimp only
  rw [shapeCast_self]
  generalize shapeCast S512x1024 x shapeCasts_S1x512x1024_S512x1024 = y
  pointwise

/-- A gated column block, of the normalised rows. -/
theorem pay10_apply (h : FVec Ideal S512x1024 .bf16) (wl wg : Vec Ideal S1024x256 .bf16) (r : Fin 512) (j : Fin 256) :
    k0_pay10 h wl wg (ix2 r j) = (∑ k : Fin 1024, h (ix2 r k) * wl (ix2 k j)) * InprojRow.sig (∑ k : Fin 1024, h (ix2 r k) * wg (ix2 k j)) := by
  unfold k0_pay10 InprojRow.sig
  rw [shapeCast_self, shapeCast_self]
  pointwise
  rw [sub_eq_add_neg, zero_add]

theorem pay6_apply (x : Vec Ideal S1x512x1024 .f32) (g : Vec Ideal S1x1024 .f32) (wl wg : Vec Ideal S1024x256 .bf16) : k0_pay6 x g wl wg = k0_pay10 (k0_pay4 x g) wl wg := rfl

/-- The gates. -/
theorem pay107_apply (h : FVec Ideal S512x1024 .bf16) (wg : Vec Ideal S1024x2048 .bf16) (bg : Vec Ideal S1x2048 .f32) (r : Fin 512) (n : Fin 2048) :
    k0_pay107 h wg bg (ix3 0 r n) = InprojRow.sig ((∑ k : Fin 1024, h (ix2 r k) * wg (ix2 k n)) + bg (ix2 0 n)) := by
  unfold k0_pay107 InprojRow.sig
  rw [shapeCast_self, shapeCast_self]
  pointwise
  rw [sub_eq_add_neg, zero_add]

/-- The keys' columns. -/
theorem pay108_apply (h : FVec Ideal S512x1024 .bf16) (w : Vec Ideal S1024x128 .bf16) (r : Fin 512) (n : Fin 128) :
    k0_pay108 h w (ix2 r n) = ∑ k : Fin 1024, h (ix2 r k) * w (ix2 k n) := by
  unfold k0_pay108
  rw [shapeCast_self]
  pointwise

theorem pay117_apply (v : FVec Ideal S512x128 .f32) (r : Fin 512) (n : Fin 64) :
    k0_pay117 v (ix3 0 r n) = v (ix2 r ⟨64 + n.val, by have := n.isLt; omega⟩) := by
  pointwise [k0_pay117]

/-- The transposed products of the first 256 rows. -/
theorem pay119_apply (h : FVec Ideal S512x1024 .bf16) (w : Vec Ideal S1152x1024 .bf16) (n : Fin 1152) (r : Fin 256) :
    k0_pay119 h w (ix2 n r) = ∑ k : Fin 1024, w (ix2 n k) * h (ix2 ⟨r.val, by have := r.isLt; omega⟩ k) := by
  unfold k0_pay119
  rw [shapeCast_self]
  pointwise

/-- The transposed products of the last 256 rows. -/
theorem pay126_apply (h : FVec Ideal S512x1024 .bf16) (w : Vec Ideal S1152x1024 .bf16) (n : Fin 1152) (r : Fin 256) :
    k0_pay126 h w (ix2 n r) = ∑ k : Fin 1024, w (ix2 n k) * h (ix2 ⟨256 + r.val, by have := r.isLt; omega⟩ k) := by
  unfold k0_pay126
  rw [shapeCast_self]
  pointwise

theorem pay120_apply (h : FVec Ideal S512x1024 .bf16) (w : Vec Ideal S1152x1024 .bf16) (n : Fin 512) (r : Fin 256) :
    k0_pay120 h w (ix3 0 n r) = k0_pay119 h w (ix2 ⟨n.val, by have := n.isLt; omega⟩ r) := by
  unfold k0_pay120
  generalize k0_pay119 h w = y
  pointwise

theorem pay127_apply (h : FVec Ideal S512x1024 .bf16) (w : Vec Ideal S1152x1024 .bf16) (n : Fin 512) (r : Fin 256) :
    k0_pay127 h w (ix3 0 n r) = k0_pay126 h w (ix2 ⟨n.val, by have := n.isLt; omega⟩ r) := by
  unfold k0_pay127
  generalize k0_pay126 h w = y
  pointwise

theorem pay122_apply (h : FVec Ideal S512x1024 .bf16) (w : Vec Ideal S1152x1024 .bf16) (n : Fin 512) (r : Fin 256) :
    k0_pay122 (k0_pay121 h w) (ix3 0 n r) = k0_pay119 h w (ix2 ⟨512 + n.val, by have := n.isLt; omega⟩ r) := by
  unfold k0_pay122 k0_pay121
  generalize k0_pay119 h w = y
  pointwise

theorem pay128_apply (h : FVec Ideal S512x1024 .bf16) (w : Vec Ideal S1152x1024 .bf16) (n : Fin 512) (r : Fin 256) :
    k0_pay128 h w (ix3 0 n r) = k0_pay126 h w (ix2 ⟨512 + n.val, by have := n.isLt; omega⟩ r) := by
  unfold k0_pay128
  generalize k0_pay126 h w = y
  pointwise

theorem pay125_apply (v : FVec Ideal S1152x256 .f32) (n : Fin 8) (r : Fin 256) :
    k0_pay125 v (ix3 0 n r) = v (ix2 ⟨1088 + n.val, by have := n.isLt; omega⟩ r) * Ideal.ofBits .f32 0x3EB504F3#32 := by
  pointwise [k0_pay125]

theorem pay3_apply (v : FVec Ideal S1152x256 .f32) (n : Fin 8) (r : Fin 256) :
    k0_pay3 v (ix3 0 n r) = v (ix2 ⟨1088 + n.val, by have := n.isLt; omega⟩ r) * Ideal.ofBits .f32 0x3EB504F3#32 := by
  pointwise [k0_pay3]

/-- Two leading unit axes added. -/
theorem lead2_apply {a b : Nat} (x : (⟨2, ![a, b]⟩ : Shape).Idx → EReal) (h : (⟨2, ![a, b]⟩ : Shape).ShapeCasts ⟨4, ![1, 1, a, b]⟩)
    (i : Fin a) (j : Fin b) : shapeCast ⟨4, ![1, 1, a, b]⟩ x h (ix4 0 0 i j) = x (ix2 i j) :=
  shapeCast_apply x h _ _ (by
    rw [Shape.rowMajor_val_four, Shape.rowMajor_val_two]
    show i.val * b + j.val = ((0 * 1 + 0) * a + i.val) * b + j.val
    rw [Nat.zero_mul, Nat.zero_add])

theorem pay123_apply (v : FVec Ideal S1152x256 .f32) (n : Fin 64) (r : Fin 256) :
    k0_pay123 v (ix4 0 0 n r) = v (ix2 ⟨1024 + n.val, by have := n.isLt; omega⟩ r) := by
  unfold k0_pay123
  refine (lead2_apply _ _ n r).trans ?_
  pointwise

theorem pay129_apply (v : FVec Ideal S1152x256 .f32) (n : Fin 64) (r : Fin 256) :
    k0_pay1 (k0_pay129 v) (ix4 0 0 n r) = v (ix2 ⟨1024 + n.val, by have := n.isLt; omega⟩ r) := by
  unfold k0_pay1 k0_pay129
  refine (lead2_apply _ _ n r).trans ?_
  pointwise

/-- The rows of ones and zeros as words. -/
theorem ones_word : ∀ n : Fin 16, (IntOp.cmpi .slt (BitVec.ofNat 32 (0 * 16 + n.val)) 8#32).setWidth 32 = if n.val < 8 then 1#32 else 0#32 := by decide +kernel

/-- The rows of ones and zeros. -/
theorem pay118_apply (n : Fin 16) (r : Fin 256) : k0_pay118 (F := Ideal) (ix2 n r) = if n.val < 8 then (1 : EReal) else 0 := by
  show (FloatOps.sitofp .f32 ((IntOp.cmpi .slt (BitVec.ofNat 32 (0 * 16 + n.val)) 8#32).setWidth 32) : Ideal .f32) = _
  rw [ones_word]
  by_cases hn : n.val < 8
  · rw [if_pos hn, if_pos hn]; exact InprojRow.sitofp_one
  · rw [if_neg hn, if_neg hn]; exact InprojRow.sitofp_zero

theorem pay124_apply (n : Fin 16) (r : Fin 256) : k0_pay124 (F := Ideal) k0_pay118 (ix4 0 0 n r) = if n.val < 8 then (1 : EReal) else 0 :=
  (lead2_apply _ _ n r).trans (pay118_apply n r)

theorem pay2_apply (n : Fin 16) (r : Fin 256) : k0_pay2 (F := Ideal) k0_pay118 (ix4 0 0 n r) = if n.val < 8 then (1 : EReal) else 0 :=
  (lead2_apply _ _ n r).trans (pay118_apply n r)

/-! ## The position columns -/

/-- A row's position in the sequence, as the kernel's word. -/
def posW (t : BitVec 32) (r : Nat) : BitVec 32 := IntOp.addi (Scalar.muli t 512#32) (BitVec.ofNat 32 (0 * 512 + r))

/-- The kernel's floor division of a word by 64. -/
def quoW (x : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

/-- The kernel's divisor: 64, where it is not zero. -/
def dvsW : BitVec 32 := Scalar.select (Scalar.cmpi .eq 64#32 0#32) 1#32 64#32

/-- The kernel's remainder of a word by 64. -/
def rmdW (x : BitVec 32) : BitVec 32 :=
  Scalar.select (IntOp.andi (IntOp.xori (IntOp.cmpi .slt (IntOp.remsi .vector x dvsW) 0#32) (Scalar.cmpi .slt 64#32 0#32))
      (IntOp.cmpi .ne (IntOp.remsi .vector x dvsW) 0#32))
    (IntOp.addi (IntOp.remsi .vector x dvsW) 64#32) (IntOp.remsi .vector x dvsW)

theorem quoW_eq : ∀ (t : Fin 4) (r : Fin 512), quoW (posW (BitVec.ofNat 32 t.val) r.val) = BitVec.ofNat 32 ((512 * t.val + r.val) / 64) := by decide +kernel
theorem rmdW_eq : ∀ (t : Fin 4) (r : Fin 512), rmdW (posW (BitVec.ofNat 32 t.val) r.val) = BitVec.ofNat 32 ((512 * t.val + r.val) % 64) := by decide +kernel

theorem lt64_word : ∀ n : Fin 128, IntOp.cmpi .slt (BitVec.ofNat 32 (0 * 128 + n.val)) 64#32 = if n.val < 64 then 1#1 else 0#1 := by decide +kernel
theorem lt67_word : ∀ n : Fin 128, IntOp.cmpi .slt (BitVec.ofNat 32 (0 * 128 + n.val)) 67#32 = if n.val < 67 then 1#1 else 0#1 := by decide +kernel
theorem lt70_word : ∀ n : Fin 128, IntOp.cmpi .slt (BitVec.ofNat 32 (0 * 128 + n.val)) 70#32 = if n.val < 70 then 1#1 else 0#1 := by decide +kernel

/-- A leading unit axis added. -/
theorem lead1_apply {a b : Nat} (x : (⟨2, ![a, b]⟩ : Shape).Idx → EReal) (h : (⟨2, ![a, b]⟩ : Shape).ShapeCasts ⟨3, ![1, a, b]⟩)
    (i : Fin a) (j : Fin b) : shapeCast ⟨3, ![1, a, b]⟩ x h (ix3 0 i j) = x (ix2 i j) :=
  shapeCast_apply x h _ _ (by
    rw [Shape.rowMajor_val_three, Shape.rowMajor_val_two]
    show i.val * b + j.val = (0 * a + i.val) * b + j.val
    rw [Nat.zero_mul, Nat.zero_add])

/-- The keys with their position columns, on words. -/
theorem pay116_word (v : FVec Ideal S512x128 .f32) (t : BitVec 32) (r : Fin 512) (n : Fin 128) :
    k0_pay116 v (iota Kind.tc S512x128 32 [1] iota_S512x128_d1_w32) k0_pay110 (k0_pay111 t) k0_pay112
      64#32 (k0_pay113 t) (k0_pay114 t) (k0_pay115 t) 0#32 (ix3 0 r n)
      = Scalar.select (IntOp.cmpi .slt (BitVec.ofNat 32 (0 * 128 + n.val)) 64#32) (v (ix2 r n))
        (FloatOps.sitofp .f32 (Scalar.select (IntOp.cmpi .slt (BitVec.ofNat 32 (0 * 128 + n.val)) 67#32) (quoW (posW t r.val))
          (Scalar.select (IntOp.cmpi .slt (BitVec.ofNat 32 (0 * 128 + n.val)) 70#32) (rmdW (posW t r.val)) 0#32))) := by
  unfold k0_pay116
  refine (lead1_apply _ _ r n).trans ?_
  rfl

/-- The keys with their position columns. -/
theorem pay116_apply (v : FVec Ideal S512x128 .f32) (t : Fin 4) (r : Fin 512) (n : Fin 128) :
    k0_pay116 v (iota Kind.tc S512x128 32 [1] iota_S512x128_d1_w32) k0_pay110 (k0_pay111 (BitVec.ofNat 32 t.val)) k0_pay112
      64#32 (k0_pay113 (BitVec.ofNat 32 t.val)) (k0_pay114 (BitVec.ofNat 32 t.val)) (k0_pay115 (BitVec.ofNat 32 t.val)) 0#32 (ix3 0 r n)
      = if n.val < 64 then v (ix2 r n) else if n.val < 67 then (FloatOps.sitofp .f32 (BitVec.ofNat 32 ((512 * t.val + r.val) / 64)) : Ideal .f32)
        else if n.val < 70 then (FloatOps.sitofp .f32 (BitVec.ofNat 32 ((512 * t.val + r.val) % 64)) : Ideal .f32) else 0 := by
  rw [pay116_word, lt64_word, lt67_word, lt70_word, quoW_eq, rmdW_eq]
  by_cases h1 : n.val < 64
  · rw [if_pos h1, if_pos h1]; rfl
  rw [if_neg h1, if_neg h1]
  by_cases h2 : n.val < 67
  · rw [if_pos h2, if_pos h2]; rfl
  rw [if_neg h2, if_neg h2]
  by_cases h3 : n.val < 70
  · rw [if_pos h3, if_pos h3]; rfl
  rw [if_neg h3, if_neg h3]
  exact InprojRow.sitofp_zero

end Cert.InprojIdeal.Block

end
-- ==== Proof.InprojHalo.lean ====
/-
  The convolution branch of a point of the projection kernel over the extended reals: what the halo buffer holds is the
  padded gated linear unit of `InprojRow.lean` at the tile's tokens, so the rows the point stores are the token's.
-/
module

public import proofs.«01_k».proof.Proof.InprojToken

@[expose] public section

set_option maxRecDepth 16384

noncomputable section

open Idealize.ShloMosaic
open scoped BigOperators

namespace Cert.InprojIdeal.Block

open Cert.InprojIdeal Cert.InprojIdeal.Gen

/-- A column of a channel block. -/
theorem colW_apply (wc : Vec Ideal S1024x1024 .bf16) (n : Fin 4) (k : Fin 1024) (j : Fin 256) :
    colW wc n (ix2 k j) = wc (ix2 k ⟨256 * n.val + j.val, by have := n.isLt; have := j.isLt; omega⟩) := by
  unfold colW
  refine View.ld_unit_apply_of _ _ _ _ _ _ fun a => ?_
  match a with
  | ⟨0, _⟩ => exact (Nat.zero_add _).symm
  | ⟨1, _⟩ => rfl

theorem pay8_apply (x : Vec Ideal S1x512x1024 .f32) (g : Vec Ideal S1x1024 .f32) (wl wg : Vec Ideal S1024x256 .bf16) (r : Fin 512) (j : Fin 128) :
    k0_pay8 (k0_pay7 x g wl wg) (ix3 0 r j) = k0_pay10 (k0_pay4 x g) wl wg (ix2 r ⟨j.val, by have := j.isLt; omega⟩) := by
  unfold k0_pay8 k0_pay7
  rw [pay6_apply]
  generalize k0_pay10 (k0_pay4 x g) wl wg = y
  pointwise

theorem pay9_apply (x : Vec Ideal S1x512x1024 .f32) (g : Vec Ideal S1x1024 .f32) (wl wg : Vec Ideal S1024x256 .bf16) (r : Fin 512) (j : Fin 128) :
    k0_pay9 (k0_pay6 x g wl wg) (ix3 0 r j) = k0_pay10 (k0_pay4 x g) wl wg (ix2 r ⟨128 + j.val, by have := j.isLt; omega⟩) := by
  unfold k0_pay9
  rw [pay6_apply]
  generalize k0_pay10 (k0_pay4 x g) wl wg = y
  pointwise

theorem pay11_apply (h : FVec Ideal S512x1024 .bf16) (wl wg : Vec Ideal S1024x256 .bf16) (r : Fin 512) (j : Fin 128) :
    k0_pay11 h wl wg (ix3 0 r j) = k0_pay10 h wl wg (ix2 r ⟨j.val, by have := j.isLt; omega⟩) := by
  unfold k0_pay11
  generalize k0_pay10 h wl wg = y
  pointwise

theorem pay12_apply (h : FVec Ideal S512x1024 .bf16) (wl wg : Vec Ideal S1024x256 .bf16) (r : Fin 512) (j : Fin 128) :
    k0_pay12 h wl wg (ix3 0 r j) = k0_pay10 h wl wg (ix2 r ⟨128 + j.val, by have := j.isLt; omega⟩) := by
  unfold k0_pay12
  generalize k0_pay10 h wl wg = y
  pointwise

/-- The gated linear unit of a row of the block. -/
def gluB (h : FVec Ideal S512x1024 .bf16) (wc : Vec Ideal S1024x1024 .bf16) (r : Fin 512) (c : Fin 512) : EReal :=
  (∑ k : Fin 1024, h (ix2 r k) * wc (ix2 k ⟨c.val, by have := c.isLt; omega⟩))
    * InprojRow.sig (∑ k : Fin 1024, h (ix2 r k) * wc (ix2 k ⟨512 + c.val, by have := c.isLt; omega⟩))

theorem pay10_glu (h : FVec Ideal S512x1024 .bf16) (wc : Vec Ideal S1024x1024 .bf16) (n m : Fin 4) (r : Fin 512) (j : Fin 256) (c : Fin 512)
    (hn : 256 * n.val + j.val = c.val) (hm : 256 * m.val + j.val = 512 + c.val) : k0_pay10 h (colW wc n) (colW wc m) (ix2 r j) = gluB h wc r c := by
  rw [pay10_apply]
  simp only [colW_apply, hn, hm]
  rfl

/-- The buffer's own rows: the gated linear unit of the block's rows. -/
theorem winV_apply (base : Vec Ideal S4x544x128 .f32) (x : Vec Ideal S1x512x1024 .f32) (g : Vec Ideal S1x1024 .f32) (wc : Vec Ideal S1024x1024 .bf16)
    (s : Fin 4) (r : Fin 544) (j : Fin 128) (hr : 32 ≤ r.val) :
    winV base x g wc (ix3 s r j) = gluB (k0_pay4 x g) wc ⟨r.val - 32, by have := r.isLt; omega⟩ ⟨128 * s.val + j.val, by have := s.isLt; have := j.isLt; omega⟩ := by
  have hj := j.isLt
  have hr' := r.isLt
  have hs := s.isLt
  unfold winV winArr
  refine (dif_pos (show 32 ≤ ((ix3 s r j : S4x544x128.Idx) 1).val from hr)).trans ?_
  have ei : (fun a : Fin 3 => match a with
    | ⟨0, _⟩ => (⟨0, Nat.one_pos⟩ : Fin (S1x512x128.size 0))
    | ⟨1, _⟩ => (⟨r.val - 32, by show r.val - 32 < 512; omega⟩ : Fin (S1x512x128.size 1))
    | ⟨2, _⟩ => (⟨j.val, hj⟩ : Fin (S1x512x128.size 2)) : S1x512x128.Idx) = ix3 0 ⟨r.val - 32, by omega⟩ j := by
    funext a
    match a with | ⟨0, _⟩ => rfl | ⟨1, _⟩ => rfl | ⟨2, _⟩ => rfl
  refine (congrArg (pick _ _ _ _ s.val) ei).trans ?_
  have e : s.val = 0 ∨ s.val = 1 ∨ s.val = 2 ∨ s.val = 3 := by omega
  rcases e with e | e | e | e
  · obtain rfl : s = 0 := Fin.ext e
    exact (pay8_apply _ _ _ _ _ _).trans (pay10_glu _ _ _ _ _ _ _ (by show 256 * 0 + j.val = 128 * 0 + j.val; omega) (by show 256 * 2 + j.val = 512 + (128 * 0 + j.val); omega))
  · obtain rfl : s = 1 := Fin.ext e
    exact (pay9_apply _ _ _ _ _ _).trans (pay10_glu _ _ _ _ _ _ _ (by show 256 * 0 + (128 + j.val) = 128 * 1 + j.val; omega) (by show 256 * 2 + (128 + j.val) = 512 + (128 * 1 + j.val); omega))
  · obtain rfl : s = 2 := Fin.ext e
    exact (pay11_apply _ _ _ _ _).trans (pay10_glu _ _ _ _ _ _ _ (by show 256 * 1 + j.val = 128 * 2 + j.val; omega) (by show 256 * 3 + j.val = 512 + (128 * 2 + j.val); omega))
  · obtain rfl : s = 3 := Fin.ext e
    exact (pay12_apply _ _ _ _ _).trans (pay10_glu _ _ _ _ _ _ _ (by show 256 * 1 + (128 + j.val) = 128 * 3 + j.val; omega) (by show 256 * 3 + (128 + j.val) = 512 + (128 * 3 + j.val); omega))

/-- The carried rows. -/
theorem winV_base (base : Vec Ideal S4x544x128 .f32) (x : Vec Ideal S1x512x1024 .f32) (g : Vec Ideal S1x1024 .f32) (wc : Vec Ideal S1024x1024 .bf16)
    (z : S4x544x128.Idx) (hr : ¬ 32 ≤ (z 1).val) : winV base x g wc z = base z := by
  unfold winV winArr
  rw [dif_neg hr]

/-- The zeroed rows. -/
theorem haloZ_apply (base : Vec Ideal S4x544x128 .f32) (z : S4x544x128.Idx) (hr : (z 1).val < 32) : haloZ base (k0_pay5 (F := Ideal)) z = 0 := by
  unfold haloZ
  rw [dif_pos hr]
  unfold k0_pay5
  rw [shapeCast_self]
  exact Ideal.ofBits_zero_f32

section Conv

variable (A : InprojRow.Args) (b : Fin 8) (i : Nat)

/-- The buffer holds the padded gated linear unit at the tile's tokens, from row `o` on. -/
def Holds (W : Vec Ideal S4x544x128 .f32) (o : Nat) : Prop := ∀ (s : Fin 4) (r : Fin 544) (j : Fin 128), o ≤ r.val →
  W (ix3 s r j) = InprojRow.hpad A b (512 * i + r.val - 2) ⟨128 * s.val + j.val, by have := s.isLt; have := j.isLt; omega⟩

theorem tapV_apply (acc : FVec Ideal S256x128 .f32) (w : Vec Ideal S1x128 .f32) (x : Vec Ideal S1x256x128 .f32) (r : Fin 256) (j : Fin 128) :
    tapV acc w x (ix2 r j) = acc (ix2 r j) + w (ix2 0 j) * x (ix3 0 r j) := by
  rw [← PostIdeal.Block.drop_apply x shapeCasts_S1x256x128_S256x128 r j]
  unfold tapV
  generalize shapeCast S256x128 x shapeCasts_S1x256x128_S256x128 = y
  pointwise

variable (W : Vec Ideal S4x544x128 .f32) (cw : Vec Ideal S31x512 .f32) (cb lg lb : Vec Ideal S1x512 .f32)
  (hcw : ∀ (k : Fin 31) (c : Fin 512), cw (ix2 k c) = A.cw k.val c) (hcb : ∀ c : Fin 512, cb (ix2 0 c) = A.cb c)
  (hlg : ∀ c : Fin 512, lg (ix2 0 c) = A.lg c) (hlb : ∀ c : Fin 512, lb (ix2 0 c) = A.lb c)

include hcw in
/-- The taps. -/
theorem taps_apply (o : Nat) (ho2 : 2 ≤ o) (hW : Holds A b i W o) (s : Fin 4) (ho : o ≤ 258) (acc : FVec Ideal S256x128 .f32) (r : Fin 256) (j : Fin 128) :
    ∀ (n : Nat) (hn : n ≤ 31), taps W cw s.val o s.isLt ho acc n hn (ix2 r j) = acc (ix2 r j)
      + InprojRow.taps A b (512 * i + o - 2 + r.val) ⟨128 * s.val + j.val, by have := s.isLt; have := j.isLt; omega⟩ n
  | 0, _ => (add_zero _).symm
  | n + 1, hn => by
    have hr := r.isLt
    rw [taps_succ, tapV_apply, taps_apply o ho2 hW s ho acc r j n _, add_assoc]
    refine congrArg₂ _ rfl (congrArg₂ _ rfl (congrArg₂ _ ?_ ?_))
    · refine (View.ld_unit_apply_of _ _ _ _ _ (ix2 ⟨n, by omega⟩ ⟨128 * s.val + j.val, by have := s.isLt; have := j.isLt; omega⟩) fun a => ?_).trans (hcw _ _)
      match a with | ⟨0, _⟩ => rfl | ⟨1, _⟩ => rfl
    · refine (View.ld_unit_apply_of _ _ _ _ _ (ix3 s ⟨o + n + r.val, by omega⟩ j) fun a => ?_).trans ((hW s ⟨o + n + r.val, by omega⟩ j (by show o ≤ o + n + r.val; omega)).trans ?_)
      · match a with | ⟨0, _⟩ => rfl | ⟨1, _⟩ => rfl | ⟨2, _⟩ => exact (Nat.zero_add _).symm
      · exact congrArg (fun t => InprojRow.hpad A b t _) (by show 512 * i + (o + n + r.val) - 2 = 512 * i + o - 2 + r.val + n; omega)

include hcw hcb in
/-- The convolution of a strip. -/
theorem convS_apply (o : Nat) (ho2 : 2 ≤ o) (hW : Holds A b i W o) (s : Fin 4) (ho : o ≤ 258) (r : Fin 256) (j : Fin 128) :
    convS W cw cb s.val o s.isLt ho (ix2 r j)
      = InprojRow.conv A b (512 * i + o - 2 + r.val) ⟨128 * s.val + j.val, by have := s.isLt; have := j.isLt; omega⟩ := by
  unfold convS InprojRow.conv
  rw [taps_apply A b i W cw hcw o ho2 hW s ho _ r j 31 _, ← hcb]
  refine congrArg₂ _ ?_ rfl
  generalize hy : View.ld cb (Rect.unit ![0, 128 * s.val] S1x128.size _) = y
  refine Eq.trans (b := y (ix2 0 j)) ?_ ?_
  · pointwise
  · rw [← hy]
    refine View.ld_unit_apply_of _ _ _ _ _ _ fun a => ?_
    match a with | ⟨0, _⟩ => rfl | ⟨1, _⟩ => rfl

include hcw hcb in
/-- The convolution. -/
theorem convV_apply (o : Nat) (ho2 : 2 ≤ o) (hW : Holds A b i W o) (ho : o ≤ 258) (r : Fin 256) (c : Fin 512) :
    convV W cw cb o ho (ix2 r c) = InprojRow.conv A b (512 * i + o - 2 + r.val) c := by
  have hc := c.isLt
  have e : convV W cw cb o ho = concatenate S256x512 1 (List.ofFn fun s : Fin 4 => (⟨S256x128, convS W cw cb s.val o s.isLt ho⟩ : (s : Shape) × (s.Idx → EReal)))
    concatenates_S256x128_S256x128_S256x128_S256x128_S256x512_d1 := rfl
  rw [e]
  refine (concatenate_ofFn_apply (t := S256x512) (s₁ := S256x128) 1 _ _ rfl 128 rfl (ix2 r c) ⟨c.val / 128, by omega⟩ rfl
    (ix2 r ⟨c.val % 128, Nat.mod_lt _ (by decide)⟩) rfl (fun a ha => by match a with | ⟨0, _⟩ => rfl | ⟨1, _⟩ => exact absurd rfl ha)).trans ?_
  refine (convS_apply A b i W cw cb hcw hcb o ho2 hW ⟨c.val / 128, by omega⟩ ho r _).trans (congrArg _ (Fin.ext ?_))
  show 128 * (c.val / 128) + c.val % 128 = c.val
  omega

/-- The rows less their mean. -/
theorem xcV_apply (v : FVec Ideal S256x512 .f32) (r : Fin 256) (j : Fin 512) : xcV v (ix2 r j) = v (ix2 r j) - InprojRow.mean (fun k => v (ix2 r k)) := by
  unfold InprojRow.mean
  pointwise [xcV]

/-- The layer norm. -/
theorem lnV_apply (v : FVec Ideal S256x512 .f32) (g b : Vec Ideal S1x512 .f32) (r : Fin 256) (j : Fin 512) :
    lnV v g b (ix2 r j) = InprojRow.ln (fun k => v (ix2 r k)) (fun k => g (ix2 0 k)) (fun k => b (ix2 0 k)) j := by
  unfold InprojRow.ln
  simp only [← xcV_apply]
  unfold lnV InprojRow.mean
  generalize xcV v = y
  pointwise

theorem swishV_apply (v : FVec Ideal S256x512 .f32) (r : Fin 256) (j : Fin 512) : swishV v (ix2 r j) = v (ix2 r j) * InprojRow.sig (v (ix2 r j)) := by
  unfold InprojRow.sig
  pointwise [swishV]
  rw [sub_eq_add_neg, zero_add]

include hcw hcb hlg hlb in
/-- The convolution branch. -/
theorem hcV_apply (o : Nat) (ho2 : 2 ≤ o) (hW : Holds A b i W o) (ho : o ≤ 258) (r : Fin 256) (c : Fin 512) :
    hcV W cw cb lg lb o ho (ix3 0 r c) = InprojRow.hc A b (512 * i + o - 2 + r.val) c := by
  unfold hcV InprojRow.hc
  refine (lead1_apply _ _ r c).trans ((swishV_apply _ r c).trans ?_)
  have e : lnV (convV W cw cb o ho) lg lb (ix2 r c) = InprojRow.ln (InprojRow.conv A b (512 * i + o - 2 + r.val)) A.lg A.lb c := by
    rw [lnV_apply]
    simp only [convV_apply A b i W cw cb hcw hcb o ho2 hW ho r, hlg, hlb]
  rw [e]

end Conv

end Cert.InprojIdeal.Block

end
-- ==== Proof.InprojRefRow.lean ====
/-
  The projection reference's results that do not go through the convolution, element by element: the functions of
  `InprojRow.lean` of the argument arrays' coordinates.
-/
module

public import proofs.«01_k».proof.Proof.InprojRow
public import proofs.«01_k».proof.Proof.Gen.InprojRefIdeal.Read
public import Idealize.ShloMosaic.Lib.Pipeline.Value

@[expose] public section

set_option maxRecDepth 16384

noncomputable section

open Idealize.ShloMosaic Idealize.ShloMosaic.ValueIdx
open scoped BigOperators

namespace Cert.InprojRefIdeal.Row

open Cert.InprojRefIdeal Cert.InprojRefIdeal.Gen Cert.InprojRefIdeal.Read Cert.InprojRow

variable (x0 : (⟨S8x2048x1024, .f32⟩ : BufTy).Contents (Elt Ideal)) (x1 : (⟨S1x1024, .f32⟩ : BufTy).Contents (Elt Ideal))
  (x2 : (⟨S1x1024x4296, .f32⟩ : BufTy).Contents (Elt Ideal)) (x3 : (⟨S1x2048, .f32⟩ : BufTy).Contents (Elt Ideal))
  (x4 : (⟨S1x31x512, .f32⟩ : BufTy).Contents (Elt Ideal)) (x5 x6 x7 : (⟨S1x512, .f32⟩ : BufTy).Contents (Elt Ideal))

/-- The arguments as the arrays hold them. -/
def args : Args where
  x b l j := x0 (ix3 b l j)
  g j := x1 (ix2 0 j)
  w k n := x2 (ix3 0 k n)
  bg n := x3 (ix2 0 n)
  cw k c := if h : k < 31 then x4 (ix3 0 ⟨k, h⟩ c) else 0
  cb c := x5 (ix2 0 c)
  lg c := x6 (ix2 0 c)
  lb c := x7 (ix2 0 c)

local notation "ARGS" => args x0 x1 x2 x3 x4 x5 x6 x7

/-- Two indices of a rank-three array with equal coordinates. -/
theorem ix3_of {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  rw [eq_ix3 j]
  obtain rfl : j 0 = a := Fin.ext h0
  obtain rfl : j 1 = b := Fin.ext h1
  obtain rfl : j 2 = c := Fin.ext h2
  rfl

/-- Two indices of a rank-two array with equal coordinates. -/
theorem ix2_of {n0 n1 : Nat} (j : (⟨2, ![n0, n1]⟩ : Shape).Idx) (a : Fin n0) (b : Fin n1)
    (h0 : (j 0).val = a.val) (h1 : (j 1).val = b.val) : j = ix2 a b := by
  rw [eq_ix2 j]
  obtain rfl : j 0 = a := Fin.ext h0
  obtain rfl : j 1 = b := Fin.ext h1
  rfl

/-- The normalised token. -/
theorem h_eq (b : Fin 8) (l : Fin 2048) (j : Fin 1024) : val_main_v13 (F := Ideal) x0 x1 (ix3 b l j) = InprojRow.h ARGS b l j := by
  rw [val_main_v13_apply, val_main_v10_apply, val_main_v9_apply, val_main_v8_apply, val_main_v7_apply, val_main_v6_apply, val_main_v5_apply,
    val_main_v4_apply, val_main_v3_apply, val_main_v2_apply, val_main_v12_apply, val_main_v11_apply, val_main_v0_apply,
    val_main_cst_apply, val_main_cst_0_apply, val_main_cst_1_apply]
  have hs : (∑ k : Fin 1024, val_main_v1 (F := Ideal) x0 (idx_main_v2 (idx_main_v3 (idx_main_v9 (ix3 b l j))) k))
      = ∑ k : Fin 1024, x0 (ix3 b l k) * x0 (ix3 b l k) := Finset.sum_congr rfl fun k _ => by
    rw [val_main_v1_apply, ix3_of (idx_main_v2 _ k) b l k rfl rfl rfl]
    rfl
  rw [hs, show (FloatOps.ofBits .f32 0x00000000#32 : Ideal .f32) = (0 : EReal) from Ideal.ofBits_zero_f32, zero_add]
  have hj := j.isLt
  refine congrArg₂ _ rfl (congrArg x1 (ix2_of _ _ _ rfl ?_))
  show j.val % 1024 = j.val
  omega

/-- A column of the projection. -/
theorem u_eq (b : Fin 8) (l : Fin 2048) (n : Fin 4296) : val_main_v15 (F := Ideal) x0 x1 x2 (ix3 b l n) = u ARGS b l n := by
  rw [val_main_v15_apply]
  refine Finset.sum_congr rfl fun k _ => ?_
  have hk := k.isLt
  have hn := n.isLt
  refine congrArg₂ _ ((congrArg _ (ix3_of _ b l k rfl rfl rfl)).trans (h_eq x0 x1 x2 x3 x4 x5 x6 x7 b l k)) ?_
  rw [val_main_v14_apply]
  refine congrArg x2 (ix3_of _ _ _ _ rfl ?_ ?_)
  · show (k.val * 4296 + n.val) / 4296 % 1024 = k.val; omega
  · show (k.val * 4296 + n.val) % 4296 = n.val; omega

/-- The gated linear unit. -/
theorem glu_eq (b : Fin 8) (l : Fin 2048) (c : Fin 512) : val_main_v24 (F := Ideal) x0 x1 x2 (ix3 b l c) = glu ARGS b l c := by
  rw [val_main_v24_apply, val_main_v23_apply, val_main_v22_apply, val_main_v21_apply, val_main_v20_apply, val_main_v19_apply, val_main_v18_apply,
    val_main_v17_apply, val_main_v16_apply, val_main_cst_2_apply, val_main_cst_3_apply,
    ix3_of (idx_main_v16 _) b l ⟨c.val, by have := c.isLt; omega⟩ rfl rfl rfl,
    ix3_of (idx_main_v17 _) b l ⟨512 + c.val, by have := c.isLt; omega⟩ rfl rfl rfl,
    u_eq x0 x1 x2 x3 x4 x5 x6 x7, u_eq x0 x1 x2 x3 x4 x5 x6 x7]
  rfl

/-- The gates. -/
theorem gate_eq (b : Fin 8) (l : Fin 2048) (n : Fin 2048) : val_main_v289 (F := Ideal) x0 x1 x2 x3 (ix3 b l n) = gate ARGS b l n := by
  rw [val_main_v289_apply, val_main_v288_apply, val_main_v287_apply, val_main_v286_apply, val_main_v285_apply, val_main_v284_apply, val_main_v283_apply,
    val_main_v282_apply, val_main_v281_apply, val_main_v280_apply, val_main_v279_apply, val_main_cst_10_apply, val_main_cst_11_apply,
    ix3_of (idx_main_v279 _) b l ⟨2248 + n.val, by have := n.isLt; omega⟩ rfl rfl rfl, u_eq x0 x1 x2 x3 x4 x5 x6 x7]
  have hn := n.isLt
  rw [ix2_of (idx_main_v280 _) 0 n rfl (by show n.val % 2048 = n.val; omega)]
  rfl

/-- The index keys. -/
theorem ki_eq (b : Fin 8) (l : Fin 2048) (n : Fin 64) : val_main_v313 (F := Ideal) x0 x1 x2 (ix3 b l n) = ki ARGS b l n := by
  rw [val_main_v313_apply, val_main_v277_apply, ix3_of (idx_main_v277 _) b l ⟨2176 + n.val, by have := n.isLt; omega⟩ rfl rfl rfl, u_eq x0 x1 x2 x3 x4 x5 x6 x7]
  rfl

/-- The scaled queries. -/
theorem qt_eq (b : Fin 8) (n : Fin 512) (l : Fin 2048) : val_main_v314 (F := Ideal) x0 x1 x2 (ix3 b n l) = qt ARGS b n l := by
  rw [val_main_v314_apply, val_main_v292_apply, val_main_v291_apply, val_main_v290_apply, val_main_cst_12_apply, val_main_v273_apply,
    ix3_of (idx_main_v273 _) b l ⟨1024 + n.val, by have := n.isLt; omega⟩ rfl rfl rfl, u_eq x0 x1 x2 x3 x4 x5 x6 x7]
  rfl

/-- The scaled index queries. -/
theorem qit_eq (b : Fin 8) (n : Fin 512) (l : Fin 2048) : val_main_v315 (F := Ideal) x0 x1 x2 (ix3 b n l) = qit ARGS b n l := by
  rw [val_main_v315_apply, val_main_v295_apply, val_main_v294_apply, val_main_v293_apply, val_main_cst_13_apply, val_main_v276_apply,
    ix3_of (idx_main_v276 _) b l ⟨1664 + n.val, by have := n.isLt; omega⟩ rfl rfl rfl, u_eq x0 x1 x2 x3 x4 x5 x6 x7]
  rfl

/-- The scaled index weights. -/
theorem wit_eq (b : Fin 8) (n : Fin 8) (l : Fin 2048) : val_main_v298 (F := Ideal) x0 x1 x2 (ix3 b n l) = wit ARGS b n l := by
  rw [val_main_v298_apply, val_main_v297_apply, val_main_v296_apply, val_main_cst_14_apply, val_main_v278_apply,
    ix3_of (idx_main_v278 _) b l ⟨2240 + n.val, by have := n.isLt; omega⟩ rfl rfl rfl, u_eq x0 x1 x2 x3 x4 x5 x6 x7]
  rfl

/-- The values with their rows of ones and zeros: chunk `q`, row `n`, token `256 q + r`. -/
theorem vt_eq (b : Fin 8) (q : Fin 8) (n : Fin 80) (r : Fin 256) : val_main_v316 (F := Ideal) x0 x1 x2 (ix4 b q n r)
    = vt ARGS b n ⟨256 * q.val + r.val, by have := q.isLt; have := r.isLt; omega⟩ := by
  have hb := b.isLt
  have hq := q.isLt
  have hn := n.isLt
  have hr := r.isLt
  rw [val_main_v316_apply, val_main_v310_apply, val_main_v309_apply]
  rw [ix3_of (idx_main_v309 _) b ⟨256 * q.val + r.val, by omega⟩ n
    (by show (((b.val * 8 + q.val) * 256 + r.val) * 80 + n.val) / 163840 = b.val; omega)
    (by show (((b.val * 8 + q.val) * 256 + r.val) * 80 + n.val) / 80 % 2048 = 256 * q.val + r.val; omega)
    (by show (((b.val * 8 + q.val) * 256 + r.val) * 80 + n.val) % 80 = n.val; omega)]
  show val_main_v308 (F := Ideal) x0 x1 x2 _ = _
  unfold val_main_v308 vt
  by_cases h1 : n.val < 64
  · rw [dif_pos h1]
    refine (concatenate_apply_piece (t := S8x2048x80) 2 _ _ _ 0 (by simp) S8x2048x64 _ rfl rfl 0 rfl (ix3 b _ ⟨n.val, h1⟩)
      (fun a ha => by match a with | ⟨0, _⟩ => rfl | ⟨1, _⟩ => rfl | ⟨2, _⟩ => exact absurd rfl ha) (Nat.zero_add _)).trans ?_
    rw [val_main_v275_apply, ix3_of (idx_main_v275 _) b ⟨256 * q.val + r.val, by omega⟩ ⟨1600 + n.val, by omega⟩ rfl rfl rfl, u_eq x0 x1 x2 x3 x4 x5 x6 x7]
  · rw [dif_neg h1]
    by_cases h2 : n.val < 72
    · rw [if_pos h2]
      refine (concatenate_apply_piece (t := S8x2048x80) 2 _ _ _ 1 (by simp) S8x2048x8 _ rfl rfl 64 rfl (ix3 b _ ⟨n.val - 64, by omega⟩)
        (fun a ha => by match a with | ⟨0, _⟩ => rfl | ⟨1, _⟩ => rfl | ⟨2, _⟩ => exact absurd rfl ha) (by show 64 + (n.val - 64) = n.val; omega)).trans ?_
      rw [val_main_v306_apply, val_main_cst_18_apply]
      exact ofBits_one
    · rw [if_neg h2]
      refine (concatenate_apply_piece (t := S8x2048x80) 2 _ _ _ 2 (by simp) S8x2048x8 _ rfl rfl 72 rfl (ix3 b _ ⟨n.val - 72, by omega⟩)
        (fun a ha => by match a with | ⟨0, _⟩ => rfl | ⟨1, _⟩ => rfl | ⟨2, _⟩ => exact absurd rfl ha) (by show 72 + (n.val - 72) = n.val; omega)).trans ?_
      rw [val_main_v307_apply, val_main_cst_19_apply]
      exact Ideal.ofBits_zero_f32

end Cert.InprojRefIdeal.Row

end
-- ==== Proof.InprojHost.lean ====
/-
  What the projection call's windows hold when its region is entered, read at an index over the extended reals: the
  host's slices, its transposed concatenation of scaled columns and its casts all read an argument of the call.
-/
module

public import proofs.«01_k».proof.Proof.InprojHalo
public import proofs.«01_k».proof.Proof.InprojRefRow
public import Idealize.ShloMosaic.Lib.StableHlo.Run

@[expose] public section

set_option maxRecDepth 16384

noncomputable section

open Idealize.ShloMosaic Idealize.ShloMosaic.TcCoe Idealize.SL.Sem
open scoped BigOperators

namespace Cert.InprojIdeal.Block

open Cert.InprojIdeal Cert.InprojIdeal.Gen

/-! ## Scaling a product's terms -/

/-- A finite scale that is not negative moves out of a sum. -/
theorem sum_mul_scale {ι : Type} (s : Finset ι) (f : ι → EReal) (a : EReal) (h0 : 0 ≤ a) (ht : a ≠ ⊤) :
    (∑ k ∈ s, f k) * a = ∑ k ∈ s, f k * a := by
  classical
  induction s using Finset.induction_on with
  | empty => rw [Finset.sum_empty, Finset.sum_empty, zero_mul]
  | insert k s hk ih => rw [Finset.sum_insert hk, Finset.sum_insert hk, EReal.right_distrib_of_nonneg_of_ne_top h0 ht, ih]

theorem scaled_sum (w h : Fin 1024 → EReal) (a : EReal) (h0 : 0 ≤ a) (ht : a ≠ ⊤) : ∑ k, (w k * a) * h k = (∑ k, h k * w k) * a := by
  rw [sum_mul_scale _ _ a h0 ht]
  exact Finset.sum_congr rfl fun k _ => by rw [mul_comm, mul_assoc]

theorem scale_q : 0 ≤ Ideal.ofBits .f32 0x3E38AA3B#32 ∧ Ideal.ofBits .f32 0x3E38AA3B#32 ≠ (⊤ : EReal) := by
  constructor
  · simp [Ideal.ofBits, Ideal.ieee, -EReal.coe_mul]
    try norm_num
    try positivity
  · simp [Ideal.ofBits, Ideal.ieee, -EReal.coe_mul]

theorem scale_qi : 0 ≤ Ideal.ofBits .f32 0x3E000000#32 ∧ Ideal.ofBits .f32 0x3E000000#32 ≠ (⊤ : EReal) := by
  constructor
  · simp [Ideal.ofBits, Ideal.ieee, -EReal.coe_mul]
    try norm_num
    try positivity
  · simp [Ideal.ofBits, Ideal.ieee, -EReal.coe_mul]

/-! ## The host's operations, one buffer at a time -/

variable (m : (ℓ : Loc nD τ sig) → Buf (Elt Ideal) ℓ) (c : Dev nD)

/-- The argument `b` of the call. -/
abbrev arg (b : Ref sig .tc) : Buf (Elt Ideal) ((c : Thread nD τ).loc b) := m ((c : Thread nD τ).loc b)

/-- The call's arguments by their coordinates. -/
abbrev A : InprojRow.Args := InprojRefIdeal.Row.args (arg m c main_arg0) (arg m c main_arg1) (arg m c main_arg2) (arg m c main_arg3) (arg m c main_arg4)
  (arg m c main_arg5) (arg m c main_arg6) (arg m c main_arg7)

/-- The weights without their unit axis. -/
def flatW (w : S1x1024x4296.Idx → EReal) : FVec Ideal S1024x4296 .f32 := shapeCast S1024x4296 w shapeCasts_S1x1024x4296_S1024x4296

/-- The concatenated columns the kernel multiplies from the left. -/
def catT (y : FVec Ideal S1024x4296 .f32) : FVec Ideal S1024x1152 .f32 :=
  concatenate S1024x1152 1 [⟨S1024x512, mulf (extractStridedSlice S1024x512 ![0, 1024] y slices_S1024x4296_S1024x512_0_1024)
        (broadcastInDim S1024x512 ![] bcast_S_S1024x512 (constant (F := Ideal) S_ .f32 0x3E38AA3B#32))⟩,
      ⟨S1024x512, mulf (extractStridedSlice S1024x512 ![0, 1664] y slices_S1024x4296_S1024x512_0_1664)
        (broadcastInDim S1024x512 ![] bcast_S_S1024x512 (constant (F := Ideal) S_ .f32 0x3E000000#32))⟩,
      ⟨S1024x64, extractStridedSlice S1024x64 ![0, 1600] y slices_S1024x4296_S1024x64_0_1600⟩,
      ⟨S1024x8, extractStridedSlice S1024x8 ![0, 2240] y slices_S1024x4296_S1024x8_0_2240⟩,
      ⟨S1024x56, broadcastInDim S1024x56 ![] bcast_S_S1024x56 (constant (F := Ideal) S_ .f32 0x00000000#32)⟩]
    concatenates_S1024x512_S1024x512_S1024x64_S1024x8_S1024x56_S1024x1152_d1

/-- The concatenated columns of the keys and the index keys. -/
def catK (y : FVec Ideal S1024x4296 .f32) : FVec Ideal S1024x128 .f32 :=
  concatenate S1024x128 1 [⟨S1024x64, extractStridedSlice S1024x64 ![0, 1536] y slices_S1024x4296_S1024x64_0_1536⟩,
    ⟨S1024x64, extractStridedSlice S1024x64 ![0, 2176] y slices_S1024x4296_S1024x64_0_2176⟩] concatenates_S1024x64_S1024x64_S1024x128_d1

theorem V_v2 : V m c main_v2 = truncf (F := Ideal) .bf16 (extractStridedSlice S1024x1024 ![0, 0] (flatW (arg m c main_arg2)) slices_S1024x4296_S1024x1024_0_0) bitsLt_bf16_f32 := by
  unfold_abbrev_sides; after_results; rfl
theorem V_v4 : V m c main_v4 = truncf (F := Ideal) .bf16 (extractStridedSlice S1024x2048 ![0, 2248] (flatW (arg m c main_arg2)) slices_S1024x4296_S1024x2048_0_2248) bitsLt_bf16_f32 := by
  unfold_abbrev_sides; after_results; rfl
theorem V_v8 : V m c main_v8 = truncf (F := Ideal) .bf16 (catK (flatW (arg m c main_arg2))) bitsLt_bf16_f32 := by
  unfold_abbrev_sides; after_results; rfl
theorem V_v20 : V m c main_v20 = truncf (F := Ideal) .bf16 (transpose S1152x1024 [1, 0] (catT (flatW (arg m c main_arg2))) transposes_S1024x1152_S1152x1024_1_0) bitsLt_bf16_f32 := by
  unfold_abbrev_sides; after_results; rfl
theorem V_v22 : V m c main_v22 = broadcastInDim S1x1024 ![1] bcast_S1024_S1x1024_1 (shapeCast S1024 (arg m c main_arg1) shapeCasts_S1x1024_S1024) := by
  unfold_abbrev_sides; after_results; rfl
theorem V_v24 : V m c main_v24 = broadcastInDim S1x2048 ![1] bcast_S2048_S1x2048_1 (shapeCast S2048 (arg m c main_arg3) shapeCasts_S1x2048_S2048) := by
  unfold_abbrev_sides; after_results; rfl
theorem V_v25 : V m c main_v25 = shapeCast S31x512 (arg m c main_arg4) shapeCasts_S1x31x512_S31x512 := by
  unfold_abbrev_sides; after_results; rfl
theorem V_v27 : V m c main_v27 = broadcastInDim S1x512 ![1] bcast_S512_S1x512_1 (shapeCast S512 (arg m c main_arg5) shapeCasts_S1x512_S512) := by
  unfold_abbrev_sides; after_results; rfl
theorem V_v29 : V m c main_v29 = broadcastInDim S1x512 ![1] bcast_S512_S1x512_1 (shapeCast S512 (arg m c main_arg6) shapeCasts_S1x512_S512) := by
  unfold_abbrev_sides; after_results; rfl
theorem V_v31 : V m c main_v31 = broadcastInDim S1x512 ![1] bcast_S512_S1x512_1 (shapeCast S512 (arg m c main_arg7) shapeCasts_S1x512_S512) := by
  unfold_abbrev_sides; after_results; rfl

/-! ## Read at an index -/

theorem flatW_apply (w : S1x1024x4296.Idx → EReal) (k : Fin 1024) (n : Fin 4296) : flatW w (ix2 k n) = w (ix3 0 k n) :=
  PostIdeal.Block.drop_apply w _ k n

theorem at_v2 (k : Fin 1024) (n : Fin 1024) : V m c main_v2 (ix2 k n) = (A m c).w k ⟨n.val, by have := n.isLt; omega⟩ := by
  rw [V_v2]
  refine Eq.trans ?_ (flatW_apply _ k ⟨n.val, by have := n.isLt; omega⟩)
  generalize flatW (arg m c main_arg2) = y
  pointwise

theorem at_v4 (k : Fin 1024) (n : Fin 2048) : V m c main_v4 (ix2 k n) = (A m c).w k ⟨2248 + n.val, by have := n.isLt; omega⟩ := by
  rw [V_v4]
  refine Eq.trans ?_ (flatW_apply _ k ⟨2248 + n.val, by have := n.isLt; omega⟩)
  generalize flatW (arg m c main_arg2) = y
  pointwise

theorem at_v8 (k : Fin 1024) (n : Fin 128) : V m c main_v8 (ix2 k n) = catK (flatW (arg m c main_arg2)) (ix2 k n) := by
  rw [V_v8]
  generalize catK (flatW (arg m c main_arg2)) = y
  pointwise

theorem at_v8_k (k : Fin 1024) (n : Fin 128) (h : n.val < 64) : V m c main_v8 (ix2 k n) = (A m c).w k ⟨1536 + n.val, by omega⟩ := by
  rw [at_v8]
  refine Eq.trans ?_ (flatW_apply _ k ⟨1536 + n.val, by omega⟩)
  generalize flatW (arg m c main_arg2) = y
  unfold catK
  refine (concatenate_apply_piece (t := S1024x128) 1 _ _ (ix2 k n) 0 (by simp) S1024x64 _ rfl rfl 0 rfl (ix2 k ⟨n.val, h⟩)
    (fun a ha => by match a with | ⟨0, _⟩ => rfl | ⟨1, _⟩ => exact absurd rfl ha) (by show 0 + n.val = n.val; omega)).trans ?_
  pointwise

theorem at_v8_ki (k : Fin 1024) (n : Fin 64) :
    V m c main_v8 (ix2 k ⟨64 + n.val, by have := n.isLt; omega⟩) = (A m c).w k ⟨2176 + n.val, by have := n.isLt; omega⟩ := by
  have hn := n.isLt
  rw [at_v8]
  refine Eq.trans ?_ (flatW_apply _ k ⟨2176 + n.val, by omega⟩)
  generalize flatW (arg m c main_arg2) = y
  unfold catK
  refine (concatenate_apply_piece (t := S1024x128) 1 _ _ (ix2 k ⟨64 + n.val, by omega⟩) 1 (by simp) S1024x64 _ rfl rfl 64 rfl (ix2 k n)
    (fun a ha => by match a with | ⟨0, _⟩ => rfl | ⟨1, _⟩ => exact absurd rfl ha) rfl).trans ?_
  pointwise

theorem at_v20 (n : Fin 1152) (k : Fin 1024) : V m c main_v20 (ix2 n k) = catT (flatW (arg m c main_arg2)) (ix2 k n) := by
  rw [V_v20]
  generalize catT (flatW (arg m c main_arg2)) = y
  pointwise

theorem at_v20_q (n : Fin 512) (k : Fin 1024) : V m c main_v20 (ix2 ⟨n.val, by have := n.isLt; omega⟩ k)
    = (A m c).w k ⟨1024 + n.val, by have := n.isLt; omega⟩ * Ideal.ofBits .f32 0x3E38AA3B#32 := by
  have hn := n.isLt
  rw [at_v20]
  refine Eq.trans ?_ (congrArg (· * _) (flatW_apply _ k ⟨1024 + n.val, by omega⟩))
  generalize flatW (arg m c main_arg2) = y
  unfold catT
  refine (concatenate_apply_piece (t := S1024x1152) 1 _ _ (ix2 k ⟨n.val, by omega⟩) 0 (by simp) S1024x512 _ rfl rfl 0 rfl (ix2 k n)
    (fun a ha => by match a with | ⟨0, _⟩ => rfl | ⟨1, _⟩ => exact absurd rfl ha) (by show 0 + n.val = n.val; omega)).trans ?_
  pointwise

theorem at_v20_qi (n : Fin 512) (k : Fin 1024) : V m c main_v20 (ix2 ⟨512 + n.val, by have := n.isLt; omega⟩ k)
    = (A m c).w k ⟨1664 + n.val, by have := n.isLt; omega⟩ * Ideal.ofBits .f32 0x3E000000#32 := by
  have hn := n.isLt
  rw [at_v20]
  refine Eq.trans ?_ (congrArg (· * _) (flatW_apply _ k ⟨1664 + n.val, by omega⟩))
  generalize flatW (arg m c main_arg2) = y
  unfold catT
  refine (concatenate_apply_piece (t := S1024x1152) 1 _ _ (ix2 k ⟨512 + n.val, by omega⟩) 1 (by simp) S1024x512 _ rfl rfl 512 rfl (ix2 k n)
    (fun a ha => by match a with | ⟨0, _⟩ => rfl | ⟨1, _⟩ => exact absurd rfl ha) rfl).trans ?_
  pointwise

theorem at_v20_v (n : Fin 64) (k : Fin 1024) : V m c main_v20 (ix2 ⟨1024 + n.val, by have := n.isLt; omega⟩ k)
    = (A m c).w k ⟨1600 + n.val, by have := n.isLt; omega⟩ := by
  have hn := n.isLt
  rw [at_v20]
  refine Eq.trans ?_ (flatW_apply _ k ⟨1600 + n.val, by omega⟩)
  generalize flatW (arg m c main_arg2) = y
  unfold catT
  refine (concatenate_apply_piece (t := S1024x1152) 1 _ _ (ix2 k ⟨1024 + n.val, by omega⟩) 2 (by simp) S1024x64 _ rfl rfl 1024 rfl (ix2 k n)
    (fun a ha => by match a with | ⟨0, _⟩ => rfl | ⟨1, _⟩ => exact absurd rfl ha) rfl).trans ?_
  pointwise

theorem at_v20_wi (n : Fin 8) (k : Fin 1024) : V m c main_v20 (ix2 ⟨1088 + n.val, by have := n.isLt; omega⟩ k)
    = (A m c).w k ⟨2240 + n.val, by have := n.isLt; omega⟩ := by
  have hn := n.isLt
  rw [at_v20]
  refine Eq.trans ?_ (flatW_apply _ k ⟨2240 + n.val, by omega⟩)
  generalize flatW (arg m c main_arg2) = y
  unfold catT
  refine (concatenate_apply_piece (t := S1024x1152) 1 _ _ (ix2 k ⟨1088 + n.val, by omega⟩) 3 (by simp) S1024x8 _ rfl rfl 1088 rfl (ix2 k n)
    (fun a ha => by match a with | ⟨0, _⟩ => rfl | ⟨1, _⟩ => exact absurd rfl ha) rfl).trans ?_
  pointwise

theorem at_v22 (j : Fin 1024) : V m c main_v22 (ix2 0 j) = (A m c).g j := by
  show _ = arg m c main_arg1 (ix2 0 j)
  rw [V_v22]
  pointwise

theorem at_v24 (j : Fin 2048) : V m c main_v24 (ix2 0 j) = (A m c).bg j := by
  show _ = arg m c main_arg3 (ix2 0 j)
  rw [V_v24]
  pointwise

theorem at_v25 (k : Fin 31) (j : Fin 512) : V m c main_v25 (ix2 k j) = (A m c).cw k.val j := by
  rw [V_v25]
  have e : (A m c).cw k.val j = arg m c main_arg4 (ix3 0 k j) := dif_pos k.isLt
  exact (PostIdeal.Block.drop_apply _ _ k j).trans e.symm

theorem at_v27 (j : Fin 512) : V m c main_v27 (ix2 0 j) = (A m c).cb j := by
  show _ = arg m c main_arg5 (ix2 0 j)
  rw [V_v27]
  pointwise

theorem at_v29 (j : Fin 512) : V m c main_v29 (ix2 0 j) = (A m c).lg j := by
  show _ = arg m c main_arg6 (ix2 0 j)
  rw [V_v29]
  pointwise

theorem at_v31 (j : Fin 512) : V m c main_v31 (ix2 0 j) = (A m c).lb j := by
  show _ = arg m c main_arg7 (ix2 0 j)
  rw [V_v31]
  pointwise

end Cert.InprojIdeal.Block

end
-- ==== Proof.InprojStored.lean ====
/-
  The arrays a point of the projection kernel stores, over the extended reals, element by element (the convolution branch
  is in `InprojHalo.lean`).
-/
module

public import proofs.«01_k».proof.Proof.InprojToken

@[expose] public section

set_option maxRecDepth 16384

noncomputable section

open Idealize.ShloMosaic
open scoped BigOperators

namespace Cert.InprojIdeal.Block

open Cert.InprojIdeal Cert.InprojIdeal.Gen

/-- Under the last store, what the pieces hold is its payload. -/
theorem canon_hit {S : Shape} {e : EltTy} (off size : Fin S.rank → Nat) (inb) (w : (⟨S.rank, size⟩ : Shape).Idx → Elt Ideal e)
    (L : List (View.Piece (Elt Ideal) S e)) (x : (⟨S.rank, size⟩ : Shape).Idx) (y : S.Idx) (h : ∀ a, (y a).val = off a + 1 * (x a).val) :
    View.canon (⟨Rect.unit off size inb, w⟩ :: L) y = w x := by
  obtain rfl : y = (Rect.unit off size inb).emb x := funext fun a => Fin.ext (h a)
  exact View.canon_cons_emb (Rect.unit off size inb) w L x

/-- Two halves of the last axis. -/
theorem cols_apply {A : Nat} {e : EltTy} (i1 i0) (p1 p0 : (⟨3, ![1, A, 256]⟩ : Shape).Idx → Elt Ideal e) (n : Fin A) (r : Fin 512) :
    View.canon (Val := Elt Ideal) (s := ⟨3, ![1, A, 512]⟩) (e := e)
      [⟨Rect.unit ![0, 0, 256] ![1, A, 256] i1, p1⟩, ⟨Rect.unit ![0, 0, 0] ![1, A, 256] i0, p0⟩] (ix3 0 n r)
      = if h : r.val < 256 then p0 (ix3 0 n ⟨r.val, h⟩) else p1 (ix3 0 n ⟨r.val - 256, by have := r.isLt; omega⟩) := by
  have hr := r.isLt
  by_cases h : r.val < 256
  · rw [dif_pos h, View.canon_cons_of_not_mem _ _ (Rect.not_mem_set_of_axis _ _ 2 256 256 rfl rfl rfl (Or.inl (by show r.val < 256; exact h)))]
    refine canon_hit (S := ⟨3, ![1, A, 512]⟩) ![0, 0, 0] ![1, A, 256] i0 p0 _ (ix3 0 n ⟨r.val, h⟩) _ fun a => ?_
    match a with
    | ⟨0, _⟩ => rfl
    | ⟨1, _⟩ => show n.val = 0 + 1 * n.val; omega
    | ⟨2, _⟩ => show r.val = 0 + 1 * r.val; omega
  · rw [dif_neg h]
    refine canon_hit (S := ⟨3, ![1, A, 512]⟩) ![0, 0, 256] ![1, A, 256] i1 p1 _ (ix3 0 n ⟨r.val - 256, by omega⟩) _ fun a => ?_
    match a with
    | ⟨0, _⟩ => rfl
    | ⟨1, _⟩ => show n.val = 0 + 1 * n.val; omega
    | ⟨2, _⟩ => show r.val = 256 + 1 * (r.val - 256); omega

/-- Two halves of the middle axis. -/
theorem rows_apply {A : Nat} {e : EltTy} (i1 i0) (p1 p0 : (⟨3, ![1, 256, A]⟩ : Shape).Idx → Elt Ideal e) (r : Fin 512) (n : Fin A) :
    View.canon (Val := Elt Ideal) (s := ⟨3, ![1, 512, A]⟩) (e := e)
      [⟨Rect.unit ![0, 256, 0] ![1, 256, A] i1, p1⟩, ⟨Rect.unit ![0, 0, 0] ![1, 256, A] i0, p0⟩] (ix3 0 r n)
      = if h : r.val < 256 then p0 (ix3 0 ⟨r.val, h⟩ n) else p1 (ix3 0 ⟨r.val - 256, by have := r.isLt; omega⟩ n) := by
  have hr := r.isLt
  by_cases h : r.val < 256
  · rw [dif_pos h, View.canon_cons_of_not_mem _ _ (Rect.not_mem_set_of_axis _ _ 1 256 256 rfl rfl rfl (Or.inl (by show r.val < 256; exact h)))]
    refine canon_hit (S := ⟨3, ![1, 512, A]⟩) ![0, 0, 0] ![1, 256, A] i0 p0 _ (ix3 0 ⟨r.val, h⟩ n) _ fun a => ?_
    match a with
    | ⟨0, _⟩ => rfl
    | ⟨1, _⟩ => show r.val = 0 + 1 * r.val; omega
    | ⟨2, _⟩ => show n.val = 0 + 1 * n.val; omega
  · rw [dif_neg h]
    refine canon_hit (S := ⟨3, ![1, 512, A]⟩) ![0, 256, 0] ![1, 256, A] i1 p1 _ (ix3 0 ⟨r.val - 256, by omega⟩ n) _ fun a => ?_
    match a with
    | ⟨0, _⟩ => rfl
    | ⟨1, _⟩ => show r.val = 256 + 1 * (r.val - 256); omega
    | ⟨2, _⟩ => show n.val = 0 + 1 * n.val; omega

variable (h : FVec Ideal S512x1024 .bf16)

theorem oGate_apply (wg : Vec Ideal S1024x2048 .bf16) (bg : Vec Ideal S1x2048 .f32) (r : Fin 512) (n : Fin 2048) :
    oGate h wg bg (ix3 0 r n) = InprojRow.sig ((∑ k : Fin 1024, h (ix2 r k) * wg (ix2 k n)) + bg (ix2 0 n)) := by
  unfold oGate
  rw [View.canon_unit_zero (S := S1x512x2048) hz3]
  exact pay107_apply h wg bg r n

theorem oK_apply (w : Vec Ideal S1024x128 .bf16) (t : Fin 4) (r : Fin 512) (n : Fin 128) :
    oK (BitVec.ofNat 32 t.val) h w (ix3 0 r n)
      = if n.val < 64 then ∑ k : Fin 1024, h (ix2 r k) * w (ix2 k n) else if n.val < 67 then (FloatOps.sitofp .f32 (BitVec.ofNat 32 ((512 * t.val + r.val) / 64)) : Ideal .f32)
        else if n.val < 70 then (FloatOps.sitofp .f32 (BitVec.ofNat 32 ((512 * t.val + r.val) % 64)) : Ideal .f32) else 0 := by
  unfold oK
  rw [View.canon_unit_zero (S := S1x512x128) hz3, ← pay108_apply]
  exact pay116_apply _ t r n

theorem oKi_apply (w : Vec Ideal S1024x128 .bf16) (r : Fin 512) (n : Fin 64) :
    oKi h w (ix3 0 r n) = ∑ k : Fin 1024, h (ix2 r k) * w (ix2 k ⟨64 + n.val, by have := n.isLt; omega⟩) := by
  unfold oKi
  rw [View.canon_unit_zero (S := S1x512x64) hz3]
  exact (pay117_apply _ r n).trans (pay108_apply _ _ _ _)

/-- A transposed product, of the first and of the last 256 rows. -/
theorem halves (w : Vec Ideal S1152x1024 .bf16) (n : Fin 1152) (r : Fin 512) :
    (if h' : r.val < 256 then k0_pay119 h w (ix2 n ⟨r.val, h'⟩) else k0_pay126 h w (ix2 n ⟨r.val - 256, by have := r.isLt; omega⟩))
      = ∑ k : Fin 1024, w (ix2 n k) * h (ix2 r k) := by
  have hr := r.isLt
  by_cases h' : r.val < 256
  · rw [dif_pos h', pay119_apply]
  · rw [dif_neg h', pay126_apply]
    have e : (⟨256 + (r.val - 256), by omega⟩ : Fin 512) = r := Fin.ext (by show 256 + (r.val - 256) = r.val; omega)
    simp only [e]

theorem oQt_apply (w : Vec Ideal S1152x1024 .bf16) (n : Fin 512) (r : Fin 512) :
    oQt h w (ix3 0 n r) = ∑ k : Fin 1024, w (ix2 ⟨n.val, by have := n.isLt; omega⟩ k) * h (ix2 r k) := by
  unfold oQt
  refine (cols_apply _ _ _ _ n r).trans ?_
  simp only [pay127_apply, pay120_apply]
  exact halves h w _ r

theorem oQit_apply (w : Vec Ideal S1152x1024 .bf16) (n : Fin 512) (r : Fin 512) :
    oQit h w (ix3 0 n r) = ∑ k : Fin 1024, w (ix2 ⟨512 + n.val, by have := n.isLt; omega⟩ k) * h (ix2 r k) := by
  unfold oQit
  refine (cols_apply _ _ _ _ n r).trans ?_
  simp only [pay128_apply, pay122_apply]
  exact halves h w _ r

theorem oWit_apply (w : Vec Ideal S1152x1024 .bf16) (n : Fin 8) (r : Fin 512) :
    oWit h w (ix3 0 n r) = (∑ k : Fin 1024, w (ix2 ⟨1088 + n.val, by have := n.isLt; omega⟩ k) * h (ix2 r k)) * Ideal.ofBits .f32 0x3EB504F3#32 := by
  unfold oWit
  refine (cols_apply _ _ _ _ n r).trans ?_
  simp only [pay3_apply, pay125_apply]
  rw [← halves h w _ r]
  by_cases h' : r.val < 256
  · rw [dif_pos h', dif_pos h']
  · rw [dif_neg h', dif_neg h']

/-- Four pieces: of each of two blocks, 64 rows and the 16 under them. -/
theorem four_apply (i3 i2 i1 i0) (p3 p1 : Vec Ideal S1x1x16x256 .bf16) (p2 p0 : Vec Ideal S1x1x64x256 .bf16) (q : Fin 2) (n : Fin 80) (r : Fin 256) :
    View.canon (Val := Elt Ideal) (s := S1x2x80x256) (e := .bf16)
      [⟨Rect.unit ![0, 1, 64, 0] ![1, 1, 16, 256] i3, p3⟩, ⟨Rect.unit ![0, 1, 0, 0] ![1, 1, 64, 256] i2, p2⟩,
        ⟨Rect.unit ![0, 0, 64, 0] ![1, 1, 16, 256] i1, p1⟩, ⟨Rect.unit ![0, 0, 0, 0] ![1, 1, 64, 256] i0, p0⟩] (ix4 0 q n r)
      = if hn : n.val < 64 then (if q.val = 0 then p0 else p2) (ix4 0 0 ⟨n.val, hn⟩ r)
        else (if q.val = 0 then p1 else p3) (ix4 0 0 ⟨n.val - 64, by have := n.isLt; omega⟩ r) := by
  have hq := q.isLt
  have hn := n.isLt
  have e : q.val = 0 ∨ q.val = 1 := by omega
  rcases e with e | e
  · obtain rfl : q = 0 := Fin.ext e
    rw [if_pos e, if_pos e, View.canon_cons_of_not_mem _ _ (Rect.not_mem_set_of_axis _ _ 1 1 1 rfl rfl rfl (Or.inl (by show 0 < 1; omega))),
      View.canon_cons_of_not_mem _ _ (Rect.not_mem_set_of_axis _ _ 1 1 1 rfl rfl rfl (Or.inl (by show 0 < 1; omega)))]
    by_cases h1 : n.val < 64
    · rw [dif_pos h1, View.canon_cons_of_not_mem _ _ (Rect.not_mem_set_of_axis _ _ 2 64 16 rfl rfl rfl (Or.inl (by show n.val < 64; exact h1)))]
      refine canon_hit (S := S1x2x80x256) ![0, 0, 0, 0] ![1, 1, 64, 256] i0 p0 _ (ix4 0 0 ⟨n.val, h1⟩ r) _ fun a => ?_
      match a with
      | ⟨0, _⟩ => rfl
      | ⟨1, _⟩ => rfl
      | ⟨2, _⟩ => show n.val = 0 + 1 * n.val; omega
      | ⟨3, _⟩ => show r.val = 0 + 1 * r.val; omega
    · rw [dif_neg h1]
      refine canon_hit (S := S1x2x80x256) ![0, 0, 64, 0] ![1, 1, 16, 256] i1 p1 _ (ix4 0 0 ⟨n.val - 64, by omega⟩ r) _ fun a => ?_
      match a with
      | ⟨0, _⟩ => rfl
      | ⟨1, _⟩ => rfl
      | ⟨2, _⟩ => show n.val = 64 + 1 * (n.val - 64); omega
      | ⟨3, _⟩ => show r.val = 0 + 1 * r.val; omega
  · obtain rfl : q = 1 := Fin.ext e
    rw [if_neg (by omega), if_neg (by omega)]
    by_cases h1 : n.val < 64
    · rw [dif_pos h1, View.canon_cons_of_not_mem _ _ (Rect.not_mem_set_of_axis _ _ 2 64 16 rfl rfl rfl (Or.inl (by show n.val < 64; exact h1)))]
      refine canon_hit (S := S1x2x80x256) ![0, 1, 0, 0] ![1, 1, 64, 256] i2 p2 _ (ix4 0 0 ⟨n.val, h1⟩ r) _ fun a => ?_
      match a with
      | ⟨0, _⟩ => rfl
      | ⟨1, _⟩ => rfl
      | ⟨2, _⟩ => show n.val = 0 + 1 * n.val; omega
      | ⟨3, _⟩ => show r.val = 0 + 1 * r.val; omega
    · rw [dif_neg h1]
      refine canon_hit (S := S1x2x80x256) ![0, 1, 64, 0] ![1, 1, 16, 256] i3 p3 _ (ix4 0 0 ⟨n.val - 64, by omega⟩ r) _ fun a => ?_
      match a with
      | ⟨0, _⟩ => rfl
      | ⟨1, _⟩ => rfl
      | ⟨2, _⟩ => show n.val = 64 + 1 * (n.val - 64); omega
      | ⟨3, _⟩ => show r.val = 0 + 1 * r.val; omega

/-- The transposed values with their rows of ones and zeros. -/
theorem oVt_apply (w : Vec Ideal S1152x1024 .bf16) (q : Fin 2) (n : Fin 80) (r : Fin 256) :
    oVt h w (ix4 0 q n r) = if hn : n.val < 64 then ∑ k : Fin 1024, w (ix2 ⟨1024 + n.val, by omega⟩ k) * h (ix2 ⟨256 * q.val + r.val, by have := q.isLt; have := r.isLt; omega⟩ k)
      else if n.val < 72 then 1 else 0 := by
  have hq := q.isLt
  have hn := n.isLt
  have hr := r.isLt
  unfold oVt
  refine (four_apply _ _ _ _ _ _ _ _ q n r).trans ?_
  by_cases h1 : n.val < 64
  · rw [dif_pos h1, dif_pos h1, ← halves h w ⟨1024 + n.val, by omega⟩ ⟨256 * q.val + r.val, by omega⟩]
    by_cases hq0 : q.val = 0
    · rw [if_pos hq0, dif_pos (show 256 * q.val + r.val < 256 by omega)]
      refine (pay123_apply _ _ _).trans (congrArg _ (congrArg _ (Fin.ext ?_)))
      show r.val = 256 * q.val + r.val; omega
    · rw [if_neg hq0, dif_neg (show ¬ 256 * q.val + r.val < 256 by omega)]
      refine (pay129_apply _ _ _).trans (congrArg _ (congrArg _ (Fin.ext ?_)))
      show r.val = 256 * q.val + r.val - 256; omega
  · rw [dif_neg h1, dif_neg h1]
    have e72 : (if n.val - 64 < 8 then (1 : EReal) else 0) = if n.val < 72 then 1 else 0 := by
      by_cases h2 : n.val < 72
      · rw [if_pos h2, if_pos (by omega)]
      · rw [if_neg h2, if_neg (by omega)]
    by_cases hq0 : q.val = 0
    · rw [if_pos hq0]; exact (pay124_apply _ _).trans e72
    · rw [if_neg hq0]; exact (pay2_apply _ _).trans e72

end Cert.InprojIdeal.Block

end
-- ==== Proof.InprojPoint.lean ====
/-
  What a point of the projection kernel leaves over the extended reals: the windows' blocks read at an index, the rows
  the halo buffer carries from tile to tile, and each output block at an index as the token's function of
  `InprojRow.lean`.
-/
module

public import proofs.«01_k».proof.Proof.InprojHost
public import proofs.«01_k».proof.Proof.InprojStored

@[expose] public section

set_option maxRecDepth 16384

noncomputable section

open Idealize.ShloMosaic Idealize.ShloMosaic.TcCoe Idealize.SL.Sem
open scoped BigOperators

namespace Cert.InprojIdeal.Block

open Cert.InprojIdeal Cert.InprojIdeal.Gen

variable (m : (ℓ : Loc nD τ sig) → Buf (Elt Ideal) ℓ) (c : Dev nD)

/-! ## The windows' blocks, read at an index -/

theorem index_x : ∀ t : Fin grid0.N, win0_0.index t 0 = t.val / 4 ∧ win0_0.index t 1 = t.val % 4 ∧ win0_0.index t 2 = 0 ∧ (grid0.coords t 1).val = t.val % 4 := by
  decide +kernel

theorem index_whole : ∀ t : Fin grid0.N, (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 0) := by decide +kernel

/-- The sequence of a point. -/
def seq (t : Fin cfg0.N) : Fin 8 := ⟨t.val / 4, by have := t.isLt; have h : cfg0.N = 32 := N_0; omega⟩

/-- Row `r` of a point's block, as a token of its sequence. -/
def tok (t : Fin cfg0.N) (r : Fin 512) : Fin 2048 := ⟨512 * (t.val % 4) + r.val, by have := r.isLt; omega⟩

theorem at_win0 (t : Fin cfg0.N) (r : Fin 512) (j : Fin 1024) : iblk m c 0 t (ix3 0 r j) = (A m c).x (seq t) (tok t r) j := by
  obtain ⟨e0, e1, e2, _⟩ := index_x t
  unfold iblk
  rw [View.read_apply]
  show arg m c main_arg0 _ = arg m c main_arg0 (ix3 (seq t) (tok t r) j)
  congr 1
  funext a
  match a with
  | ⟨0, _⟩ => exact Fin.ext (by show win0_0.index t 0 * 1 + 1 * 0 = t.val / 4; omega)
  | ⟨1, _⟩ => exact Fin.ext (by show win0_0.index t 1 * 512 + 1 * r.val = 512 * (t.val % 4) + r.val; omega)
  | ⟨2, _⟩ => exact Fin.ext (by show win0_0.index t 2 * 1024 + 1 * j.val = j.val; omega)

/-- The index of a whole array's only block. -/
theorem whole_idx {a b s s' : Nat} (k : Fin a) (j : Fin b) (y : (⟨2, ![a, b]⟩ : Shape).Idx) (e0 : s = 0) (e1 : s' = 0)
    (h0 : (y 0).val = s * a + 1 * k.val) (h1 : (y 1).val = s' * b + 1 * j.val) : y = ix2 k j := by
  subst e0 e1
  funext d
  match d with
  | ⟨0, _⟩ => exact Fin.ext (h0.trans (by rw [Nat.zero_mul, Nat.zero_add, Nat.one_mul]; rfl))
  | ⟨1, _⟩ => exact Fin.ext (h1.trans (by rw [Nat.zero_mul, Nat.zero_add, Nat.one_mul]; rfl))

theorem at_win1 (t : Fin cfg0.N) (k : Fin 1) (j : Fin 1024) : iblk m c 1 t (ix2 k j) = V m c main_v22 (ix2 k j) := by
  obtain ⟨e0, e1⟩ := (index_whole t).1
  unfold iblk
  rw [View.read_apply]
  show V m c main_v22 _ = _
  congr 1
  exact whole_idx (s := win0_1.index t 0) (s' := win0_1.index t 1) k j _ e0 e1 rfl rfl

theorem at_win2 (t : Fin cfg0.N) (k : Fin 1024) (j : Fin 1024) : iblk m c 2 t (ix2 k j) = V m c main_v2 (ix2 k j) := by
  obtain ⟨e0, e1⟩ := (index_whole t).2.1
  unfold iblk
  rw [View.read_apply]
  show V m c main_v2 _ = _
  congr 1
  exact whole_idx (s := win0_2.index t 0) (s' := win0_2.index t 1) k j _ e0 e1 rfl rfl

theorem at_win3 (t : Fin cfg0.N) (k : Fin 1024) (j : Fin 2048) : iblk m c 3 t (ix2 k j) = V m c main_v4 (ix2 k j) := by
  obtain ⟨e0, e1⟩ := (index_whole t).2.2.1
  unfold iblk
  rw [View.read_apply]
  show V m c main_v4 _ = _
  congr 1
  exact whole_idx (s := win0_3.index t 0) (s' := win0_3.index t 1) k j _ e0 e1 rfl rfl

theorem at_win4 (t : Fin cfg0.N) (k : Fin 1) (j : Fin 2048) : iblk m c 4 t (ix2 k j) = V m c main_v24 (ix2 k j) := by
  obtain ⟨e0, e1⟩ := (index_whole t).2.2.2.1
  unfold iblk
  rw [View.read_apply]
  show V m c main_v24 _ = _
  congr 1
  exact whole_idx (s := win0_4.index t 0) (s' := win0_4.index t 1) k j _ e0 e1 rfl rfl

theorem at_win5 (t : Fin cfg0.N) (k : Fin 1024) (j : Fin 128) : iblk m c 5 t (ix2 k j) = V m c main_v8 (ix2 k j) := by
  obtain ⟨e0, e1⟩ := (index_whole t).2.2.2.2.1
  unfold iblk
  rw [View.read_apply]
  show V m c main_v8 _ = _
  congr 1
  exact whole_idx (s := win0_5.index t 0) (s' := win0_5.index t 1) k j _ e0 e1 rfl rfl

theorem at_win6 (t : Fin cfg0.N) (k : Fin 1152) (j : Fin 1024) : iblk m c 6 t (ix2 k j) = V m c main_v20 (ix2 k j) := by
  obtain ⟨e0, e1⟩ := (index_whole t).2.2.2.2.2.1
  unfold iblk
  rw [View.read_apply]
  show V m c main_v20 _ = _
  congr 1
  exact whole_idx (s := win0_6.index t 0) (s' := win0_6.index t 1) k j _ e0 e1 rfl rfl

theorem at_win7 (t : Fin cfg0.N) (k : Fin 31) (j : Fin 512) : iblk m c 7 t (ix2 k j) = V m c main_v25 (ix2 k j) := by
  obtain ⟨e0, e1⟩ := (index_whole t).2.2.2.2.2.2.1
  unfold iblk
  rw [View.read_apply]
  show V m c main_v25 _ = _
  congr 1
  exact whole_idx (s := win0_7.index t 0) (s' := win0_7.index t 1) k j _ e0 e1 rfl rfl

theorem at_win8 (t : Fin cfg0.N) (k : Fin 1) (j : Fin 512) : iblk m c 8 t (ix2 k j) = V m c main_v27 (ix2 k j) := by
  obtain ⟨e0, e1⟩ := (index_whole t).2.2.2.2.2.2.2.1
  unfold iblk
  rw [View.read_apply]
  show V m c main_v27 _ = _
  congr 1
  exact whole_idx (s := win0_8.index t 0) (s' := win0_8.index t 1) k j _ e0 e1 rfl rfl

theorem at_win9 (t : Fin cfg0.N) (k : Fin 1) (j : Fin 512) : iblk m c 9 t (ix2 k j) = V m c main_v29 (ix2 k j) := by
  obtain ⟨e0, e1⟩ := (index_whole t).2.2.2.2.2.2.2.2.1
  unfold iblk
  rw [View.read_apply]
  show V m c main_v29 _ = _
  congr 1
  exact whole_idx (s := win0_9.index t 0) (s' := win0_9.index t 1) k j _ e0 e1 rfl rfl

theorem at_win10 (t : Fin cfg0.N) (k : Fin 1) (j : Fin 512) : iblk m c 10 t (ix2 k j) = V m c main_v31 (ix2 k j) := by
  obtain ⟨e0, e1⟩ := (index_whole t).2.2.2.2.2.2.2.2.2
  unfold iblk
  rw [View.read_apply]
  show V m c main_v31 _ = _
  congr 1
  exact whole_idx (s := win0_10.index t 0) (s' := win0_10.index t 1) k j _ e0 e1 rfl rfl

/-! ## The blocks, as the call's arguments -/

theorem arg_g (t : Fin cfg0.N) (j : Fin 1024) : iblk m c 1 t (ix2 0 j) = (A m c).g j := (at_win1 m c t 0 j).trans (at_v22 m c j)
theorem arg_wc (t : Fin cfg0.N) (k : Fin 1024) (n : Fin 1024) : iblk m c 2 t (ix2 k n) = (A m c).w k ⟨n.val, by have := n.isLt; omega⟩ :=
  (at_win2 m c t k n).trans (at_v2 m c k n)
theorem arg_wg (t : Fin cfg0.N) (k : Fin 1024) (n : Fin 2048) : iblk m c 3 t (ix2 k n) = (A m c).w k ⟨2248 + n.val, by have := n.isLt; omega⟩ :=
  (at_win3 m c t k n).trans (at_v4 m c k n)
theorem arg_bg (t : Fin cfg0.N) (n : Fin 2048) : iblk m c 4 t (ix2 0 n) = (A m c).bg n := (at_win4 m c t 0 n).trans (at_v24 m c n)
theorem arg_k (t : Fin cfg0.N) (k : Fin 1024) (n : Fin 128) (h : n.val < 64) : iblk m c 5 t (ix2 k n) = (A m c).w k ⟨1536 + n.val, by omega⟩ :=
  (at_win5 m c t k n).trans (at_v8_k m c k n h)
theorem arg_ki (t : Fin cfg0.N) (k : Fin 1024) (n : Fin 64) :
    iblk m c 5 t (ix2 k ⟨64 + n.val, by have := n.isLt; omega⟩) = (A m c).w k ⟨2176 + n.val, by have := n.isLt; omega⟩ :=
  (at_win5 m c t k _).trans (at_v8_ki m c k n)
theorem arg_q (t : Fin cfg0.N) (n : Fin 512) (k : Fin 1024) : iblk m c 6 t (ix2 ⟨n.val, by have := n.isLt; omega⟩ k)
    = (A m c).w k ⟨1024 + n.val, by have := n.isLt; omega⟩ * Ideal.ofBits .f32 0x3E38AA3B#32 := (at_win6 m c t _ k).trans (at_v20_q m c n k)
theorem arg_qi (t : Fin cfg0.N) (n : Fin 512) (k : Fin 1024) : iblk m c 6 t (ix2 ⟨512 + n.val, by have := n.isLt; omega⟩ k)
    = (A m c).w k ⟨1664 + n.val, by have := n.isLt; omega⟩ * Ideal.ofBits .f32 0x3E000000#32 := (at_win6 m c t _ k).trans (at_v20_qi m c n k)
theorem arg_v (t : Fin cfg0.N) (n : Fin 64) (k : Fin 1024) : iblk m c 6 t (ix2 ⟨1024 + n.val, by have := n.isLt; omega⟩ k)
    = (A m c).w k ⟨1600 + n.val, by have := n.isLt; omega⟩ := (at_win6 m c t _ k).trans (at_v20_v m c n k)
theorem arg_wi (t : Fin cfg0.N) (n : Fin 8) (k : Fin 1024) : iblk m c 6 t (ix2 ⟨1088 + n.val, by have := n.isLt; omega⟩ k)
    = (A m c).w k ⟨2240 + n.val, by have := n.isLt; omega⟩ := (at_win6 m c t _ k).trans (at_v20_wi m c n k)

/-! ## The block's rows -/

/-- The normalised block. -/
abbrev hB (t : Fin cfg0.N) : FVec Ideal S512x1024 .bf16 := k0_pay4 (iblk m c 0 t) (iblk m c 1 t)

theorem h_row (t : Fin cfg0.N) (r : Fin 512) (k : Fin 1024) : hB m c t (ix2 r k) = InprojRow.h (A m c) (seq t) (tok t r) k := by
  unfold hB
  rw [pay4_apply]
  simp only [at_win0, arg_g]
  rfl

theorem glu_row (t : Fin cfg0.N) (r : Fin 512) (j : Fin 512) : gluB (hB m c t) (iblk m c 2 t) r j = InprojRow.glu (A m c) (seq t) (tok t r) j := by
  unfold gluB InprojRow.glu InprojRow.u
  simp only [h_row, arg_wc]

/-! ## What a point leaves -/

/-- The results that do not read the halo buffer. -/
theorem left (t : Fin cfg0.N) :
    (outsAt0 m c t.val t.isLt).2.1 = oGate (hB m c t) (iblk m c 3 t) (iblk m c 4 t)
    ∧ (outsAt0 m c t.val t.isLt).2.2.1 = oK (BitVec.ofNat 32 (grid0.coords t 1).val) (hB m c t) (iblk m c 5 t)
    ∧ (outsAt0 m c t.val t.isLt).2.2.2.1 = oKi (hB m c t) (iblk m c 5 t)
    ∧ (outsAt0 m c t.val t.isLt).2.2.2.2.1 = oQt (hB m c t) (iblk m c 6 t)
    ∧ (outsAt0 m c t.val t.isLt).2.2.2.2.2.1 = oQit (hB m c t) (iblk m c 6 t)
    ∧ (outsAt0 m c t.val t.isLt).2.2.2.2.2.2.1 = oVt (hB m c t) (iblk m c 6 t)
    ∧ (outsAt0 m c t.val t.isLt).2.2.2.2.2.2.2.1 = oWit (hB m c t) (iblk m c 6 t) := by
  by_cases h : t.val % 4 = 0
  · rw [outsAt0_A m c t h]
    dsimp only
    exact outs_A ..
  · rw [outsAt0_B m c t h]
    dsimp only
    exact outs_B ..

/-- The rows carried to the next tile: the tile's last ones. -/
theorem carried (t : Fin cfg0.N) (s : Fin 4) (r : Fin 544) (j : Fin 128) (hr : r.val < 32) :
    (outsAt0 m c t.val t.isLt).2.2.2.2.2.2.2.2 (ix3 s r j)
      = InprojRow.glu (A m c) (seq t) (tok t ⟨480 + r.val, by omega⟩) ⟨128 * s.val + j.val, by have := s.isLt; have := j.isLt; omega⟩ := by
  have key : ∀ base, winV base (iblk m c 0 t) (iblk m c 1 t) (iblk m c 2 t) (ix3 s ⟨512 + r.val, by omega⟩ j)
      = InprojRow.glu (A m c) (seq t) (tok t ⟨480 + r.val, by omega⟩) ⟨128 * s.val + j.val, by have := s.isLt; have := j.isLt; omega⟩ := fun base => by
    rw [winV_apply base _ _ _ s ⟨512 + r.val, by omega⟩ j (by show 32 ≤ 512 + r.val; omega)]
    refine (glu_row m c t _ _).trans (congrArg (fun q => InprojRow.glu (A m c) (seq t) (tok t q) _) (Fin.ext ?_))
    show 512 + r.val - 32 = 480 + r.val
    omega
  by_cases h : t.val % 4 = 0
  · rw [outsAt0_A m c t h]
    dsimp only
    rw [carry_A (hz := hr)]
    exact key _
  · rw [outsAt0_B m c t h]
    dsimp only
    rw [carry_B (hz := hr)]
    exact key _

/-- The rows the tile writes hold the padded gated linear unit, whatever the buffer held before. -/
theorem holds_own (t : Fin cfg0.N) (base : Vec Ideal S4x544x128 .f32) (s : Fin 4) (r : Fin 544) (j : Fin 128) (hr : 32 ≤ r.val) :
    winV base (iblk m c 0 t) (iblk m c 1 t) (iblk m c 2 t) (ix3 s r j)
      = InprojRow.hpad (A m c) (seq t) (512 * (t.val % 4) + r.val - 2) ⟨128 * s.val + j.val, by have := s.isLt; have := j.isLt; omega⟩ := by
  have hr' := r.isLt
  rw [winV_apply base _ _ _ s r j hr]
  unfold InprojRow.hpad
  rw [dif_pos (show 30 ≤ 512 * (t.val % 4) + r.val - 2 ∧ 512 * (t.val % 4) + r.val - 2 - 30 < 2048 by omega)]
  refine (glu_row m c t _ _).trans (congrArg (fun q => InprojRow.glu (A m c) (seq t) q _) (Fin.ext ?_))
  show 512 * (t.val % 4) + (r.val - 32) = 512 * (t.val % 4) + r.val - 2 - 30
  omega

/-- The first tile of a sequence: the carried rows are zero. -/
theorem holds_A (t : Fin cfg0.N) (h : t.val % 4 = 0) (base : Vec Ideal S4x544x128 .f32) :
    Holds (A m c) (seq t) (t.val % 4) (winV (haloZ base (k0_pay5 (F := Ideal))) (iblk m c 0 t) (iblk m c 1 t) (iblk m c 2 t)) 2 := by
  intro s r j hr
  by_cases h32 : 32 ≤ r.val
  · exact holds_own m c t _ s r j h32
  · rw [winV_base _ _ _ _ _ h32]
    rw [haloZ_apply _ _ (show r.val < 32 by omega)]
    unfold InprojRow.hpad
    rw [dif_neg (by omega)]

/-- A later tile: the carried rows are the tile before's last ones. -/
theorem holds_B (t : Fin cfg0.N) (h : ¬ t.val % 4 = 0) (h' : t.val - 1 < cfg0.N) :
    Holds (A m c) (seq t) (t.val % 4) (winV (outsAt0 m c (t.val - 1) h').2.2.2.2.2.2.2.2 (iblk m c 0 t) (iblk m c 1 t) (iblk m c 2 t)) 2 := by
  intro s r j hr
  by_cases h32 : 32 ≤ r.val
  · exact holds_own m c t _ s r j h32
  · rw [winV_base _ _ _ _ _ h32]
    refine (carried m c ⟨t.val - 1, h'⟩ s r j (by omega)).trans ?_
    unfold InprojRow.hpad
    rw [dif_pos (show 30 ≤ 512 * (t.val % 4) + r.val - 2 ∧ 512 * (t.val % 4) + r.val - 2 - 30 < 2048 by omega)]
    refine congrArg₂ (fun b q => InprojRow.glu (A m c) b q _) (Fin.ext ?_) (Fin.ext ?_)
    · show (t.val - 1) / 4 = t.val / 4
      omega
    · show 512 * ((t.val - 1) % 4) + (480 + r.val) = 512 * (t.val % 4) + r.val - 2 - 30
      omega

/-- The convolution branch's rows of a point, over halo buffers that hold the padded unit. -/
theorem hc_rows (t : Fin cfg0.N) (W1 W0 : Vec Ideal S4x544x128 .f32) (h1 : Holds (A m c) (seq t) (t.val % 4) W1 258) (h0 : Holds (A m c) (seq t) (t.val % 4) W0 2)
    (r : Fin 512) (j : Fin 512) :
    View.canon (Val := Elt Ideal) (s := S1x512x512) (e := .bf16)
      [⟨Rect.unit ![0, 256, 0] ![1, 256, 512] inb_S1x512x512_S1x256x512_0_256_0, hcV W1 (iblk m c 7 t) (iblk m c 8 t) (iblk m c 9 t) (iblk m c 10 t) 258 (by decide)⟩,
       ⟨Rect.unit ![0, 0, 0] ![1, 256, 512] inb_S1x512x512_S1x256x512_0_0_0, hcV W0 (iblk m c 7 t) (iblk m c 8 t) (iblk m c 9 t) (iblk m c 10 t) 2 (by decide)⟩] (ix3 0 r j)
      = InprojRow.hc (A m c) (seq t) (tok t r).val j := by
  have hcw : ∀ (k : Fin 31) (j : Fin 512), iblk m c 7 t (ix2 k j) = (A m c).cw k.val j := fun k j => (at_win7 m c t k j).trans (at_v25 m c k j)
  have hcb : ∀ j : Fin 512, iblk m c 8 t (ix2 0 j) = (A m c).cb j := fun j => (at_win8 m c t 0 j).trans (at_v27 m c j)
  have hlg : ∀ j : Fin 512, iblk m c 9 t (ix2 0 j) = (A m c).lg j := fun j => (at_win9 m c t 0 j).trans (at_v29 m c j)
  have hlb : ∀ j : Fin 512, iblk m c 10 t (ix2 0 j) = (A m c).lb j := fun j => (at_win10 m c t 0 j).trans (at_v31 m c j)
  refine (rows_apply _ _ _ _ r j).trans ?_
  have hr := r.isLt
  split
  · rename_i hlt
    refine (hcV_apply (A m c) (seq t) (t.val % 4) W0 _ _ _ _ hcw hcb hlg hlb 2 (by decide) h0 (by decide) ⟨r.val, hlt⟩ j).trans (congrArg (fun l => InprojRow.hc _ _ l j) ?_)
    show 512 * (t.val % 4) + 2 - 2 + r.val = 512 * (t.val % 4) + r.val
    omega
  · rename_i hlt
    refine (hcV_apply (A m c) (seq t) (t.val % 4) W1 _ _ _ _ hcw hcb hlg hlb 258 (by decide) h1 (by decide) ⟨r.val - 256, by omega⟩ j).trans (congrArg (fun l => InprojRow.hc _ _ l j) ?_)
    show 512 * (t.val % 4) + 258 - 2 + (r.val - 256) = 512 * (t.val % 4) + r.val
    omega

theorem left_hc (t : Fin cfg0.N) (r : Fin 512) (j : Fin 512) : (outsAt0 m c t.val t.isLt).1 (ix3 0 r j) = InprojRow.hc (A m c) (seq t) (tok t r).val j := by
  by_cases h : t.val % 4 = 0
  · rw [outsAt0_A m c t h]
    dsimp only
    rw [out11_A]
    exact hc_rows m c t _ _ (fun s r j hr => holds_own m c t _ s r j (by omega)) (holds_A m c t h _) r j
  · rw [outsAt0_B m c t h]
    dsimp only
    rw [out11_B]
    exact hc_rows m c t _ _ (fun s r j hr => holds_own m c t _ s r j (by omega)) (holds_B m c t h _) r j

/-! ## Each result at an index -/

theorem left_gate (t : Fin cfg0.N) (r : Fin 512) (n : Fin 2048) : (outsAt0 m c t.val t.isLt).2.1 (ix3 0 r n) = InprojRow.gate (A m c) (seq t) (tok t r) n := by
  rw [(left m c t).1, oGate_apply]
  unfold InprojRow.gate InprojRow.u
  simp only [h_row, arg_wg, arg_bg]

theorem left_k (t : Fin cfg0.N) (r : Fin 512) (n : Fin 128) : (outsAt0 m c t.val t.isLt).2.2.1 (ix3 0 r n) = InprojRow.ka (A m c) (seq t) (tok t r) n := by
  rw [(left m c t).2.1]
  refine (congrArg (fun q => oK (BitVec.ofNat 32 q) (hB m c t) (iblk m c 5 t) (ix3 0 r n)) (index_x t).2.2.2).trans ?_
  refine (oK_apply (hB m c t) (iblk m c 5 t) ⟨t.val % 4, Nat.mod_lt _ (by decide)⟩ r n).trans ?_
  unfold InprojRow.ka
  by_cases h : n.val < 64
  · rw [if_pos h, dif_pos h]
    unfold InprojRow.u
    exact Finset.sum_congr rfl fun k _ => congrArg₂ _ (h_row m c t r k) (arg_k m c t k n h)
  · rw [if_neg h, dif_neg h]
    rfl

theorem left_ki (t : Fin cfg0.N) (r : Fin 512) (n : Fin 64) : (outsAt0 m c t.val t.isLt).2.2.2.1 (ix3 0 r n) = InprojRow.ki (A m c) (seq t) (tok t r) n := by
  rw [(left m c t).2.2.1, oKi_apply]
  unfold InprojRow.ki InprojRow.u
  simp only [h_row, arg_ki]

theorem left_qt (t : Fin cfg0.N) (n : Fin 512) (r : Fin 512) : (outsAt0 m c t.val t.isLt).2.2.2.2.1 (ix3 0 n r) = InprojRow.qt (A m c) (seq t) n (tok t r) := by
  rw [(left m c t).2.2.2.1, oQt_apply]
  unfold InprojRow.qt InprojRow.u
  simp only [h_row, arg_q]
  exact scaled_sum _ _ _ scale_q.1 scale_q.2

theorem left_qit (t : Fin cfg0.N) (n : Fin 512) (r : Fin 512) : (outsAt0 m c t.val t.isLt).2.2.2.2.2.1 (ix3 0 n r) = InprojRow.qit (A m c) (seq t) n (tok t r) := by
  rw [(left m c t).2.2.2.2.1, oQit_apply]
  unfold InprojRow.qit InprojRow.u
  simp only [h_row, arg_qi]
  exact scaled_sum _ _ _ scale_qi.1 scale_qi.2

theorem left_vt (t : Fin cfg0.N) (q : Fin 2) (n : Fin 80) (r : Fin 256) : (outsAt0 m c t.val t.isLt).2.2.2.2.2.2.1 (ix4 0 q n r)
    = InprojRow.vt (A m c) (seq t) n (tok t ⟨256 * q.val + r.val, by have := q.isLt; have := r.isLt; omega⟩) := by
  rw [(left m c t).2.2.2.2.2.1, oVt_apply]
  unfold InprojRow.vt InprojRow.u
  by_cases h : n.val < 64
  · rw [dif_pos h, dif_pos h]
    refine Finset.sum_congr rfl fun k _ => ?_
    exact (congrArg₂ _ (arg_v m c t ⟨n.val, h⟩ k) (h_row m c t _ k)).trans (mul_comm _ _)
  · rw [dif_neg h, dif_neg h]

theorem left_wit (t : Fin cfg0.N) (n : Fin 8) (r : Fin 512) : (outsAt0 m c t.val t.isLt).2.2.2.2.2.2.2.1 (ix3 0 n r) = InprojRow.wit (A m c) (seq t) n (tok t r) := by
  rw [(left m c t).2.2.2.2.2.2, oWit_apply]
  unfold InprojRow.wit InprojRow.u
  simp only [h_row, arg_wi]
  exact congrArg (· * _) (Finset.sum_congr rfl fun k _ => mul_comm _ _)

end Cert.InprojIdeal.Block

end
-- ==== Proof.InprojRefConv.lean ====
/-
  The projection reference's convolution branch, element by element: the padded gated linear unit, the 31 taps, the layer
  norm and the activation of `InprojRow.lean`.
-/
module

public import proofs.«01_k».proof.Proof.InprojRefRow
public import Idealize.ShloMosaic.Lib.KernelVsHost

@[expose] public section

set_option maxRecDepth 16384

noncomputable section

open Idealize.ShloMosaic Idealize.ShloMosaic.ValueIdx
open scoped BigOperators

namespace Cert.InprojRefIdeal.Row

open Cert.InprojRefIdeal Cert.InprojRefIdeal.Gen Cert.InprojRefIdeal.Read Cert.InprojRow

variable (x0 : (⟨S8x2048x1024, .f32⟩ : BufTy).Contents (Elt Ideal)) (x1 : (⟨S1x1024, .f32⟩ : BufTy).Contents (Elt Ideal))
  (x2 : (⟨S1x1024x4296, .f32⟩ : BufTy).Contents (Elt Ideal)) (x3 : (⟨S1x2048, .f32⟩ : BufTy).Contents (Elt Ideal))
  (x4 : (⟨S1x31x512, .f32⟩ : BufTy).Contents (Elt Ideal)) (x5 x6 x7 : (⟨S1x512, .f32⟩ : BufTy).Contents (Elt Ideal))

local notation "ARGS" => args x0 x1 x2 x3 x4 x5 x6 x7

/-- The padded gated linear unit. -/
theorem hpad_eq (b : Fin 8) (t : Fin 2078) (c : Fin 512) : val_main_v25 (F := Ideal) x0 x1 x2 (ix3 b t c) = hpad ARGS b t.val c := by
  have ht := t.isLt
  unfold val_main_v25 hpad
  by_cases h : 30 ≤ t.val
  · rw [dif_pos ⟨h, by omega⟩]
    refine (pad_apply_of_inside _ _ _ _ _ _ _ _ (ix3 b ⟨t.val - 30, by omega⟩ c) fun a => ?_).trans (glu_eq x0 x1 x2 x3 x4 x5 x6 x7 _ _ _)
    match a with
    | ⟨0, _⟩ => show b.val = 0 + b.val * (0 + 1); omega
    | ⟨1, _⟩ => show t.val = 30 + (t.val - 30) * (0 + 1); omega
    | ⟨2, _⟩ => show c.val = 0 + c.val * (0 + 1); omega
  · rw [dif_neg fun h' => h h'.1]
    refine (pad_apply_of_not_inside _ _ _ _ _ _ _ _ 1 fun h' => h h'.1).trans ?_
    rw [val_main_call0_v0_apply, val_main_c_apply]
    exact InprojRow.sitofp_zero

/-- One tap's weight over the array. -/
theorem wgt (k : Nat) (hk : k < 31) (h1 h2 h3 h4) (b : Fin 8) (l : Fin 2048) (c : Fin 512) :
    broadcastInDim S8x2048x512 ![0, 1, 2] h1 (broadcastInDim S1x1x512 ![2] h2 (shapeCast S512 (extractStridedSlice S1x1x512 ![0, k, 0] x4 h3) h4)) (ix3 b l c)
      = (args x0 x1 x2 x3 x4 x5 x6 x7).cw k c := by
  show _ = (if h : k < 31 then x4 (ix3 0 ⟨k, h⟩ c) else 0)
  rw [dif_pos hk]
  refine (broadcastInDim_apply _ h1 _ _ (ix3 0 0 c) fun a => by match a with | ⟨0, _⟩ => rfl | ⟨1, _⟩ => rfl | ⟨2, _⟩ => rfl).trans ?_
  refine (broadcastInDim_apply _ h2 _ _ (ix1 c) fun a => by match a with | ⟨0, _⟩ => rfl).trans ?_
  refine (shapeCast_apply _ h4 _ (ix3 0 0 c) (by rw [Shape.rowMajor_val_three, Shape.rowMajor_val_one]; show (0 * 1 + 0) * 512 + c.val = c.val; omega)).trans ?_
  exact extractStridedSlice_apply _ _ h3 _ (ix3 0 ⟨k, hk⟩ c) fun a => by
    match a with | ⟨0, _⟩ => rfl | ⟨1, _⟩ => rfl | ⟨2, _⟩ => exact (Nat.zero_add _).symm

/-- One tap's rows of the padded array. -/
theorem rws (k : Nat) (hk : k < 31) (h1) (b : Fin 8) (l : Fin 2048) (c : Fin 512) :
    extractStridedSlice S8x2048x512 ![0, k, 0] (val_main_v25 (F := Ideal) x0 x1 x2) h1 (ix3 b l c) = hpad ARGS b (l.val + k) c := by
  have hl := l.isLt
  refine (extractStridedSlice_apply _ _ h1 _ (ix3 b ⟨l.val + k, by omega⟩ c) fun a => ?_).trans (hpad_eq x0 x1 x2 x3 x4 x5 x6 x7 _ _ _)
  match a with | ⟨0, _⟩ => exact (Nat.zero_add _).symm | ⟨1, _⟩ => exact Nat.add_comm _ _ | ⟨2, _⟩ => exact (Nat.zero_add _).symm

/-- One tap added. -/
theorem tap_eq (k : Nat) (hk : k < 31) (acc : FVec Ideal S8x2048x512 .f32) (h1 h2 h3 h4 h5) (b : Fin 8) (l : Fin 2048) (c : Fin 512)
    (ha : acc (ix3 b l c) = taps ARGS b l.val c k) :
    addf acc (mulf (broadcastInDim S8x2048x512 ![0, 1, 2] h1 (broadcastInDim S1x1x512 ![2] h2 (shapeCast S512 (extractStridedSlice S1x1x512 ![0, k, 0] x4 h3) h4)))
      (extractStridedSlice S8x2048x512 ![0, k, 0] (val_main_v25 (F := Ideal) x0 x1 x2) h5)) (ix3 b l c) = taps ARGS b l.val c (k + 1) := by
  show acc (ix3 b l c) + _ * _ = _
  rw [wgt x0 x1 x2 x3 x4 x5 x6 x7 k hk, rws x0 x1 x2 x3 x4 x5 x6 x7 k hk, ha]
  rfl

theorem tap0_eq (b : Fin 8) (l : Fin 2048) (c : Fin 512) : val_main_v33 (F := Ideal) (ix3 b l c) = taps ARGS b l.val c 0 := by
  rw [val_main_v33_apply, val_main_cst_4_apply]
  exact Ideal.ofBits_zero_f32

/-- The taps. -/
theorem taps_eq (b : Fin 8) (l : Fin 2048) (c : Fin 512) : val_main_v244 (F := Ideal) x0 x1 x2 x4 (ix3 b l c) = taps ARGS b l.val c 31 := by
  repeat refine tap_eq x0 x1 x2 x3 x4 x5 x6 x7 _ (by decide) _ _ _ _ _ _ b l c ?_
  exact tap0_eq x0 x1 x2 x3 x4 x5 x6 x7 b l c

/-- The convolution. -/
theorem conv_eq (b : Fin 8) (l : Fin 2048) (c : Fin 512) : val_main_v247 (F := Ideal) x0 x1 x2 x4 x5 (ix3 b l c) = conv ARGS b l.val c := by
  have hc := c.isLt
  rw [val_main_v247_apply, val_main_v246_apply, val_main_v245_apply, val_main_v26_apply, taps_eq x0 x1 x2 x3 x4 x5 x6 x7,
    ix2_of (idx_main_v26 _) 0 c rfl (by show c.val % 512 = c.val; omega)]
  rfl

/-- The rows less their mean. -/
theorem dev_eq (b : Fin 8) (l : Fin 2048) (c : Fin 512) : val_main_v255 (F := Ideal) x0 x1 x2 x4 x5 (ix3 b l c)
    = conv ARGS b l.val c - mean (conv ARGS b l.val) := by
  rw [val_main_v255_apply, val_main_v254_apply, val_main_v253_apply, val_main_v252_apply, val_main_v251_apply, val_main_v250_apply,
    val_main_cst_5_apply, val_main_cst_6_apply, conv_eq x0 x1 x2 x3 x4 x5 x6 x7,
    show (FloatOps.ofBits .f32 0x00000000#32 : Ideal .f32) = (0 : EReal) from Ideal.ofBits_zero_f32, zero_add]
  unfold mean
  refine congrArg (fun s => conv ARGS b l.val c - Ideal.div s _) (Finset.sum_congr rfl fun k _ => ?_)
  rw [ix3_of (idx_main_v250 _ k) b l k rfl rfl rfl, conv_eq x0 x1 x2 x3 x4 x5 x6 x7]

/-- The layer norm. -/
theorem ln_eq (b : Fin 8) (l : Fin 2048) (c : Fin 512) : val_main_v271 (F := Ideal) x0 x1 x2 x4 x5 x6 x7 (ix3 b l c)
    = ln (conv ARGS b l.val) (ARGS).lg (ARGS).lb c := by
  have hc := c.isLt
  rw [val_main_v271_apply, val_main_v268_apply, val_main_v265_apply, val_main_v264_apply, val_main_v263_apply, val_main_v262_apply, val_main_v261_apply,
    val_main_v260_apply, val_main_v259_apply, val_main_v258_apply, val_main_v257_apply, val_main_cst_7_apply, val_main_cst_8_apply, val_main_cst_9_apply,
    val_main_v267_apply, val_main_v266_apply, val_main_v248_apply, val_main_v270_apply, val_main_v269_apply, val_main_v249_apply,
    dev_eq x0 x1 x2 x3 x4 x5 x6 x7,
    show (FloatOps.ofBits .f32 0x00000000#32 : Ideal .f32) = (0 : EReal) from Ideal.ofBits_zero_f32, zero_add]
  have hs : (∑ k : Fin 512, val_main_v256 (F := Ideal) x0 x1 x2 x4 x5 (idx_main_v257 (idx_main_v258 (idx_main_v264 (ix3 b l c))) k))
      = ∑ k : Fin 512, (conv ARGS b l.val k - mean (conv ARGS b l.val)) * (conv ARGS b l.val k - mean (conv ARGS b l.val)) :=
    Finset.sum_congr rfl fun k _ => by
      rw [val_main_v256_apply, ix3_of (idx_main_v257 _ k) b l k rfl rfl rfl, dev_eq x0 x1 x2 x3 x4 x5 x6 x7]
      rfl
  rw [hs, ix2_of (idx_main_v248 _) 0 c rfl (by show c.val % 512 = c.val; omega), ix2_of (idx_main_v249 _) 0 c rfl (by show c.val % 512 = c.val; omega)]
  rfl

/-- The convolution branch. -/
theorem hc_eq (b : Fin 8) (l : Fin 2048) (c : Fin 512) : val_main_v311 (F := Ideal) x0 x1 x2 x4 x5 x6 x7 (ix3 b l c) = hc ARGS b l.val c := by
  rw [val_main_v311_apply, val_main_v272_apply, val_main_call1_v5_apply, val_main_call1_v4_apply, val_main_call1_v3_apply, val_main_call1_v2_apply,
    val_main_call1_v1_apply, val_main_call1_v0_apply, val_main_call1_cst_apply, val_main_call1_cst_0_apply, ln_eq x0 x1 x2 x3 x4 x5 x6 x7]
  rfl

end Cert.InprojRefIdeal.Row

end
-- ==== Proof.InprojRefPos.lean ====
/-
  The projection reference's keys with the position columns beside them, element by element: the quotient and the
  remainder of a token's position by 64 as the host computes them on 32-bit words.
-/
module

public import proofs.«01_k».proof.Proof.InprojRefRow
public import Idealize.ShloMosaic.Lib.Pipeline.Value

@[expose] public section

set_option maxRecDepth 16384

noncomputable section

open Idealize.ShloMosaic Idealize.ShloMosaic.ValueIdx

namespace Cert.InprojRefIdeal.Row

open Cert.InprojRefIdeal Cert.InprojRefIdeal.Gen Cert.InprojRefIdeal.Read Cert.InprojRow

/-- The sign of a word. -/
def sgn (x : BitVec 32) : BitVec 32 := if x = 0 then 0 else if x.msb then -1 else 1

/-- The host's floor division by 64. -/
def quo (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)

/-- The host's divisor: 64, where it is not zero. -/
def dvs : BitVec 32 := Scalar.select (IntOp.cmpi .eq 64#32 0#32) 1#32 64#32

/-- The host's remainder by 64. -/
def rmd (x : BitVec 32) : BitVec 32 :=
  Scalar.select (IntOp.andi (IntOp.cmpi .ne (IntOp.cmpi .slt (IntOp.remsi .host x dvs) 0#32) (IntOp.cmpi .slt dvs 0#32))
    (IntOp.cmpi .ne (IntOp.remsi .host x dvs) 0#32)) (IntOp.addi (IntOp.remsi .host x dvs) dvs) (IntOp.remsi .host x dvs)

theorem quo_eq : ∀ l : Fin 2048, quo (BitVec.ofNat 32 l.val) = BitVec.ofNat 32 (l.val / 64) := by decide +kernel
theorem rmd_eq : ∀ l : Fin 2048, rmd (BitVec.ofNat 32 l.val) = BitVec.ofNat 32 (l.val % 64) := by decide +kernel

theorem v300_eq (b : Fin 8) (l : Fin 2048) (n : Fin 3) : val_main_v300 (F := Ideal) (ix3 b l n) = BitVec.ofNat 32 (l.val / 64) := by
  rw [val_main_v300_apply, val_main_call2_v11_apply, val_main_call2_v13_apply, val_main_call2_v6_apply, val_main_call2_v10_apply,
    val_main_call2_v8_apply, val_main_call2_v2_apply, val_main_call2_v1_apply, val_main_call2_v5_apply, val_main_call2_v7_apply,
    val_main_call2_v9_apply, val_main_call2_v12_apply, val_main_v299_apply]
  exact quo_eq l

theorem v302_eq (b : Fin 8) (l : Fin 2048) (n : Fin 3) : val_main_v302 (F := Ideal) (ix3 b l n) = BitVec.ofNat 32 (l.val % 64) := by
  rw [val_main_v302_apply, val_main_call3_v12_apply, val_main_call3_v14_apply, val_main_call3_v11_apply, val_main_call3_v6_apply,
    val_main_call3_v8_apply, val_main_call3_v10_apply, val_main_call3_v13_apply, val_main_call3_v5_apply, val_main_call3_v7_apply,
    val_main_call3_v4_apply, val_main_call3_v3_apply, val_main_v299_apply]
  exact rmd_eq l

variable (x0 : (⟨S8x2048x1024, .f32⟩ : BufTy).Contents (Elt Ideal)) (x1 : (⟨S1x1024, .f32⟩ : BufTy).Contents (Elt Ideal))
  (x2 : (⟨S1x1024x4296, .f32⟩ : BufTy).Contents (Elt Ideal)) (x3 : (⟨S1x2048, .f32⟩ : BufTy).Contents (Elt Ideal))
  (x4 : (⟨S1x31x512, .f32⟩ : BufTy).Contents (Elt Ideal)) (x5 x6 x7 : (⟨S1x512, .f32⟩ : BufTy).Contents (Elt Ideal))

local notation "ARGS" => args x0 x1 x2 x3 x4 x5 x6 x7

/-- The keys with the position columns. -/
theorem ka_eq (b : Fin 8) (l : Fin 2048) (n : Fin 128) : val_main_v312 (F := Ideal) x0 x1 x2 (ix3 b l n) = ka ARGS b l n := by
  have hn := n.isLt
  rw [val_main_v312_apply]
  show val_main_v305 (F := Ideal) x0 x1 x2 _ = _
  unfold val_main_v305 ka
  by_cases h1 : n.val < 64
  · rw [dif_pos h1]
    refine (concatenate_apply_piece (t := S8x2048x128) 2 _ _ _ 0 (by simp) S8x2048x64 _ rfl rfl 0 rfl (ix3 b l ⟨n.val, h1⟩)
      (fun a ha => by match a with | ⟨0, _⟩ => rfl | ⟨1, _⟩ => rfl | ⟨2, _⟩ => exact absurd rfl ha) (Nat.zero_add _)).trans ?_
    rw [val_main_v274_apply, ix3_of (idx_main_v274 _) b l ⟨1536 + n.val, by omega⟩ rfl rfl rfl, u_eq x0 x1 x2 x3 x4 x5 x6 x7]
  · rw [dif_neg h1]
    by_cases h2 : n.val < 67
    · rw [if_pos h2]
      refine (concatenate_apply_piece (t := S8x2048x128) 2 _ _ _ 1 (by simp) S8x2048x3 _ rfl rfl 64 rfl (ix3 b l ⟨n.val - 64, by omega⟩)
        (fun a ha => by match a with | ⟨0, _⟩ => rfl | ⟨1, _⟩ => rfl | ⟨2, _⟩ => exact absurd rfl ha) (by show 64 + (n.val - 64) = n.val; omega)).trans ?_
      rw [val_main_v301_apply, v300_eq]
    · rw [if_neg h2]
      by_cases h3 : n.val < 70
      · rw [if_pos h3]
        refine (concatenate_apply_piece (t := S8x2048x128) 2 _ _ _ 2 (by simp) S8x2048x3 _ rfl rfl 67 rfl (ix3 b l ⟨n.val - 67, by omega⟩)
          (fun a ha => by match a with | ⟨0, _⟩ => rfl | ⟨1, _⟩ => rfl | ⟨2, _⟩ => exact absurd rfl ha) (by show 67 + (n.val - 67) = n.val; omega)).trans ?_
        rw [val_main_v303_apply, v302_eq]
      · rw [if_neg h3]
        refine (concatenate_apply_piece (t := S8x2048x128) 2 _ _ _ 3 (by simp) S8x2048x58 _ rfl rfl 70 rfl (ix3 b l ⟨n.val - 70, by omega⟩)
          (fun a ha => by match a with | ⟨0, _⟩ => rfl | ⟨1, _⟩ => rfl | ⟨2, _⟩ => exact absurd rfl ha) (by show 70 + (n.val - 70) = n.val; omega)).trans ?_
        rw [val_main_v304_apply, val_main_cst_17_apply]
        exact Ideal.ofBits_zero_f32

end Cert.InprojRefIdeal.Row

end
-- ==== Proof.InprojValue.lean ====
/-
  The projection kernel's results over the extended reals: each array holds the token's function of `InprojRow.lean`, and
  the reference's arrays hold the same, so the two compute the same eight arrays.
-/
module

public import proofs.«01_k».proof.Proof.InprojPoint
public import proofs.«01_k».proof.Proof.InprojRefConv
public import proofs.«01_k».proof.Proof.InprojRefPos
public import proofs.«01_k».proof.Proof.Gen.InprojIdeal.Value
public import proofs.«01_k».proof.Proof.Gen.InprojRefIdeal.Read
public import proofs.«01_k».proof.Proof.Gen.InprojRefIdeal.Run
public import proofs.«01_k».proof.Defs

@[expose] public section

set_option maxRecDepth 16384

noncomputable section

open Idealize.ShloMosaic Idealize.ShloMosaic.TcCoe Idealize.SL.Sem

namespace Cert.InprojIdeal.Block

open Cert.InprojIdeal Cert.InprojIdeal.Gen

variable (m : (ℓ : Loc nD τ sig) → Buf (Elt Ideal) ℓ) (c : Dev nD)

/-- The point that holds token `l` of sequence `b`, and the token's row in it. -/
theorem point_eq (b : Fin 8) (l : Fin 2048) (t : Fin cfg0.N) (ht : t.val = 4 * b.val + l.val / 512) :
    seq t = b ∧ tok t ⟨l.val % 512, Nat.mod_lt _ (by decide)⟩ = l := by
  have hb := b.isLt
  have hl := l.isLt
  constructor
  · exact Fin.ext (by show t.val / 4 = b.val; omega)
  · exact Fin.ext (by show 512 * (t.val % 4) + l.val % 512 = l.val; omega)

/-! ## The kernel's arrays -/

theorem out_hc (b : Fin 8) (l : Fin 2048) (j : Fin 512) : Value.G11 m c (ix3 b l j) = InprojRow.hc (A m c) b l.val j := by
  have hN : cfg0.N = 32 := N_0
  have hb := b.isLt
  have hl := l.isLt
  have hj := j.isLt
  have ht : Value.pt11Of (ix3 b l j) = 4 * b.val + l.val / 512 := by
    show 4 * (b.val / 1 - 0) + 1 * (l.val / 512 - 0) + 1 * (j.val / 512 - 0) = 4 * b.val + l.val / 512
    omega
  have hp : Value.pt11Of (ix3 b l j) < cfg0.N := by omega
  have ei : Value.loc11Of (ix3 b l j) = ix3 0 ⟨l.val % 512, Nat.mod_lt _ (by decide)⟩ j := funext fun a => by
    match a with
    | ⟨0, _⟩ => exact Fin.ext (Nat.mod_one _)
    | ⟨1, _⟩ => rfl
    | ⟨2, _⟩ => exact Fin.ext (Nat.mod_eq_of_lt hj)
  obtain ⟨e0, e1⟩ := point_eq b l ⟨_, hp⟩ ht
  unfold Value.G11
  rw [dif_pos hp, ← Value.outsAt0_sweep m c _ hp, ei]
  refine (left_hc m c ⟨_, hp⟩ _ j).trans ?_
  rw [e0, e1]

theorem out_gate (b : Fin 8) (l : Fin 2048) (j : Fin 2048) : Value.G12 m c (ix3 b l j) = InprojRow.gate (A m c) b l j := by
  have hN : cfg0.N = 32 := N_0
  have hb := b.isLt
  have hl := l.isLt
  have hj := j.isLt
  have ht : Value.pt12Of (ix3 b l j) = 4 * b.val + l.val / 512 := by
    show 4 * (b.val / 1 - 0) + 1 * (l.val / 512 - 0) + 1 * (j.val / 2048 - 0) = 4 * b.val + l.val / 512
    omega
  have hp : Value.pt12Of (ix3 b l j) < cfg0.N := by omega
  have ei : Value.loc12Of (ix3 b l j) = ix3 0 ⟨l.val % 512, Nat.mod_lt _ (by decide)⟩ j := funext fun a => by
    match a with
    | ⟨0, _⟩ => exact Fin.ext (Nat.mod_one _)
    | ⟨1, _⟩ => rfl
    | ⟨2, _⟩ => exact Fin.ext (Nat.mod_eq_of_lt hj)
  obtain ⟨e0, e1⟩ := point_eq b l ⟨_, hp⟩ ht
  unfold Value.G12
  rw [dif_pos hp, ← Value.outsAt0_sweep m c _ hp, ei]
  refine (left_gate m c ⟨_, hp⟩ _ j).trans ?_
  rw [e0, e1]

theorem out_k (b : Fin 8) (l : Fin 2048) (j : Fin 128) : Value.G13 m c (ix3 b l j) = InprojRow.ka (A m c) b l j := by
  have hN : cfg0.N = 32 := N_0
  have hb := b.isLt
  have hl := l.isLt
  have hj := j.isLt
  have ht : Value.pt13Of (ix3 b l j) = 4 * b.val + l.val / 512 := by
    show 4 * (b.val / 1 - 0) + 1 * (l.val / 512 - 0) + 1 * (j.val / 128 - 0) = 4 * b.val + l.val / 512
    omega
  have hp : Value.pt13Of (ix3 b l j) < cfg0.N := by omega
  have ei : Value.loc13Of (ix3 b l j) = ix3 0 ⟨l.val % 512, Nat.mod_lt _ (by decide)⟩ j := funext fun a => by
    match a with
    | ⟨0, _⟩ => exact Fin.ext (Nat.mod_one _)
    | ⟨1, _⟩ => rfl
    | ⟨2, _⟩ => exact Fin.ext (Nat.mod_eq_of_lt hj)
  obtain ⟨e0, e1⟩ := point_eq b l ⟨_, hp⟩ ht
  unfold Value.G13
  rw [dif_pos hp, ← Value.outsAt0_sweep m c _ hp, ei]
  refine (left_k m c ⟨_, hp⟩ _ j).trans ?_
  rw [e0, e1]

theorem out_ki (b : Fin 8) (l : Fin 2048) (j : Fin 64) : Value.G14 m c (ix3 b l j) = InprojRow.ki (A m c) b l j := by
  have hN : cfg0.N = 32 := N_0
  have hb := b.isLt
  have hl := l.isLt
  have hj := j.isLt
  have ht : Value.pt14Of (ix3 b l j) = 4 * b.val + l.val / 512 := by
    show 4 * (b.val / 1 - 0) + 1 * (l.val / 512 - 0) + 1 * (j.val / 64 - 0) = 4 * b.val + l.val / 512
    omega
  have hp : Value.pt14Of (ix3 b l j) < cfg0.N := by omega
  have ei : Value.loc14Of (ix3 b l j) = ix3 0 ⟨l.val % 512, Nat.mod_lt _ (by decide)⟩ j := funext fun a => by
    match a with
    | ⟨0, _⟩ => exact Fin.ext (Nat.mod_one _)
    | ⟨1, _⟩ => rfl
    | ⟨2, _⟩ => exact Fin.ext (Nat.mod_eq_of_lt hj)
  obtain ⟨e0, e1⟩ := point_eq b l ⟨_, hp⟩ ht
  unfold Value.G14
  rw [dif_pos hp, ← Value.outsAt0_sweep m c _ hp, ei]
  refine (left_ki m c ⟨_, hp⟩ _ j).trans ?_
  rw [e0, e1]

theorem out_qt (b : Fin 8) (n : Fin 512) (l : Fin 2048) : Value.G15 m c (ix3 b n l) = InprojRow.qt (A m c) b n l := by
  have hN : cfg0.N = 32 := N_0
  have hb := b.isLt
  have hl := l.isLt
  have hn := n.isLt
  have ht : Value.pt15Of (ix3 b n l) = 4 * b.val + l.val / 512 := by
    show 4 * (b.val / 1 - 0) + 4 * (n.val / 512 - 0) + 1 * (l.val / 512 - 0) = 4 * b.val + l.val / 512
    omega
  have hp : Value.pt15Of (ix3 b n l) < cfg0.N := by omega
  have ei : Value.loc15Of (ix3 b n l) = ix3 0 n ⟨l.val % 512, Nat.mod_lt _ (by decide)⟩ := funext fun a => by
    match a with
    | ⟨0, _⟩ => exact Fin.ext (Nat.mod_one _)
    | ⟨1, _⟩ => exact Fin.ext (Nat.mod_eq_of_lt hn)
    | ⟨2, _⟩ => rfl
  obtain ⟨e0, e1⟩ := point_eq b l ⟨_, hp⟩ ht
  unfold Value.G15
  rw [dif_pos hp, ← Value.outsAt0_sweep m c _ hp, ei]
  refine (left_qt m c ⟨_, hp⟩ n _).trans ?_
  rw [e0, e1]

theorem out_qit (b : Fin 8) (n : Fin 512) (l : Fin 2048) : Value.G16 m c (ix3 b n l) = InprojRow.qit (A m c) b n l := by
  have hN : cfg0.N = 32 := N_0
  have hb := b.isLt
  have hl := l.isLt
  have hn := n.isLt
  have ht : Value.pt16Of (ix3 b n l) = 4 * b.val + l.val / 512 := by
    show 4 * (b.val / 1 - 0) + 4 * (n.val / 512 - 0) + 1 * (l.val / 512 - 0) = 4 * b.val + l.val / 512
    omega
  have hp : Value.pt16Of (ix3 b n l) < cfg0.N := by omega
  have ei : Value.loc16Of (ix3 b n l) = ix3 0 n ⟨l.val % 512, Nat.mod_lt _ (by decide)⟩ := funext fun a => by
    match a with
    | ⟨0, _⟩ => exact Fin.ext (Nat.mod_one _)
    | ⟨1, _⟩ => exact Fin.ext (Nat.mod_eq_of_lt hn)
    | ⟨2, _⟩ => rfl
  obtain ⟨e0, e1⟩ := point_eq b l ⟨_, hp⟩ ht
  unfold Value.G16
  rw [dif_pos hp, ← Value.outsAt0_sweep m c _ hp, ei]
  refine (left_qit m c ⟨_, hp⟩ n _).trans ?_
  rw [e0, e1]

theorem out_wit (b : Fin 8) (n : Fin 8) (l : Fin 2048) : Value.G18 m c (ix3 b n l) = InprojRow.wit (A m c) b n l := by
  have hN : cfg0.N = 32 := N_0
  have hb := b.isLt
  have hl := l.isLt
  have hn := n.isLt
  have ht : Value.pt18Of (ix3 b n l) = 4 * b.val + l.val / 512 := by
    show 4 * (b.val / 1 - 0) + 4 * (n.val / 8 - 0) + 1 * (l.val / 512 - 0) = 4 * b.val + l.val / 512
    omega
  have hp : Value.pt18Of (ix3 b n l) < cfg0.N := by omega
  have ei : Value.loc18Of (ix3 b n l) = ix3 0 n ⟨l.val % 512, Nat.mod_lt _ (by decide)⟩ := funext fun a => by
    match a with
    | ⟨0, _⟩ => exact Fin.ext (Nat.mod_one _)
    | ⟨1, _⟩ => exact Fin.ext (Nat.mod_eq_of_lt hn)
    | ⟨2, _⟩ => rfl
  obtain ⟨e0, e1⟩ := point_eq b l ⟨_, hp⟩ ht
  unfold Value.G18
  rw [dif_pos hp, ← Value.outsAt0_sweep m c _ hp, ei]
  refine (left_wit m c ⟨_, hp⟩ n _).trans ?_
  rw [e0, e1]

theorem out_vt (b : Fin 8) (q : Fin 8) (n : Fin 80) (r : Fin 256) : Value.G17 m c (ix4 b q n r)
    = InprojRow.vt (A m c) b n ⟨256 * q.val + r.val, by have := q.isLt; have := r.isLt; omega⟩ := by
  have hN : cfg0.N = 32 := N_0
  have hb := b.isLt
  have hq := q.isLt
  have hn := n.isLt
  have hr := r.isLt
  have ht : Value.pt17Of (ix4 b q n r) = 4 * b.val + q.val / 2 := by
    show 4 * (b.val / 1 - 0) + 1 * (q.val / 2 - 0) + 1 * (n.val / 80 - 0) + 1 * (r.val / 256 - 0) = 4 * b.val + q.val / 2
    omega
  have hp : Value.pt17Of (ix4 b q n r) < cfg0.N := by omega
  have ei : Value.loc17Of (ix4 b q n r) = ix4 0 ⟨q.val % 2, Nat.mod_lt _ (by decide)⟩ n r := funext fun a => by
    match a with
    | ⟨0, _⟩ => exact Fin.ext (Nat.mod_one _)
    | ⟨1, _⟩ => rfl
    | ⟨2, _⟩ => exact Fin.ext (Nat.mod_eq_of_lt hn)
    | ⟨3, _⟩ => exact Fin.ext (Nat.mod_eq_of_lt hr)
  unfold Value.G17
  rw [dif_pos hp, ← Value.outsAt0_sweep m c _ hp, ei]
  refine (left_vt m c ⟨_, hp⟩ _ n r).trans (congrArg₂ (fun b l => InprojRow.vt (A m c) b n l) (Fin.ext ?_) (Fin.ext ?_))
  · show Value.pt17Of (ix4 b q n r) / 4 = b.val
    omega
  · show 512 * (Value.pt17Of (ix4 b q n r) % 4) + (256 * (q.val % 2) + r.val) = 256 * q.val + r.val
    omega

/-! ## The reference's arrays -/

section Ref

open Cert.InprojRefIdeal.Read

variable {x0 : (⟨S8x2048x1024, .f32⟩ : BufTy).Contents (Elt Ideal)} {x1 : (⟨S1x1024, .f32⟩ : BufTy).Contents (Elt Ideal)}
  {x2 : (⟨S1x1024x4296, .f32⟩ : BufTy).Contents (Elt Ideal)} {x3 : (⟨S1x2048, .f32⟩ : BufTy).Contents (Elt Ideal)}
  {x4 : (⟨S1x31x512, .f32⟩ : BufTy).Contents (Elt Ideal)} {x5 x6 x7 : (⟨S1x512, .f32⟩ : BufTy).Contents (Elt Ideal)}

theorem ref_hc (h0 : x0 = arg m c main_arg0) (h1 : x1 = arg m c main_arg1) (h2 : x2 = arg m c main_arg2) (h4 : x4 = arg m c main_arg4)
    (h5 : x5 = arg m c main_arg5) (h6 : x6 = arg m c main_arg6) (h7 : x7 = arg m c main_arg7) :
    val_main_v311 (F := Ideal) x0 x1 x2 x4 x5 x6 x7 = Value.G11 m c := by
  rw [h0, h1, h2, h4, h5, h6, h7]
  funext i
  obtain ⟨b, l, j, rfl⟩ : ∃ (b : Fin 8) (l : Fin 2048) (j : Fin 512), i = ix3 b l j := ⟨i 0, i 1, i 2, eq_ix3 i⟩
  exact (InprojRefIdeal.Row.hc_eq _ _ _ (arg m c main_arg3) _ _ _ _ b l j).trans (out_hc m c b l j).symm

theorem ref_gate (h0 : x0 = arg m c main_arg0) (h1 : x1 = arg m c main_arg1) (h2 : x2 = arg m c main_arg2) (h3 : x3 = arg m c main_arg3) :
    val_main_v289 (F := Ideal) x0 x1 x2 x3 = Value.G12 m c := by
  rw [h0, h1, h2, h3]
  funext i
  obtain ⟨b, l, j, rfl⟩ : ∃ (b : Fin 8) (l : Fin 2048) (j : Fin 2048), i = ix3 b l j := ⟨i 0, i 1, i 2, eq_ix3 i⟩
  exact (InprojRefIdeal.Row.gate_eq _ _ _ _ (arg m c main_arg4) (arg m c main_arg5) (arg m c main_arg6) (arg m c main_arg7) b l j).trans (out_gate m c b l j).symm

theorem ref_k (h0 : x0 = arg m c main_arg0) (h1 : x1 = arg m c main_arg1) (h2 : x2 = arg m c main_arg2) :
    val_main_v312 (F := Ideal) x0 x1 x2 = Value.G13 m c := by
  rw [h0, h1, h2]
  funext i
  obtain ⟨b, l, j, rfl⟩ : ∃ (b : Fin 8) (l : Fin 2048) (j : Fin 128), i = ix3 b l j := ⟨i 0, i 1, i 2, eq_ix3 i⟩
  exact (InprojRefIdeal.Row.ka_eq _ _ _ (arg m c main_arg3) (arg m c main_arg4) (arg m c main_arg5) (arg m c main_arg6) (arg m c main_arg7) b l j).trans (out_k m c b l j).symm

theorem ref_ki (h0 : x0 = arg m c main_arg0) (h1 : x1 = arg m c main_arg1) (h2 : x2 = arg m c main_arg2) :
    val_main_v313 (F := Ideal) x0 x1 x2 = Value.G14 m c := by
  rw [h0, h1, h2]
  funext i
  obtain ⟨b, l, j, rfl⟩ : ∃ (b : Fin 8) (l : Fin 2048) (j : Fin 64), i = ix3 b l j := ⟨i 0, i 1, i 2, eq_ix3 i⟩
  exact (InprojRefIdeal.Row.ki_eq _ _ _ (arg m c main_arg3) (arg m c main_arg4) (arg m c main_arg5) (arg m c main_arg6) (arg m c main_arg7) b l j).trans (out_ki m c b l j).symm

theorem ref_qt (h0 : x0 = arg m c main_arg0) (h1 : x1 = arg m c main_arg1) (h2 : x2 = arg m c main_arg2) :
    val_main_v314 (F := Ideal) x0 x1 x2 = Value.G15 m c := by
  rw [h0, h1, h2]
  funext i
  obtain ⟨b, n, l, rfl⟩ : ∃ (b : Fin 8) (n : Fin 512) (l : Fin 2048), i = ix3 b n l := ⟨i 0, i 1, i 2, eq_ix3 i⟩
  exact (InprojRefIdeal.Row.qt_eq _ _ _ (arg m c main_arg3) (arg m c main_arg4) (arg m c main_arg5) (arg m c main_arg6) (arg m c main_arg7) b n l).trans (out_qt m c b n l).symm

theorem ref_qit (h0 : x0 = arg m c main_arg0) (h1 : x1 = arg m c main_arg1) (h2 : x2 = arg m c main_arg2) :
    val_main_v315 (F := Ideal) x0 x1 x2 = Value.G16 m c := by
  rw [h0, h1, h2]
  funext i
  obtain ⟨b, n, l, rfl⟩ : ∃ (b : Fin 8) (n : Fin 512) (l : Fin 2048), i = ix3 b n l := ⟨i 0, i 1, i 2, eq_ix3 i⟩
  exact (InprojRefIdeal.Row.qit_eq _ _ _ (arg m c main_arg3) (arg m c main_arg4) (arg m c main_arg5) (arg m c main_arg6) (arg m c main_arg7) b n l).trans (out_qit m c b n l).symm

theorem ref_vt (h0 : x0 = arg m c main_arg0) (h1 : x1 = arg m c main_arg1) (h2 : x2 = arg m c main_arg2) :
    val_main_v316 (F := Ideal) x0 x1 x2 = Value.G17 m c := by
  rw [h0, h1, h2]
  funext i
  obtain ⟨b, q, n, r, rfl⟩ : ∃ (b : Fin 8) (q : Fin 8) (n : Fin 80) (r : Fin 256), i = ix4 b q n r := ⟨i 0, i 1, i 2, i 3, eq_ix4 i⟩
  exact (InprojRefIdeal.Row.vt_eq _ _ _ (arg m c main_arg3) (arg m c main_arg4) (arg m c main_arg5) (arg m c main_arg6) (arg m c main_arg7) b q n r).trans (out_vt m c b q n r).symm

theorem ref_wit (h0 : x0 = arg m c main_arg0) (h1 : x1 = arg m c main_arg1) (h2 : x2 = arg m c main_arg2) :
    val_main_v298 (F := Ideal) x0 x1 x2 = Value.G18 m c := by
  rw [h0, h1, h2]
  funext i
  obtain ⟨b, n, l, rfl⟩ : ∃ (b : Fin 8) (n : Fin 8) (l : Fin 2048), i = ix3 b n l := ⟨i 0, i 1, i 2, eq_ix3 i⟩
  exact (InprojRefIdeal.Row.wit_eq _ _ _ (arg m c main_arg3) (arg m c main_arg4) (arg m c main_arg5) (arg m c main_arg6) (arg m c main_arg7) b n l).trans (out_wit m c b n l).symm

end Ref

/-- The projection call computes its reference's eight arrays over the extended reals. -/
theorem algebraic : Cert.algebraic_InprojIdeal_InprojRefIdeal (hInprojIdeal := Cert.InprojIdeal.Gen.facts) (hInprojRefIdeal := Cert.InprojRefIdeal.Gen.facts) := by
  intro m g m' g' _ h
  refine ⟨Value.G11 m, Value.G12 m, Value.G13 m, Value.G14 m, Value.G15 m, Value.G16 m, Value.G17 m, Value.G18 m, Value.run m g,
    (θ_run InprojRefIdeal.defs _ _).mono (fun _ hr c => ?_) (InprojRefIdeal.Value.run m' g')⟩
  obtain ⟨h0, h1, h2, h3, h4, h5, h6, h7⟩ := h c
  obtain ⟨r0, r1, r2, r3, r4, r5, r6, r7, kept⟩ := hr c
  exact ⟨r0.trans ((InprojRefIdeal.Read.val_main_v311_eq _).trans (ref_hc m c h0 h1 h2 h4 h5 h6 h7)),
    r1.trans ((InprojRefIdeal.Read.val_main_v289_eq _).trans (ref_gate m c h0 h1 h2 h3)),
    r2.trans ((InprojRefIdeal.Read.val_main_v312_eq _).trans (ref_k m c h0 h1 h2)),
    r3.trans ((InprojRefIdeal.Read.val_main_v313_eq _).trans (ref_ki m c h0 h1 h2)),
    r4.trans ((InprojRefIdeal.Read.val_main_v314_eq _).trans (ref_qt m c h0 h1 h2)),
    r5.trans ((InprojRefIdeal.Read.val_main_v315_eq _).trans (ref_qit m c h0 h1 h2)),
    r6.trans ((InprojRefIdeal.Read.val_main_v316_eq _).trans (ref_vt m c h0 h1 h2)),
    r7.trans ((InprojRefIdeal.Read.val_main_v298_eq _).trans (ref_wit m c h0 h1 h2)), kept⟩

end Cert.InprojIdeal.Block

end
-- ==== Proof.lean ====
/- The certificate: the frames of the three calls, and what the layer's first and last calls compute. -/
module

public import proofs.«01_k».proof.Defs
public import proofs.«01_k».proof.Proof.Gen.Post.Frame
public import proofs.«01_k».proof.Proof.Gen.PostIdeal.Frame
public import proofs.«01_k».proof.Proof.Gen.PostIdeal.Value
public import proofs.«01_k».proof.Proof.Gen.Inproj.Frame
public import proofs.«01_k».proof.Proof.Gen.InprojIdeal.Frame
public import proofs.«01_k».proof.Proof.Gen.InprojIdeal.Value
public import proofs.«01_k».proof.Proof.DsaFrame
public import proofs.«01_k».proof.Proof.RefFrames
public import proofs.«01_k».proof.Proof.PostValue
public import proofs.«01_k».proof.Proof.InprojValue

@[expose] public section

noncomputable section

namespace Cert.Proof

open Idealize.ShloMosaic Idealize.SL.Sem

/-- The three calls' frames, with those of the references; the two readings over the extended reals are the calls' own
    texts; and the layer's first and last calls compute what their references compute. -/
theorem claim : Cert.Claim :=
  ⟨Cert.Kernel.Gen.facts, Cert.Post.Gen.facts, Cert.PostIdeal.Gen.facts, Cert.PostRefIdeal.Gen.facts,
    Cert.Inproj.Gen.facts, Cert.InprojIdeal.Gen.facts, Cert.InprojRefIdeal.Gen.facts,
    fun m ρ _ => Cert.Dsa.kernel_frame m ρ,
    fun m ρ _ => Cert.Post.Gen.frame m ρ,
    fun m ρ _ => Cert.PostIdeal.Gen.frame m ρ,
    Cert.RefFrames.post,
    fun m ρ _ => Cert.Inproj.Gen.frame m ρ,
    fun m ρ _ => Cert.InprojIdeal.Gen.frame m ρ,
    Cert.RefFrames.inproj,
    trivial,
    Cert.PostIdeal.Block.algebraic,
    trivial,
    Cert.InprojIdeal.Block.algebraic⟩

end Cert.Proof

end
